-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x16x128 : Shape := ⟨4, ![4, 1024, 16, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x16x128 : S_.BroadcastsInDim S4x1024x16x128 (![] : Fin 0 → Fin S4x1024x16x128.rank)
  reducesTo_S4x1024x16x128_S_d0_1_2_3 : S4x1024x16x128.ReducesTo [0, 1, 2, 3] S_

variable [Facts]

def fn {F : FTy → Type} [FloatOps F] (main_arg0 : FVec F S4x256x1024 .f32) (main_arg1 : FVec F S1024x1024 .f32) (main_arg2 : FVec F S4x1024x16x128 .f32) (main_arg3 : FVec F S4x1024x16x128 .f32) (main_arg4 : FVec F S1024x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x16x128 .f32 := Host.absf main_arg2
  let main_cst_2 : FVec F S_ .f32 := constant S_ .f32 0x7F800000#32
  let main_v10 : FVec F S4x1024x16x128 .f32 := broadcastInDim S4x1024x16x128 ![] bcast_S_S4x1024x16x128 main_cst_2
  let main_v11 : IVec S4x1024x16x128 1 := cmpf .olt main_v9 main_v10
  let main_c_3 : IVec S_ 1 := constantI S_ 1 1#1
  let main_v12 : IVec S_ 1 := (fun x v => Host.reduce IntOp.andi x v reducesTo_S4x1024x16x128_S_d0_1_2_3 h_S_) main_v11 main_c_3
  let main_v13 : IVec S_ 1 := andi main_v8 main_v12
  main_v13
-- ==== Pre_finite_ReferenceIdeal.lean ====
abbrev S4x256x1024 : Shape := ⟨3, ![4, 256, 1024]⟩
abbrev S1024x8192 : Shape := ⟨2, ![1024, 8192]⟩
abbrev S4x1024x16x128 : Shape := ⟨4, ![4, 1024, 16, 128]⟩
abbrev S8192x1024 : Shape := ⟨2, ![8192, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S4x1024x16x128 : S_.BroadcastsInDim S4x1024x16x128 (![] : Fin 0 → Fin S4x1024x16x128.rank)
  reducesTo_S4x1024x16x128_S_d0_1_2_3 : S4x1024x16x128.ReducesTo [0, 1, 2, 3] S_

variable [Facts]

def fn {F : FTy → Type} [FloatOps F] (main_arg0 : FVec F S4x256x1024 .f32) (main_arg1 : FVec F S1024x8192 .f32) (main_arg2 : FVec F S4x1024x16x128 .f32) (main_arg3 : FVec F S4x1024x16x128 .f32) (main_arg4 : FVec F S8192x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S4x1024x16x128 .f32 := Host.absf main_arg2
  let main_cst_2 : FVec F S_ .f32 := constant S_ .f32 0x7F800000#32
  let main_v10 : FVec F S4x1024x16x128 .f32 := broadcastInDim S4x1024x16x128 ![] bcast_S_S4x1024x16x128 main_cst_2
  let main_v11 : IVec S4x1024x16x128 1 := cmpf .olt main_v9 main_v10
  let main_c_3 : IVec S_ 1 := constantI S_ 1 1#1
  let main_v12 : IVec S_ 1 := (fun x v => Host.reduce IntOp.andi x v reducesTo_S4x1024x16x128_S_d0_1_2_3 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S4x1024x16x128 : Shape := ⟨4, ![4, 1024, 16, 128]⟩
abbrev S896x1024 : Shape := ⟨2, ![896, 1024]⟩
abbrev S4x2x1024x128 : Shape := ⟨4, ![4, 2, 1024, 128]⟩
abbrev S16 : Shape := ⟨1, ![16]⟩
abbrev S24 : Shape := ⟨1, ![24]⟩
abbrev S_ : Shape := ⟨0, ![]⟩
abbrev S1 : Shape := ⟨1, ![1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S128x1024 : Shape := ⟨2, ![128, 1024]⟩
abbrev S64x1024 : Shape := ⟨2, ![64, 1024]⟩
abbrev S32x1024 : Shape := ⟨2, ![32, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x16x128, .f32⟩
  | .hbm, ⟨3, _⟩ => ⟨S4x1024x16x128, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S896x1024, .f32⟩
  | .local _ .vmem, ⟨5, _⟩ => ⟨S4x2x1024x128, .f32⟩
  | .local _ .vmem, ⟨6, _⟩ => ⟨S4x2x1024x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_7 : BitVec 32 := 1#32
  let v14 : BitVec 32 := Scalar.muli v10 c1_i32_7
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_9 : BitVec 32 := 1#32
  let v16 : BitVec 32 := Scalar.muli v11 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_12 : BitVec 32 := 1#32
  let v18 : BitVec 32 := Scalar.muli v12 c1_i32_12
  let v19 : BitVec 32 := Scalar.addi c0_i32_13 v18
  v19.toNat
def k0_off1 (d0 : Dev nD) (c0_i32_16 : BitVec 32) : Fin 4 → Nat :=
  let c0_i32_17 : BitVec 32 := 0#32
  let c0_i32_23 : BitVec 32 := 0#32
  let c2_i32_15 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v20 : BitVec 32 := Scalar.muli c2_i32_15 v2
  let v21 : BitVec 32 := Scalar.addi v20 c0_i32_16
  let c0_i32_24 : BitVec 32 := 0#32
  ![0, 0, v21.toNat, 0]
def k0_off2 (d0 : Dev nD) (c0_i32_52 : BitVec 32) : Fin 4 → Nat :=
  let c1_i32_53 : BitVec 32 := 1#32
  let c0_i32_59 : BitVec 32 := 0#32
  let c2_i32_51 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v48 : BitVec 32 := Scalar.muli c2_i32_51 v2
  let v49 : BitVec 32 := Scalar.addi v48 c0_i32_52
  let c0_i32_60 : BitVec 32 := 0#32
  ![1, 0, v49.toNat, 0]
def k0_off3 (d0 : Dev nD) (c0_i32_85 : BitVec 32) : Fin 4 → Nat :=
  let c2_i32_86 : BitVec 32 := 2#32
  let c0_i32_92 : BitVec 32 := 0#32
  let c2_i32_84 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v76 : BitVec 32 := Scalar.muli c2_i32_84 v2
  let v77 : BitVec 32 := Scalar.addi v76 c0_i32_85
  let c0_i32_93 : BitVec 32 := 0#32
  ![2, 0, v77.toNat, 0]
def k0_off4 (d0 : Dev nD) (c0_i32_118 : BitVec 32) : Fin 4 → Nat :=
  let c3_i32_119 : BitVec 32 := 3#32
  let c0_i32_124 : BitVec 32 := 0#32
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.muli c2_i32_117 v2
  let v105 : BitVec 32 := Scalar.addi v104 c0_i32_118
  let c0_i32_125 : BitVec 32 := 0#32
  ![3, 0, v105.toNat, 0]
def k0_off5 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_331 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v354 : BitVec 32 := Scalar.subi c1_i32_331 v5
  let c128_i32_332 : BitVec 32 := 128#32
  let v355 : BitVec 32 := Scalar.muli v354 c128_i32_332
  let v356 : BitVec 32 := Scalar.addi v242 v355
  let c0_i32_339 : BitVec 32 := 0#32
  ![v356.toNat, 0]
def k0_dev4 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_335 : BitVec 32 := 1#32
  let v357 : BitVec 32 := Scalar.muli v10 c1_i32_335
  let v358 : BitVec 32 := Scalar.addi c0_i32_336 v357
  v358.toNat
def k0_off6 (d0 : Dev nD) (c256_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let v244 : BitVec 32 := Scalar.addi v243 c256_i32
  let c1_i32_383 : BitVec 32 := 1#32
  let v6 : BitVec 32 := Scalar.shrsi v2 c1_i32_2
  let c1_i32_3 : BitVec 32 := 1#32
  let v7 : BitVec 32 := Scalar.andi v6 c1_i32_3
  let v470 : BitVec 32 := Scalar.subi c1_i32_383 v7
  let c128_i32_384 : BitVec 32 := 128#32
  let v471 : BitVec 32 := Scalar.muli v470 c128_i32_384
  let v472 : BitVec 32 := Scalar.addi v244 v471
  let c0_i32_390 : BitVec 32 := 0#32
  ![v472.toNat, 0]
def k0_off6_at (r : Fin 2) : BitVec 32 × BitVec 32 :=
  if r.val < 1 then
    (256#32, 1#32)
  else
    (512#32, 2#32)
def k0_dev5 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_387 : BitVec 32 := 1#32
  let v473 : BitVec 32 := Scalar.muli v11 c1_i32_387
  let v474 : BitVec 32 := Scalar.addi c0_i32_388 v473
  v474.toNat
def k0_dev6 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_437 : BitVec 32 := 1#32
  let v589 : BitVec 32 := Scalar.muli v12 c1_i32_437
  let v590 : BitVec 32 := Scalar.addi c0_i32_438 v589
  v590.toNat
def k0_dev7 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_486 : BitVec 32 := 1#32
  let v705 : BitVec 32 := Scalar.muli v10 c1_i32_486
  let v706 : BitVec 32 := Scalar.addi c0_i32_487 v705
  v706.toNat
def k0_off7 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let v723 : Index := Scalar.indexCast v353
  let c0_503 : Index := 0#32
  ![v723.toNat, 0]
def k0_off8 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_507 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v732 : BitVec 32 := Scalar.subi c1_i32_507 v7
  let c64_i32_508 : BitVec 32 := 64#32
  let v733 : BitVec 32 := Scalar.muli v732 c64_i32_508
  let v734 : BitVec 32 := Scalar.addi v353 v733
  let c0_i32_515 : BitVec 32 := 0#32
  ![v734.toNat, 0]
def k0_dev8 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_511 : BitVec 32 := 1#32
  let v735 : BitVec 32 := Scalar.muli v11 c1_i32_511
  let v736 : BitVec 32 := Scalar.addi c0_i32_512 v735
  v736.toNat
def k0_off9 (d0 : Dev nD) (c256_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let v244 : BitVec 32 := Scalar.addi v243 c256_i32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let v753 : Index := Scalar.indexCast v469
  let c0_529 : Index := 0#32
  ![v753.toNat, 0]
def k0_off9_at (r : Fin 2) : BitVec 32 × BitVec 32 :=
  if r.val < 1 then
    (256#32, 1#32)
  else
    (512#32, 2#32)
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c1_i32_533 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v762 : BitVec 32 := Scalar.subi c1_i32_533 v9
  let c64_i32_534 : BitVec 32 := 64#32
  let v763 : BitVec 32 := Scalar.muli v762 c64_i32_534
  let v764 : BitVec 32 := Scalar.addi v469 v763
  let c0_i32_540 : BitVec 32 := 0#32
  ![v764.toNat, 0]
def k0_dev9 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_537 : BitVec 32 := 1#32
  let v765 : BitVec 32 := Scalar.muli v12 c1_i32_537
  let v766 : BitVec 32 := Scalar.addi c0_i32_538 v765
  v766.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_558 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v792 : BitVec 32 := Scalar.subi c1_i32_558 v5
  let c64_i32_559 : BitVec 32 := 64#32
  let v793 : BitVec 32 := Scalar.muli v792 c64_i32_559
  let v794 : BitVec 32 := Scalar.addi v585 v793
  let c0_i32_565 : BitVec 32 := 0#32
  ![v794.toNat, 0]
def k0_dev10 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_562 : BitVec 32 := 1#32
  let v795 : BitVec 32 := Scalar.muli v10 c1_i32_562
  let v796 : BitVec 32 := Scalar.addi c0_i32_563 v795
  v796.toNat
def k0_dev11 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_586 : BitVec 32 := 1#32
  let v825 : BitVec 32 := Scalar.muli v11 c1_i32_586
  let v826 : BitVec 32 := Scalar.addi c0_i32_587 v825
  v826.toNat
def k0_off12 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_2 : BitVec 32 := 1#32
  let v6 : BitVec 32 := Scalar.shrsi v2 c1_i32_2
  let c1_i32_3 : BitVec 32 := 1#32
  let v7 : BitVec 32 := Scalar.andi v6 c1_i32_3
  let c64_i32 : BitVec 32 := 64#32
  let v730 : BitVec 32 := Scalar.muli v7 c64_i32
  let v731 : BitVec 32 := Scalar.addi v353 v730
  let v843 : Index := Scalar.indexCast v731
  let c0_603 : Index := 0#32
  ![v843.toNat, 0]
def k0_off13 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_2 : BitVec 32 := 1#32
  let v6 : BitVec 32 := Scalar.shrsi v2 c1_i32_2
  let c1_i32_3 : BitVec 32 := 1#32
  let v7 : BitVec 32 := Scalar.andi v6 c1_i32_3
  let c64_i32 : BitVec 32 := 64#32
  let v730 : BitVec 32 := Scalar.muli v7 c64_i32
  let v731 : BitVec 32 := Scalar.addi v353 v730
  let c1_i32_606 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v852 : BitVec 32 := Scalar.subi c1_i32_606 v9
  let c32_i32_607 : BitVec 32 := 32#32
  let v853 : BitVec 32 := Scalar.muli v852 c32_i32_607
  let v854 : BitVec 32 := Scalar.addi v731 v853
  let c0_i32_613 : BitVec 32 := 0#32
  ![v854.toNat, 0]
def k0_dev12 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_610 : BitVec 32 := 1#32
  let v855 : BitVec 32 := Scalar.muli v12 c1_i32_610
  let v856 : BitVec 32 := Scalar.addi c0_i32_611 v855
  v856.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c2_i32 : BitVec 32 := 2#32
  let v8 : BitVec 32 := Scalar.shrsi v2 c2_i32
  let c1_i32_4 : BitVec 32 := 1#32
  let v9 : BitVec 32 := Scalar.andi v8 c1_i32_4
  let c64_i32_532 : BitVec 32 := 64#32
  let v760 : BitVec 32 := Scalar.muli v9 c64_i32_532
  let v761 : BitVec 32 := Scalar.addi v469 v760
  let v873 : Index := Scalar.indexCast v761
  let c0_627 : Index := 0#32
  ![v873.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c2_i32 : BitVec 32 := 2#32
  let v8 : BitVec 32 := Scalar.shrsi v2 c2_i32
  let c1_i32_4 : BitVec 32 := 1#32
  let v9 : BitVec 32 := Scalar.andi v8 c1_i32_4
  let c64_i32_532 : BitVec 32 := 64#32
  let v760 : BitVec 32 := Scalar.muli v9 c64_i32_532
  let v761 : BitVec 32 := Scalar.addi v469 v760
  let c1_i32_631 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v882 : BitVec 32 := Scalar.subi c1_i32_631 v5
  let c32_i32_632 : BitVec 32 := 32#32
  let v883 : BitVec 32 := Scalar.muli v882 c32_i32_632
  let v884 : BitVec 32 := Scalar.addi v761 v883
  let c0_i32_638 : BitVec 32 := 0#32
  ![v884.toNat, 0]
def k0_dev13 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_635 : BitVec 32 := 1#32
  let v885 : BitVec 32 := Scalar.muli v10 c1_i32_635
  let v886 : BitVec 32 := Scalar.addi c0_i32_636 v885
  v886.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_557 : BitVec 32 := 64#32
  let v790 : BitVec 32 := Scalar.muli v5 c64_i32_557
  let v791 : BitVec 32 := Scalar.addi v585 v790
  let v903 : Index := Scalar.indexCast v791
  let c0_652 : Index := 0#32
  ![v903.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_557 : BitVec 32 := 64#32
  let v790 : BitVec 32 := Scalar.muli v5 c64_i32_557
  let v791 : BitVec 32 := Scalar.addi v585 v790
  let c1_i32_656 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v912 : BitVec 32 := Scalar.subi c1_i32_656 v7
  let c32_i32_657 : BitVec 32 := 32#32
  let v913 : BitVec 32 := Scalar.muli v912 c32_i32_657
  let v914 : BitVec 32 := Scalar.addi v791 v913
  let c0_i32_663 : BitVec 32 := 0#32
  ![v914.toNat, 0]
def k0_dev14 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_660 : BitVec 32 := 1#32
  let v915 : BitVec 32 := Scalar.muli v11 c1_i32_660
  let v916 : BitVec 32 := Scalar.addi c0_i32_661 v915
  v916.toNat
def k0_dev15 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_684 : BitVec 32 := 1#32
  let v945 : BitVec 32 := Scalar.muli v12 c1_i32_684
  let v946 : BitVec 32 := Scalar.addi c0_i32_685 v945
  v946.toNat
def k0_off18 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_2 : BitVec 32 := 1#32
  let v6 : BitVec 32 := Scalar.shrsi v2 c1_i32_2
  let c1_i32_3 : BitVec 32 := 1#32
  let v7 : BitVec 32 := Scalar.andi v6 c1_i32_3
  let c64_i32 : BitVec 32 := 64#32
  let v730 : BitVec 32 := Scalar.muli v7 c64_i32
  let v731 : BitVec 32 := Scalar.addi v353 v730
  let c2_i32 : BitVec 32 := 2#32
  let v8 : BitVec 32 := Scalar.shrsi v2 c2_i32
  let c1_i32_4 : BitVec 32 := 1#32
  let v9 : BitVec 32 := Scalar.andi v8 c1_i32_4
  let c32_i32 : BitVec 32 := 32#32
  let v850 : BitVec 32 := Scalar.muli v9 c32_i32
  let v851 : BitVec 32 := Scalar.addi v731 v850
  let v963 : Index := Scalar.indexCast v851
  let c0_701 : Index := 0#32
  ![v963.toNat, 0]
def k0_off19 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_2 : BitVec 32 := 1#32
  let v6 : BitVec 32 := Scalar.shrsi v2 c1_i32_2
  let c1_i32_3 : BitVec 32 := 1#32
  let v7 : BitVec 32 := Scalar.andi v6 c1_i32_3
  let c64_i32 : BitVec 32 := 64#32
  let v730 : BitVec 32 := Scalar.muli v7 c64_i32
  let v731 : BitVec 32 := Scalar.addi v353 v730
  let c2_i32 : BitVec 32 := 2#32
  let v8 : BitVec 32 := Scalar.shrsi v2 c2_i32
  let c1_i32_4 : BitVec 32 := 1#32
  let v9 : BitVec 32 := Scalar.andi v8 c1_i32_4
  let c32_i32 : BitVec 32 := 32#32
  let v850 : BitVec 32 := Scalar.muli v9 c32_i32
  let v851 : BitVec 32 := Scalar.addi v731 v850
  let c0_i32_708 : BitVec 32 := 0#32
  ![v851.toNat, 0]
def k0_dev16 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_706 : BitVec 32 := 1#32
  let v970 : BitVec 32 := Scalar.muli v12 c1_i32_706
  let v971 : BitVec 32 := Scalar.addi c0_i32_707 v970
  v971.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c2_i32 : BitVec 32 := 2#32
  let v8 : BitVec 32 := Scalar.shrsi v2 c2_i32
  let c1_i32_4 : BitVec 32 := 1#32
  let v9 : BitVec 32 := Scalar.andi v8 c1_i32_4
  let c64_i32_532 : BitVec 32 := 64#32
  let v760 : BitVec 32 := Scalar.muli v9 c64_i32_532
  let v761 : BitVec 32 := Scalar.addi v469 v760
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_630 : BitVec 32 := 32#32
  let v880 : BitVec 32 := Scalar.muli v5 c32_i32_630
  let v881 : BitVec 32 := Scalar.addi v761 v880
  let v988 : Index := Scalar.indexCast v881
  let c0_723 : Index := 0#32
  ![v988.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c2_i32 : BitVec 32 := 2#32
  let v8 : BitVec 32 := Scalar.shrsi v2 c2_i32
  let c1_i32_4 : BitVec 32 := 1#32
  let v9 : BitVec 32 := Scalar.andi v8 c1_i32_4
  let c64_i32_532 : BitVec 32 := 64#32
  let v760 : BitVec 32 := Scalar.muli v9 c64_i32_532
  let v761 : BitVec 32 := Scalar.addi v469 v760
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_630 : BitVec 32 := 32#32
  let v880 : BitVec 32 := Scalar.muli v5 c32_i32_630
  let v881 : BitVec 32 := Scalar.addi v761 v880
  let c0_i32_730 : BitVec 32 := 0#32
  ![v881.toNat, 0]
def k0_dev17 (d0 : Dev nD) : Nat :=
  let c0_i32_729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_728 : BitVec 32 := 1#32
  let v995 : BitVec 32 := Scalar.muli v10 c1_i32_728
  let v996 : BitVec 32 := Scalar.addi c0_i32_729 v995
  v996.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_557 : BitVec 32 := 64#32
  let v790 : BitVec 32 := Scalar.muli v5 c64_i32_557
  let v791 : BitVec 32 := Scalar.addi v585 v790
  let c1_i32_2 : BitVec 32 := 1#32
  let v6 : BitVec 32 := Scalar.shrsi v2 c1_i32_2
  let c1_i32_3 : BitVec 32 := 1#32
  let v7 : BitVec 32 := Scalar.andi v6 c1_i32_3
  let c32_i32_655 : BitVec 32 := 32#32
  let v910 : BitVec 32 := Scalar.muli v7 c32_i32_655
  let v911 : BitVec 32 := Scalar.addi v791 v910
  let v1013 : Index := Scalar.indexCast v911
  let c0_745 : Index := 0#32
  ![v1013.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_557 : BitVec 32 := 64#32
  let v790 : BitVec 32 := Scalar.muli v5 c64_i32_557
  let v791 : BitVec 32 := Scalar.addi v585 v790
  let c1_i32_2 : BitVec 32 := 1#32
  let v6 : BitVec 32 := Scalar.shrsi v2 c1_i32_2
  let c1_i32_3 : BitVec 32 := 1#32
  let v7 : BitVec 32 := Scalar.andi v6 c1_i32_3
  let c32_i32_655 : BitVec 32 := 32#32
  let v910 : BitVec 32 := Scalar.muli v7 c32_i32_655
  let v911 : BitVec 32 := Scalar.addi v791 v910
  let c0_i32_752 : BitVec 32 := 0#32
  ![v911.toNat, 0]
def k0_dev18 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_750 : BitVec 32 := 1#32
  let v1020 : BitVec 32 := Scalar.muli v11 c1_i32_750
  let v1021 : BitVec 32 := Scalar.addi c0_i32_751 v1020
  v1021.toNat
def k0_dev19 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_771 : BitVec 32 := 1#32
  let v1045 : BitVec 32 := Scalar.muli v12 c1_i32_771
  let v1046 : BitVec 32 := Scalar.addi c0_i32_772 v1045
  v1046.toNat
def k0_off24 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_2 : BitVec 32 := 1#32
  let v6 : BitVec 32 := Scalar.shrsi v2 c1_i32_2
  let c1_i32_3 : BitVec 32 := 1#32
  let v7 : BitVec 32 := Scalar.andi v6 c1_i32_3
  let c64_i32 : BitVec 32 := 64#32
  let v730 : BitVec 32 := Scalar.muli v7 c64_i32
  let v731 : BitVec 32 := Scalar.addi v353 v730
  let c2_i32 : BitVec 32 := 2#32
  let v8 : BitVec 32 := Scalar.shrsi v2 c2_i32
  let c1_i32_4 : BitVec 32 := 1#32
  let v9 : BitVec 32 := Scalar.andi v8 c1_i32_4
  let c32_i32 : BitVec 32 := 32#32
  let v850 : BitVec 32 := Scalar.muli v9 c32_i32
  let v851 : BitVec 32 := Scalar.addi v731 v850
  let c32_i32_786 : BitVec 32 := 32#32
  let v1063 : BitVec 32 := Scalar.muli v9 c32_i32_786
  let v1064 : BitVec 32 := Scalar.subi v851 v1063
  let c0_i32_791 : BitVec 32 := 0#32
  ![v1064.toNat, 0]
def k0_dev20 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_789 : BitVec 32 := 1#32
  let v1065 : BitVec 32 := Scalar.muli v11 c1_i32_789
  let v1066 : BitVec 32 := Scalar.addi c0_i32_790 v1065
  v1066.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c2_i32 : BitVec 32 := 2#32
  let v8 : BitVec 32 := Scalar.shrsi v2 c2_i32
  let c1_i32_4 : BitVec 32 := 1#32
  let v9 : BitVec 32 := Scalar.andi v8 c1_i32_4
  let c64_i32_532 : BitVec 32 := 64#32
  let v760 : BitVec 32 := Scalar.muli v9 c64_i32_532
  let v761 : BitVec 32 := Scalar.addi v469 v760
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_630 : BitVec 32 := 32#32
  let v880 : BitVec 32 := Scalar.muli v5 c32_i32_630
  let v881 : BitVec 32 := Scalar.addi v761 v880
  let c32_i32_804 : BitVec 32 := 32#32
  let v1083 : BitVec 32 := Scalar.muli v5 c32_i32_804
  let v1084 : BitVec 32 := Scalar.subi v881 v1083
  let c0_i32_809 : BitVec 32 := 0#32
  ![v1084.toNat, 0]
def k0_dev21 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_807 : BitVec 32 := 1#32
  let v1085 : BitVec 32 := Scalar.muli v12 c1_i32_807
  let v1086 : BitVec 32 := Scalar.addi c0_i32_808 v1085
  v1086.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_557 : BitVec 32 := 64#32
  let v790 : BitVec 32 := Scalar.muli v5 c64_i32_557
  let v791 : BitVec 32 := Scalar.addi v585 v790
  let c1_i32_2 : BitVec 32 := 1#32
  let v6 : BitVec 32 := Scalar.shrsi v2 c1_i32_2
  let c1_i32_3 : BitVec 32 := 1#32
  let v7 : BitVec 32 := Scalar.andi v6 c1_i32_3
  let c32_i32_655 : BitVec 32 := 32#32
  let v910 : BitVec 32 := Scalar.muli v7 c32_i32_655
  let v911 : BitVec 32 := Scalar.addi v791 v910
  let c32_i32_822 : BitVec 32 := 32#32
  let v1103 : BitVec 32 := Scalar.muli v7 c32_i32_822
  let v1104 : BitVec 32 := Scalar.subi v911 v1103
  let c0_i32_826 : BitVec 32 := 0#32
  ![v1104.toNat, 0]
def k0_dev22 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_824 : BitVec 32 := 1#32
  let v1105 : BitVec 32 := Scalar.muli v10 c1_i32_824
  let v1106 : BitVec 32 := Scalar.addi c0_i32_825 v1105
  v1106.toNat
def k0_dev23 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_841 : BitVec 32 := 1#32
  let v1125 : BitVec 32 := Scalar.muli v11 c1_i32_841
  let v1126 : BitVec 32 := Scalar.addi c0_i32_842 v1125
  v1126.toNat
def k0_off27 (d0 : Dev nD) (c0_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v241 : BitVec 32 := Scalar.muli v2 c0_i32_284
  let v242 : BitVec 32 := Scalar.addi v241 c0_i32_285
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c128_i32 : BitVec 32 := 128#32
  let v352 : BitVec 32 := Scalar.muli v5 c128_i32
  let v353 : BitVec 32 := Scalar.addi v242 v352
  let c1_i32_2 : BitVec 32 := 1#32
  let v6 : BitVec 32 := Scalar.shrsi v2 c1_i32_2
  let c1_i32_3 : BitVec 32 := 1#32
  let v7 : BitVec 32 := Scalar.andi v6 c1_i32_3
  let c64_i32 : BitVec 32 := 64#32
  let v730 : BitVec 32 := Scalar.muli v7 c64_i32
  let v731 : BitVec 32 := Scalar.addi v353 v730
  let c2_i32 : BitVec 32 := 2#32
  let v8 : BitVec 32 := Scalar.shrsi v2 c2_i32
  let c1_i32_4 : BitVec 32 := 1#32
  let v9 : BitVec 32 := Scalar.andi v8 c1_i32_4
  let c32_i32 : BitVec 32 := 32#32
  let v850 : BitVec 32 := Scalar.muli v9 c32_i32
  let v851 : BitVec 32 := Scalar.addi v731 v850
  let c32_i32_786 : BitVec 32 := 32#32
  let v1063 : BitVec 32 := Scalar.muli v9 c32_i32_786
  let v1064 : BitVec 32 := Scalar.subi v851 v1063
  let c64_i32_856 : BitVec 32 := 64#32
  let v1143 : BitVec 32 := Scalar.muli v7 c64_i32_856
  let v1144 : BitVec 32 := Scalar.subi v1064 v1143
  let c0_i32_861 : BitVec 32 := 0#32
  ![v1144.toNat, 0]
def k0_dev24 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_859 : BitVec 32 := 1#32
  let v1145 : BitVec 32 := Scalar.muli v10 c1_i32_859
  let v1146 : BitVec 32 := Scalar.addi c0_i32_860 v1145
  v1146.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let v243 : BitVec 32 := Scalar.muli v2 c0_i32_286
  let c256_i32 : BitVec 32 := 256#32
  let v244 : BitVec 32 := Scalar.addi v243 c256_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_382 : BitVec 32 := 128#32
  let v468 : BitVec 32 := Scalar.muli v7 c128_i32_382
  let v469 : BitVec 32 := Scalar.addi v244 v468
  let c2_i32 : BitVec 32 := 2#32
  let v8 : BitVec 32 := Scalar.shrsi v2 c2_i32
  let c1_i32_4 : BitVec 32 := 1#32
  let v9 : BitVec 32 := Scalar.andi v8 c1_i32_4
  let c64_i32_532 : BitVec 32 := 64#32
  let v760 : BitVec 32 := Scalar.muli v9 c64_i32_532
  let v761 : BitVec 32 := Scalar.addi v469 v760
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_630 : BitVec 32 := 32#32
  let v880 : BitVec 32 := Scalar.muli v5 c32_i32_630
  let v881 : BitVec 32 := Scalar.addi v761 v880
  let c32_i32_804 : BitVec 32 := 32#32
  let v1083 : BitVec 32 := Scalar.muli v5 c32_i32_804
  let v1084 : BitVec 32 := Scalar.subi v881 v1083
  let c64_i32_874 : BitVec 32 := 64#32
  let v1163 : BitVec 32 := Scalar.muli v9 c64_i32_874
  let v1164 : BitVec 32 := Scalar.subi v1084 v1163
  let c0_i32_879 : BitVec 32 := 0#32
  ![v1164.toNat, 0]
def k0_dev25 (d0 : Dev nD) : Nat :=
  let c0_i32_878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_877 : BitVec 32 := 1#32
  let v1165 : BitVec 32 := Scalar.muli v11 c1_i32_877
  let v1166 : BitVec 32 := Scalar.addi c0_i32_878 v1165
  v1166.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_287 : BitVec 32 := 0#32
  let v245 : BitVec 32 := Scalar.muli v2 c0_i32_287
  let c512_i32 : BitVec 32 := 512#32
  let v246 : BitVec 32 := Scalar.addi v245 c512_i32
  let c2_i32 : BitVec 32 := 2#32
  let v8 : BitVec 32 := Scalar.shrsi v2 c2_i32
  let c1_i32_4 : BitVec 32 := 1#32
  let v9 : BitVec 32 := Scalar.andi v8 c1_i32_4
  let c128_i32_432 : BitVec 32 := 128#32
  let v584 : BitVec 32 := Scalar.muli v9 c128_i32_432
  let v585 : BitVec 32 := Scalar.addi v246 v584
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_557 : BitVec 32 := 64#32
  let v790 : BitVec 32 := Scalar.muli v5 c64_i32_557
  let v791 : BitVec 32 := Scalar.addi v585 v790
  let c1_i32_2 : BitVec 32 := 1#32
  let v6 : BitVec 32 := Scalar.shrsi v2 c1_i32_2
  let c1_i32_3 : BitVec 32 := 1#32
  let v7 : BitVec 32 := Scalar.andi v6 c1_i32_3
  let c32_i32_655 : BitVec 32 := 32#32
  let v910 : BitVec 32 := Scalar.muli v7 c32_i32_655
  let v911 : BitVec 32 := Scalar.addi v791 v910
  let c32_i32_822 : BitVec 32 := 32#32
  let v1103 : BitVec 32 := Scalar.muli v7 c32_i32_822
  let v1104 : BitVec 32 := Scalar.subi v911 v1103
  let c64_i32_892 : BitVec 32 := 64#32
  let v1183 : BitVec 32 := Scalar.muli v5 c64_i32_892
  let v1184 : BitVec 32 := Scalar.subi v1104 v1183
  let c0_i32_896 : BitVec 32 := 0#32
  ![v1184.toNat, 0]
def k0_dev26 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_894 : BitVec 32 := 1#32
  let v1185 : BitVec 32 := Scalar.muli v12 c1_i32_894
  let v1186 : BitVec 32 := Scalar.addi c0_i32_895 v1185
  v1186.toNat
def k0_dev27 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_911 : BitVec 32 := 1#32
  let v1205 : BitVec 32 := Scalar.muli v10 c1_i32_911
  let v1206 : BitVec 32 := Scalar.addi c0_i32_912 v1205
  v1206.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S4x1024x16x128 : Shape := ⟨4, ![4, 1024, 16, 128]⟩
abbrev S8192x1024 : Shape := ⟨2, ![8192, 1024]⟩
abbrev S4x256x8192 : Shape := ⟨3, ![4, 256, 8192]⟩
abbrev S4x256x64x128 : Shape := ⟨4, ![4, 256, 64, 128]⟩
abbrev S4x1024x16x4x128 : Shape := ⟨5, ![4, 1024, 16, 4, 128]⟩
abbrev S4x1024x64x128 : Shape := ⟨4, ![4, 1024, 64, 128]⟩
abbrev S_ : Shape := ⟨0, ![]⟩
abbrev S4x64x256x1 : Shape := ⟨4, ![4, 64, 256, 1]⟩
abbrev S4x64x256x1024 : Shape := ⟨4, ![4, 64, 256, 1024]⟩
abbrev S4x64x256 : Shape := ⟨3, ![4, 64, 256]⟩
abbrev S4x256x64x1 : Shape := ⟨4, ![4, 256, 64, 1]⟩
abbrev S4x64x128x256 : Shape := ⟨4, ![4, 64, 128, 256]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S4x1024x16x128, .f32⟩
  | .hbm, ⟨3, _⟩ => ⟨S4x1024x16x128, .f32⟩
  | .hbm, ⟨4, _⟩ => ⟨S8192x1024, .f32⟩
  | .hbm, ⟨5, _⟩ => ⟨S4x256x8192, .f32⟩
  | .hbm, ⟨6, _⟩ => ⟨S4x256x64x128, .f32⟩
  | .hbm, ⟨7, _⟩ => ⟨S4x1024x16x4x128, .f32⟩
  | .hbm, ⟨8, _⟩ => ⟨S4x1024x64x128, .f32⟩
  | .hbm, ⟨9, _⟩ => ⟨S4x1024x16x4x128, .f32⟩
  | .hbm, ⟨10, _⟩ => ⟨S4x1024x64x128, .f32⟩
  | .hbm, ⟨11, _⟩ => ⟨S_, .f32⟩
  | .hbm, ⟨12, _⟩ => ⟨S4x256x64x128, .f32⟩
  | .hbm, ⟨13, _⟩ => ⟨S_, .f32⟩
  | .hbm, ⟨14, _⟩ => ⟨S4x64x256x1, .f32⟩
  | .hbm, ⟨15, _⟩ => ⟨S_, .f32⟩
  | .hbm, ⟨16, _⟩ => ⟨S4x64x256x1, .f32⟩
  | .hbm, ⟨17, _⟩ => ⟨S4x64x256x1024, .f32⟩
  | .hbm, ⟨18, _⟩ => ⟨S_, .f32⟩
  | .hbm, ⟨19, _⟩ => ⟨S4x64x256x1024, .f32⟩
  | .hbm, ⟨20, _⟩ => ⟨S4x64x256x1024, .f32⟩
  | .hbm, ⟨21, _⟩ => ⟨S_, .f32⟩
  | .hbm, ⟨22, _⟩ => ⟨S4x64x256, .f32⟩
  | .hbm, ⟨23, _⟩ => ⟨S4x64x256x1, .f32⟩
  | .hbm, ⟨24, _⟩ => ⟨S4x64x256x1, .f32⟩
  | .hbm, ⟨25, _⟩ => ⟨S4x64x256x1, .f32⟩
  | .hbm, ⟨26, _⟩ => ⟨S4x64x256x1, .f32⟩
  | .hbm, ⟨27, _⟩ => ⟨S4x64x256x1024, .f32⟩
  | .hbm, ⟨28, _⟩ => ⟨S4x64x256x1024, .f32⟩
  | .hbm, ⟨29, _⟩ => ⟨S4x64x256x1024, .f32⟩
  | .hbm, ⟨30, _⟩ => ⟨S4x64x256x1, .f32⟩
  | .hbm, ⟨31, _⟩ => ⟨S_, .f32⟩
  | .hbm, ⟨32, _⟩ => ⟨S4x64x256, .f32⟩
  | .hbm, ⟨33, _⟩ => ⟨S4x64x256x1, .f32⟩
  | .hbm, ⟨34, _⟩ => ⟨S4x64x256x1, .f32⟩
  | .hbm, ⟨35, _⟩ => ⟨S4x256x64x1, .f32⟩
  | .hbm, ⟨36, _⟩ => ⟨S4x256x64x128, .f32⟩
  | .hbm, ⟨37, _⟩ => ⟨S4x256x64x128, .f32⟩
  | .hbm, ⟨38, _⟩ => ⟨S4x64x128x256, .f32⟩
  | .hbm, ⟨39, _⟩ => ⟨S4x256x64x128, .f32⟩
  | .hbm, ⟨40, _⟩ => ⟨S4x256x64x128, .f32⟩
  | .hbm, ⟨41, _⟩ => ⟨S4x256x64x1, .f32⟩
  | .hbm, ⟨42, _⟩ => ⟨S4x256x64x128, .f32⟩
  | .hbm, ⟨43, _⟩ => ⟨S4x256x64x128, .f32⟩
  | .hbm, ⟨44, _⟩ => ⟨S4x256x8192, .f32⟩
  | .hbm, ⟨45, _⟩ => ⟨S4x256x1024, .f32⟩
  | .hbm, ⟨46, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Geo.lean ====
/-
The geometry of the fused attention kernel's all-reduce: the eight devices' three partners, the
rows of the result each device keeps and sends at every step of the four parts, the receive slots,
and the contents of the result's rows along the way.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Fused

open Cert.KernelIdeal Cert.KernelIdeal.Gen
open Idealize.ShloMosaic
open Idealize.ShloMosaic.TcCoe

variable {F : FTy → Type} [FloatOps F]

/-! ## Partners, bits, rows -/

/-- The dimension part `p` uses at its step `s`: `x y z`, `y z x`, `z x y`, `x y z`. -/
def ord (p : Fin 4) (s : Fin 3) : Fin 3 := ⟨(p.val + s.val) % 3, Nat.mod_lt _ (by decide)⟩
/-- The step at which part `p` uses dimension `d`. -/
def stepOf (p : Fin 4) (d : Fin 3) : Fin 3 := ⟨(d.val + 6 - p.val) % 3, Nat.mod_lt _ (by decide)⟩
theorem ord_stepOf : ∀ p d, ord p (stepOf p d) = d := by decide
theorem stepOf_ord : ∀ p s, stepOf p (ord p s) = s := by decide

/-- A device's partner along a dimension. -/
def flip (d : Fin 3) (c : Dev nD) : Dev nD :=
  ⟨(c.val ^^^ (if d.val = 0 then 1 else if d.val = 1 then 3 else 4)) % 8, Nat.mod_lt _ (by decide)⟩
theorem flip_flip : ∀ d c, flip d (flip d c) = c := by decide
theorem flip_ne : ∀ d c, flip d c ≠ c := by decide
theorem flip_inj_dim : ∀ d d' c, flip d c = flip d' c → d = d' := by decide
def flipE (d : Fin 3) : Dev nD ≃ Dev nD := ⟨flip d, flip d, flip_flip d, flip_flip d⟩

/-- A device's bit along a dimension. -/
def bit (d : Fin 3) (c : Dev nD) : ℕ :=
  if d.val = 0 then (c.val + c.val / 2) % 2 else if d.val = 1 then c.val / 2 % 2 else c.val / 4 % 2

/-- The rows moved at step `s`. -/
def half (s : Fin 3) : ℕ := 128 / 2 ^ s.val

/-- The first row of what device `c` still reduces of part `p` after `s` steps. -/
def base (p : Fin 4) (c : Dev nD) : ℕ → ℕ
  | 0 => 256 * p.val
  | s + 1 => base p c s + (if h : s < 3 then bit (ord p ⟨s, h⟩) c * half ⟨s, h⟩ else 0)

def keep (p : Fin 4) (s : Fin 3) (c : Dev nD) : ℕ := base p c (s.val + 1)
def send (p : Fin 4) (s : Fin 3) (c : Dev nD) : ℕ := base p c s.val + (1 - bit (ord p s) c) * half s
/-- The first row of part `p`'s receive slot at step `s`. -/
def slot (p : Fin 4) (s : Fin 3) : ℕ := 224 * p.val + (256 - 256 / 2 ^ s.val)

/-- The partner at step `s` of part `p`. -/
def mate (p : Fin 4) (s : Fin 3) (c : Dev nD) : Dev nD := flip (ord p s) c
theorem mate_mate (p : Fin 4) (s : Fin 3) (c : Dev nD) : mate p s (mate p s c) = c := flip_flip _ _
def mateE (p : Fin 4) (s : Fin 3) : Dev nD ≃ Dev nD := ⟨mate p s, mate p s, mate_mate p s, mate_mate p s⟩

theorem keep_mate : ∀ p s c, keep p s (mate p s c) = send p s c := by decide +kernel
theorem send_mate : ∀ p s c, send p s (mate p s c) = keep p s c := by decide +kernel
theorem keep_le : ∀ p s c, keep p s c + half s ≤ 1024 := by decide +kernel
theorem send_le : ∀ p s c, send p s c + half s ≤ 1024 := by decide +kernel
theorem slot_le : ∀ p s, slot p s + half s ≤ 896 := by decide +kernel
theorem base_lo : ∀ p c (s : Fin 4), 256 * p.val ≤ base p c s.val := by decide +kernel
theorem base_hi : ∀ p c (s : Fin 4), base p c s.val + 256 / 2 ^ s.val ≤ 256 * p.val + 256 := by decide +kernel
/-- What a device holds splits in what it keeps and what it sends. -/
theorem halves : ∀ (p : Fin 4) (s : Fin 3) (c : Dev nD),
    (keep p s c = base p c s.val ∧ send p s c = base p c s.val + half s) ∨ (send p s c = base p c s.val ∧ keep p s c = base p c s.val + half s) := by
  decide +kernel
theorem half_two : ∀ s : Fin 3, 256 / 2 ^ s.val = 2 * half s := by decide
theorem half_pos : ∀ s : Fin 3, 0 < half s := by decide

/-! ## The two buffers and their rows -/

abbrev Sn (n : ℕ) : Shape := ⟨2, ![n, 1024]⟩

abbrev oM : Memref sig .tc .vmem S1024x1024 .f32 := Memref.whole cc0_stg3_0
abbrev cM : Memref sig .tc .vmem S896x1024 .f32 := Memref.whole cc0_scratch0
abbrev CO (F : FTy → Type) [FloatOps F] := (cc0_stg3_0 : Ref sig .tc).ty.Contents (Elt F)
abbrev CC (F : FTy → Type) [FloatOps F] := (cc0_scratch0 : Ref sig .tc).ty.Contents (Elt F)

abbrev oR (off : Fin 2 → ℕ) (n : ℕ) (h : ∀ a, off a + (Sn n).size a ≤ S1024x1024.size a) : Memref sig .tc .vmem (Sn n) .f32 :=
  oM.slice (Rect.unit (s := S1024x1024) off (Sn n).size h) (fun _ => rfl)
abbrev cR (off : Fin 2 → ℕ) (n : ℕ) (h : ∀ a, off a + (Sn n).size a ≤ S896x1024.size a) : Memref sig .tc .vmem (Sn n) .f32 :=
  cM.slice (Rect.unit (s := S896x1024) off (Sn n).size h) (fun _ => rfl)

theorem inbO {a n : ℕ} (h : a + n ≤ 1024) : ∀ i, (![a, 0] : Fin 2 → ℕ) i + (Sn n).size i ≤ S1024x1024.size i :=
  Fin.forall_fin_two.mpr ⟨h, Nat.le_of_eq (Nat.zero_add 1024)⟩
theorem inbC {a n : ℕ} (h : a + n ≤ 896) : ∀ i, (![a, 0] : Fin 2 → ℕ) i + (Sn n).size i ≤ S896x1024.size i :=
  Fin.forall_fin_two.mpr ⟨h, Nat.le_of_eq (Nat.zero_add 1024)⟩
/-- Rows `[keep, keep + half)` of the result, and the receive slot, at step `s` of part `p`. -/
abbrev keepR (p : Fin 4) (s : Fin 3) (c : Dev nD) := oR ![keep p s c, 0] (half s) (inbO (keep_le p s c))
abbrev sendR (p : Fin 4) (s : Fin 3) (c : Dev nD) := oR ![send p s c, 0] (half s) (inbO (send_le p s c))
abbrev slotR (p : Fin 4) (s : Fin 3) := cR ![slot p s, 0] (half s) (inbC (slot_le p s))

/-- The credit of a transfer of `n` rows. -/
def crd (n : ℕ) : ℕ := (cc0_scratch0 : Ref sig .tc).dmaCredit (Sn n) .f32
theorem crd_oR (off n h) : (oR off n h).view.dmaCredit = crd n := rfl
theorem crd_cR (off n h) : (cR off n h).view.dmaCredit = crd n := rfl
theorem crd_pos (s : Fin 3) : 0 < crd (half s) := sig.dmaCredit_pos _ _ _ _ _ (by revert s; decide)

def rowsO (a n : ℕ) : Finset S1024x1024.Idx := Finset.univ.filter fun i => a ≤ (i 0).val ∧ (i 0).val < a + n
def rowsC (a n : ℕ) : Finset S896x1024.Idx := Finset.univ.filter fun i => a ≤ (i 0).val ∧ (i 0).val < a + n

theorem mem_rowsO {a n : ℕ} {i : S1024x1024.Idx} : i ∈ rowsO a n ↔ a ≤ (i 0).val ∧ (i 0).val < a + n := by simp [rowsO]
theorem mem_rowsC {a n : ℕ} {i : S896x1024.Idx} : i ∈ rowsC a n ↔ a ≤ (i 0).val ∧ (i 0).val < a + n := by simp [rowsC]

theorem rect_rowsO (a n : ℕ) (h) : (Rect.unit (s := S1024x1024) ![a, 0] (Sn n).size h).set = rowsO a n := by
  ext i
  rw [Rect.mem_set_unit, mem_rowsO, Fin.forall_fin_two]
  have : (i 1).val < 1024 := (i 1).isLt
  constructor
  · exact fun h => h.1
  · exact fun h => ⟨h, Nat.zero_le _, by show (i 1).val < 0 + 1024; omega⟩
theorem rect_rowsC (a n : ℕ) (h) : (Rect.unit (s := S896x1024) ![a, 0] (Sn n).size h).set = rowsC a n := by
  ext i
  rw [Rect.mem_set_unit, mem_rowsC, Fin.forall_fin_two]
  have : (i 1).val < 1024 := (i 1).isLt
  constructor
  · exact fun h => h.1
  · exact fun h => ⟨h, Nat.zero_le _, by show (i 1).val < 0 + 1024; omega⟩

theorem set_oR (a n : ℕ) (h) : (oR ![a, 0] n h).view.set = rowsO a n := by
  rw [← rect_rowsO a n h]; exact View.set_slice_whole _ _
theorem set_cR (a n : ℕ) (h) : (cR ![a, 0] n h).view.set = rowsC a n := by
  rw [← rect_rowsC a n h]; exact View.set_slice_whole _ _

theorem emb_oR_0 (a n : ℕ) (h) (x : (Sn n).Idx) : (((oR ![a, 0] n h).view.emb x) 0).val = a + (x 0).val := by
  show a + 1 * (x 0).val = _; rw [Nat.one_mul]
theorem emb_oR_1 (a n : ℕ) (h) (x : (Sn n).Idx) : (((oR ![a, 0] n h).view.emb x) 1).val = (x 1).val := by
  show 0 + 1 * (x 1).val = _; rw [Nat.one_mul, Nat.zero_add]
theorem emb_cR_0 (a n : ℕ) (h) (x : (Sn n).Idx) : (((cR ![a, 0] n h).view.emb x) 0).val = a + (x 0).val := by
  show a + 1 * (x 0).val = _; rw [Nat.one_mul]

/-- An element of rows `[a, a + n)` is the view's at some index. -/
theorem exists_emb_oR {a n : ℕ} (h) {i : S1024x1024.Idx} (hi : i ∈ rowsO a n) : ∃ x : (Sn n).Idx, (oR ![a, 0] n h).view.emb x = i := by
  rw [← set_oR a n h] at hi
  obtain ⟨x, -, hx⟩ := Finset.mem_map.mp hi
  exact ⟨x, hx⟩

theorem rowsO_split {a b n : ℕ} : (rowsO a n ∪ rowsO (a + n) b) = rowsO a (n + b) := by
  ext i; simp only [Finset.mem_union, mem_rowsO]; omega
theorem rowsO_disj {a n b k : ℕ} (h : a + n ≤ b ∨ b + k ≤ a) : Disjoint (rowsO a n) (rowsO b k) :=
  Finset.disjoint_left.mpr fun i hi hj => by rw [mem_rowsO] at hi hj; omega
theorem rowsC_split {a b n : ℕ} : (rowsC a n ∪ rowsC (a + n) b) = rowsC a (n + b) := by
  ext i; simp only [Finset.mem_union, mem_rowsC]; omega
theorem rowsC_disj {a n b k : ℕ} (h : a + n ≤ b ∨ b + k ≤ a) : Disjoint (rowsC a n) (rowsC b k) :=
  Finset.disjoint_left.mpr fun i hi hj => by rw [mem_rowsC] at hi hj; omega
theorem rowsO_all : rowsO 0 1024 = Finset.univ := by
  ext i; have : (i 0).val < 1024 := (i 0).isLt; simp only [mem_rowsO, Finset.mem_univ, iff_true]; omega
theorem rowsC_all : rowsC 0 896 = Finset.univ := by
  ext i; have : (i 0).val < 896 := (i 0).isLt; simp only [mem_rowsC, Finset.mem_univ, iff_true]; omega

/-! ## Contents along the all-reduce -/

section Contents

variable (P : Dev nD → CO F)

/-- Device `c`'s sums of part `p` after `s` steps: its own and its partner's of the step before. -/
def acc (p : Fin 4) : ℕ → Dev nD → CO F
  | 0, c => P c
  | s + 1, c => if h : s < 3 then fun i => FloatOps.addf (F := F) (φ := .f32) (acc p s c i) (acc p s (mate p ⟨s, h⟩ c) i) else acc p s c

theorem acc_zero (p : Fin 4) (c : Dev nD) : acc P p 0 c = P c := by unfold acc; rfl
theorem acc_succ (p : Fin 4) (s : Fin 3) (c : Dev nD) (i) :
    acc P p (s.val + 1) c i = FloatOps.addf (F := F) (φ := .f32) (acc P p s.val c i) (acc P p s.val (mate p s c) i) := by
  conv_lhs => unfold acc
  rw [dif_pos s.isLt]

/-- The device that finishes block `q` of thirty-two rows of part `p`. -/
def own (p : Fin 4) (q : Fin 8) : Dev nD :=
  let b (d : Fin 3) : ℕ := q.val / 2 ^ (2 - (stepOf p d).val) % 2
  ⟨((b 0 + b 1) % 2 + 2 * b 1 + 4 * b 2) % 8, Nat.mod_lt _ (by decide)⟩
theorem own_base : ∀ (p : Fin 4) (c : Dev nD) (q : Fin 8), base p c 3 = 256 * p.val + 32 * q.val → own p q = c := by decide +kernel
theorem base_own : ∀ (p : Fin 4) (q : Fin 8), base p (own p q) 3 = 256 * p.val + 32 * q.val := by decide +kernel
theorem base_blk : ∀ (p : Fin 4) (c : Dev nD), ∃ q : Fin 8, base p c 3 = 256 * p.val + 32 * q.val := by decide +kernel

/-- The result every device ends with: each row its finisher's sum. -/
def fin (P : Dev nD → CO F) : CO F := fun i =>
  let p : Fin 4 := ⟨(i 0).val / 256 % 4, Nat.mod_lt _ (by decide)⟩
  let q : Fin 8 := ⟨(i 0).val % 256 / 32 % 8, Nat.mod_lt _ (by decide)⟩
  acc P p 3 (own p q) i

theorem acc_fin (p : Fin 4) (c : Dev nD) {i : S1024x1024.Idx} (hi : i ∈ rowsO (base p c 3) 32) : acc P p 3 c i = fin P i := by
  obtain ⟨q, hq⟩ := base_blk p c
  rw [mem_rowsO, hq] at hi
  have hp := p.isLt; have hq8 := q.isLt
  have h1 : (⟨(i 0).val / 256 % 4, Nat.mod_lt _ (by decide)⟩ : Fin 4) = p := Fin.ext (by show (i 0).val / 256 % 4 = p.val; omega)
  have h2 : (⟨(i 0).val % 256 / 32 % 8, Nat.mod_lt _ (by decide)⟩ : Fin 8) = q := Fin.ext (by show (i 0).val % 256 / 32 % 8 = q.val; omega)
  unfold fin
  simp only [h1, h2, own_base p c q hq]

end Contents

end Cert.Fused

end
-- ==== Proof.Protocol.lean ====
/-
The protocol of the fused kernel's all-reduce: its cells — a device's barrier, and a send and a
receive semaphore for each of the four parts' six steps —, what each hands over, what each device
owes at launch, and the order in which the cells are waited for.
-/
module

public import proofs.«01_k».proof.Proof.Geo

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The semaphore protocol's own part of the ghost state, beside the counters of the local copies. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ## Steps and cells -/

/-- The row count's index at step `k`: the three reducing steps halve, the three gathering steps double. -/
def sOf (k : Fin 6) : Fin 3 := if h : k.val < 3 then ⟨k.val, h⟩ else ⟨(5 - k.val) % 3, Nat.mod_lt _ (by decide)⟩

abbrev barS : Sem sig := (SemArray.scalar (sig.barrier 0 rfl) : Sems sig S_).sem
def sendSem (p : Fin 4) (k : Fin 6) : DmaSem sig := ⟨20 + (6 * p.val + k.val), by show _ < 68; omega⟩
def recvSem (p : Fin 4) (k : Fin 6) : DmaSem sig := ⟨44 + (6 * p.val + k.val), by show _ < 68; omega⟩
def kOf (q : DmaSem sig) : Fin 6 := ⟨(q.val - 20) % 6, Nat.mod_lt _ (by decide)⟩
def pOf (q : DmaSem sig) : Fin 4 := ⟨(q.val - 20) / 6 % 4, Nat.mod_lt _ (by decide)⟩

theorem kOf_send : ∀ p k, kOf (sendSem p k) = k := by decide
theorem kOf_recv : ∀ p k, kOf (recvSem p k) = k := by decide
theorem pOf_send : ∀ p k, pOf (sendSem p k) = p := by decide
theorem pOf_recv : ∀ p k, pOf (recvSem p k) = p := by decide
theorem send_lo : ∀ p k, 20 ≤ (sendSem p k).val := by decide
theorem send_hi : ∀ p k, ¬ 44 ≤ (sendSem p k).val := by decide
theorem recv_lo : ∀ p k, 44 ≤ (recvSem p k).val := by decide

abbrev barCell (c : Dev nD) : GSem nD τ sig := ((c : Thread nD τ), .reg barS)
abbrev sendCell (c : Dev nD) (p : Fin 4) (k : Fin 6) : GSem nD τ sig := ((c : Thread nD τ), .dma (sendSem p k))
abbrev recvCell (c : Dev nD) (p : Fin 4) (k : Fin 6) : GSem nD τ sig := ((c : Thread nD τ), .dma (recvSem p k))

/-- Rows `[a, a + n)` of device `c`'s result, and of its receive buffer. -/
def oPts (c : Dev nD) (a n : ℕ) (f : CO F) : sProp 𝕄 := ((c : Thread nD τ).loc cc0_stg3_0) ↦[rowsO a n]{fullShare} f
def cPts (c : Dev nD) (a n : ℕ) (f : CC F) : sProp 𝕄 := ((c : Thread nD τ).loc cc0_scratch0) ↦[rowsC a n]{fullShare} f

omit [FloatOps F] in
instance oPts_storable (c : Dev nD) (a n f) : BI.Storable (upEmb : UEmb _ 𝕄) (oPts (F := F) c a n f) := by unfold oPts; infer_instance
omit [FloatOps F] in
instance cPts_storable (c : Dev nD) (a n f) : BI.Storable (upEmb : UEmb _ 𝕄) (cPts (F := F) c a n f) := by unfold cPts; infer_instance

section Sched

variable (P : Dev nD → CO F)

/-- Device `c`'s receive slot holds its mate's sums of the rows `c` keeps. -/
def Got (p : Fin 4) (s : Fin 3) (c : Dev nD) (g : CC F) : Prop :=
  (slotR p s).view.read (Elt F) g = (keepR p s c).view.read (Elt F) (acc P p s.val (mate p s c))

/-- What the partner along `d` hands with its signal: its receive slots of that dimension. -/
def barPay (c : Dev nD) (d : Fin 3) : sProp 𝕄 :=
  bigSep Finset.univ fun p : Fin 4 => iprop(∃ f, cPts (F := F) (flip d c) (slot p (stepOf p d)) (half (stepOf p d)) f)
def recvPay (c : Dev nD) (p : Fin 4) (k : Fin 6) : sProp 𝕄 :=
  if k.val < 3 then iprop((∃ g, ⌜Got P p (sOf k) c g⌝ ∗ cPts c (slot p (sOf k)) (half (sOf k)) g)
    ∗ oPts (mate p (sOf k) c) (keep p (sOf k) c) (half (sOf k)) (acc P p (sOf k).val (mate p (sOf k) c)))
  else oPts c (send p (sOf k) c) (half (sOf k)) (fin P)
def sendPay (c : Dev nD) (p : Fin 4) (k : Fin 6) : sProp 𝕄 :=
  if k.val < 3 then iprop(emp) else oPts c (keep p (sOf k) c) (half (sOf k)) (fin P)

/-- One round: the barrier's three signals, and one transfer of each send and each receive cell. -/
def sched : Rounds.Schedule (GSem nD τ sig) (Fin 3) 𝕄 where
  duties g r := if r = 0 then (match g.2 with | .reg q => if q = barS then Finset.univ else ∅ | .dma q => if 20 ≤ q.val then {0} else ∅) else ∅
  unitless _ := False
  amount g _ _ := match g.2 with | .reg _ => 1 | .dma q => crd (half (sOf (kOf q)))
  payload g _ d := match g.2 with
    | .reg _ => barPay g.1.1 d
    | .dma q => if 44 ≤ q.val then recvPay P g.1.1 (pOf q) (kOf q) else if 20 ≤ q.val then sendPay P g.1.1 (pOf q) (kOf q) else iprop(emp)
  amount_pos g _ _ _ := by
    rcases g with ⟨t, q | q⟩
    · exact Nat.one_pos
    · exact crd_pos _

instance barPay_storable (c : Dev nD) (d : Fin 3) : BI.Storable (upEmb : UEmb _ 𝕄) (barPay (F := F) c d) := by
  unfold barPay; infer_instance
instance recvPay_storable (c p k) : BI.Storable (upEmb : UEmb _ 𝕄) (recvPay P c p k) := by
  unfold recvPay; split <;> infer_instance
instance sendPay_storable (c p k) : BI.Storable (upEmb : UEmb _ 𝕄) (sendPay P c p k) := by
  unfold sendPay; split <;> infer_instance
instance sched_payload_storable (g : GSem nD τ sig) (r : ℕ) (d : Fin 3) : BI.Storable (upEmb : UEmb _ 𝕄) ((sched P).payload g r d) := by
  rcases g with ⟨t, q | q⟩
  · show BI.Storable upEmb (barPay t.1 d); infer_instance
  · show BI.Storable upEmb (if 44 ≤ q.val then recvPay P t.1 (pOf q) (kOf q) else if 20 ≤ q.val then sendPay P t.1 (pOf q) (kOf q) else iprop(emp))
    (repeat' split) <;> infer_instance

variable (c : Dev nD) (p : Fin 4) (k : Fin 6)

theorem duties_bar : (sched P).duties (barCell c) 0 = Finset.univ := rfl
theorem duties_send : (sched P).duties (sendCell c p k) 0 = {0} := by
  show (if 20 ≤ (sendSem p k).val then {0} else ∅) = _; exact if_pos (send_lo p k)
theorem duties_recv : (sched P).duties (recvCell c p k) 0 = {0} := by
  show (if 20 ≤ (recvSem p k).val then {0} else ∅) = _; exact if_pos (le_trans (by decide) (recv_lo p k))
theorem duties_later (g : GSem nD τ sig) : ∀ r, 1 ≤ r → (sched P).duties g r = ∅ := fun r hr => if_neg (by omega)

theorem amount_bar (d) : (sched P).amount (barCell c) 0 d = 1 := rfl
theorem amount_send (d) : (sched P).amount (sendCell c p k) 0 d = crd (half (sOf k)) := by
  show crd (half (sOf (kOf (sendSem p k)))) = _; rw [kOf_send]
theorem amount_recv (d) : (sched P).amount (recvCell c p k) 0 d = crd (half (sOf k)) := by
  show crd (half (sOf (kOf (recvSem p k)))) = _; rw [kOf_recv]

theorem expect_bar : (sched P).expect (barCell c) 0 = 3 := by
  unfold Schedule.expect Schedule.amountOf
  rw [duties_bar, Finset.sum_congr rfl fun d _ => amount_bar P c d]; rfl
theorem expect_send : (sched P).expect (sendCell c p k) 0 = crd (half (sOf k)) := by
  unfold Schedule.expect Schedule.amountOf; rw [duties_send, Finset.sum_singleton, amount_send]
theorem expect_recv : (sched P).expect (recvCell c p k) 0 = crd (half (sOf k)) := by
  unfold Schedule.expect Schedule.amountOf; rw [duties_recv, Finset.sum_singleton, amount_recv]

theorem payload_bar (d) : (sched P).payload (barCell c) 0 d = barPay c d := rfl
theorem payload_send (d) : (sched P).payload (sendCell c p k) 0 d = sendPay P c p k := by
  show (if 44 ≤ (sendSem p k).val then recvPay P c _ _ else if 20 ≤ (sendSem p k).val then sendPay P c (pOf (sendSem p k)) (kOf (sendSem p k)) else iprop(emp)) = _
  rw [if_neg (send_hi p k), if_pos (send_lo p k), pOf_send, kOf_send]
theorem payload_recv (d) : (sched P).payload (recvCell c p k) 0 d = recvPay P c p k := by
  show (if 44 ≤ (recvSem p k).val then recvPay P c (pOf (recvSem p k)) (kOf (recvSem p k)) else _) = _
  rw [if_pos (recv_lo p k), pOf_recv, kOf_recv]

theorem rest_bar : bigSep ((sched P).duties (barCell c) 0 \ ∅) (fun d => (sched P).payload (barCell c) 0 d) = bigSep Finset.univ (barPay (F := F) c) := by
  rw [Finset.sdiff_empty, duties_bar]; rfl
theorem rest_send : bigSep ((sched P).duties (sendCell c p k) 0 \ ∅) (fun d => (sched P).payload (sendCell c p k) 0 d) = sendPay P c p k := by
  rw [Finset.sdiff_empty, duties_send, bigSep_singleton, payload_send]
theorem rest_recv : bigSep ((sched P).duties (recvCell c p k) 0 \ ∅) (fun d => (sched P).payload (recvCell c p k) 0 d) = recvPay P c p k := by
  rw [Finset.sdiff_empty, duties_recv, bigSep_singleton, payload_recv]

end Sched

/-! ## What each device owes, and the levels -/

/-- The transfer device `c` starts `j`-th. -/
def pay (c : Dev nD) (j : ℕ) : CellTallies nD τ sig Unit :=
  let p : Fin 4 := ⟨j % 4, Nat.mod_lt _ (by decide)⟩
  let k : Fin 6 := ⟨j / 4 % 6, Nat.mod_lt _ (by decide)⟩
  tallyAt (recvCell (mate p (sOf k) c) p k) () (crd (half (sOf k)))
theorem pay_eq (c : Dev nD) (p : Fin 4) (k : Fin 6) : pay c (4 * k.val + p.val) = tallyAt (recvCell (mate p (sOf k) c) p k) () (crd (half (sOf k))) := by
  have h1 : (⟨(4 * k.val + p.val) % 4, Nat.mod_lt _ (by decide)⟩ : Fin 4) = p := Fin.ext (by show _ % 4 = _; omega)
  have h2 : (⟨(4 * k.val + p.val) / 4 % 6, Nat.mod_lt _ (by decide)⟩ : Fin 6) = k := Fin.ext (by show _ / 4 % 6 = _; omega)
  unfold pay; simp only [h1, h2]

/-- What device `c` owes once it has started `j` transfers. -/
def rem (c : Dev nD) (j : ℕ) : CellTallies nD τ sig Unit := ∑ i ∈ Finset.Ico j 24, pay c i
theorem rem_last (c : Dev nD) : rem c 24 = 0 := rfl
theorem rem_step (c : Dev nD) {j : ℕ} (h : j < 24) : rem c j = rem c (j + 1) + pay c j := by
  unfold rem
  rw [show Finset.Ico j 24 = insert j (Finset.Ico (j + 1) 24) by ext i; simp only [Finset.mem_Ico, Finset.mem_insert]; omega,
    Finset.sum_insert (by simp), add_comm]
/-- At launch: every transfer, and a unit to each partner's barrier; -/
def owed2 (c : Dev nD) : CellTallies nD τ sig Unit := rem c 0 + tallyAt (barCell (flip 2 c)) () 1
def owed1 (c : Dev nD) : CellTallies nD τ sig Unit := owed2 c + tallyAt (barCell (flip 1 c)) () 1
def owed0 (c : Dev nD) : CellTallies nD τ sig Unit := owed1 c + tallyAt (barCell (flip 0 c)) () 1

def L (g : GSem nD τ sig) : Finset Unit := if g.1.2 = .tc then {()} else ∅
def lv (g : GSem nD τ sig) (_ : Unit) : ℕ := match g.2 with
  | .reg _ => 1
  | .dma q => if 44 ≤ q.val then (kOf q).val + 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem rem_pos {c : Dev nD} {j : ℕ} {g : GSem nD τ sig} {u : Unit} (h : 0 < rem c j g u) :
    ∃ (i : ℕ) (c' : Dev nD) (p : Fin 4) (k : Fin 6), j ≤ i ∧ k.val = i / 4 ∧ g = recvCell c' p k := by
  unfold rem at h
  rw [Finset.sum_apply, Finsupp.finset_sum_apply] at h
  obtain ⟨i, hi, hp⟩ := Finset.exists_ne_zero_of_sum_ne_zero (Nat.pos_iff_ne_zero.mp h)
  rw [Finset.mem_Ico] at hi
  refine ⟨i, _, _, ⟨i / 4 % 6, Nat.mod_lt _ (by decide)⟩, hi.1, ?_, tally_pos (Nat.pos_of_ne_zero hp)⟩
  show i / 4 % 6 = i / 4
  omega

theorem lv_recv (c p k) : lv (recvCell c p k) () = k.val + 2 := by
  show (if 44 ≤ (recvSem p k).val then (kOf (recvSem p k)).val + 2 else 0) = _
  rw [if_pos (recv_lo p k), kOf_recv]
theorem lv_send (c p k) : lv (sendCell c p k) () = 0 := if_neg (send_hi p k)

theorem owed0_pos {c : Dev nD} {g : GSem nD τ sig} {u : Unit} (h : 0 < owed0 c g u) :
    (∃ (c' : Dev nD) (p : Fin 4) (k : Fin 6), g = recvCell c' p k) ∨ ∃ c', g = barCell c' := by
  unfold owed0 owed1 owed2 at h
  simp only [Pi.add_apply, Finsupp.add_apply] at h
  rcases Nat.eq_zero_or_pos (rem c 0 g u) with h0 | h0
  · right
    rcases Nat.eq_zero_or_pos ((tallyAt (barCell (flip 2 c)) () 1 : CellTallies nD τ sig Unit) g u) with h1 | h1
    · rcases Nat.eq_zero_or_pos ((tallyAt (barCell (flip 1 c)) () 1 : CellTallies nD τ sig Unit) g u) with h2 | h2
      · exact ⟨_, tally_pos (show 0 < (tallyAt (barCell (flip 0 c)) () 1 : CellTallies nD τ sig Unit) g u by omega)⟩
      · exact ⟨_, tally_pos h2⟩
    · exact ⟨_, tally_pos h1⟩
  · obtain ⟨_, c', p, k, -, -, hg⟩ := rem_pos h0
    exact Or.inl ⟨c', p, k, hg⟩

/-- A wait at a cell of the core below everything it owes. -/
theorem mayWait_of {c : Dev nD} {sm : SemLoc sig} {O : CellTallies nD τ sig Unit} (n : ℕ) (hs : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun q hq => by rw [Finset.mem_singleton.mp hq, L_tc]; exact Finset.mem_singleton_self _)
    (fun g u hg => by unfold L; rw [if_pos (hO g u hg).1]; exact Finset.mem_singleton_self _)
    (fun q hq => by rw [Finset.mem_singleton.mp hq]; exact hs)
    (fun g u hg => (hO g u hg).2)

theorem mayWait_rem {c : Dev nD} {sm : SemLoc sig} {j n : ℕ} (hs : lv ((c : Thread nD τ), sm) () ≤ n) (hn : n < j / 4 + 2) :
    (levAts L lv : sProp 𝕄) ⊢ MayWait (c : Thread nD τ) sm () (rem c j) :=
  mayWait_of n hs fun g u hg => by
    obtain ⟨i, c', p, k, hi, hk, rfl⟩ := rem_pos hg
    refine ⟨rfl, ?_⟩
    rw [lv_recv, hk]
    have := Nat.div_le_div_right (c := 4) hi
    omega

end Cert.Fused

end
-- ==== Proof.Steps.lean ====
/-
The steps of the fused kernel's all-reduce, each a rule for one operation of the kernel: the start
of a transfer, the two waits that end it, and the loads and the store that add what was received.
-/
module

public import proofs.«01_k».proof.Proof.Protocol

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Records -/

/-- A device's cells: its barrier, and a send (`false`) and a receive (`true`) cell per part and step. -/
abbrev CIx : Type := Option (Bool × Fin 4 × Fin 6)
abbrev csem : CIx → SemLoc sig
  | none => .reg barS
  | some (false, p, k) => .dma (sendSem p k)
  | some (true, p, k) => .dma (recvSem p k)
abbrev kcell (ck : Dev nD × CIx) : GSem nD τ sig := ((ck.1 : Thread nD τ), csem ck.2)

section Ops

variable (P : Dev nD → CO F) (K : Dev nD × CIx → ℕ)

def records : sProp 𝕄 :=
  iprop((bigSep Finset.univ fun ck : Dev nD × CIx => cellInv ER (sched P) (K ck) (kcell ck))
    ∗ (bigSep Finset.univ fun ck : Dev nD × CIx => reached ER (kcell ck) 0) ∗ levAts L lv)

instance records_persistent : BI.Persistent (records P K) := by unfold records; infer_instance

theorem inv_at (ck : Dev nD × CIx) :
    (bigSep Finset.univ fun ck : Dev nD × CIx => (cellInv ER (sched P) (K ck) (kcell ck) : sProp 𝕄)) ⊢ cellInv ER (sched P) (K ck) (kcell ck) :=
  bigSep_elim (Finset.mem_univ ck)
theorem reached_at (ck : Dev nD × CIx) :
    (bigSep Finset.univ fun ck : Dev nD × CIx => (reached ER (kcell ck) 0 : sProp 𝕄)) ⊢ reached ER (kcell ck) 0 :=
  bigSep_elim (Finset.mem_univ ck)
theorem rec_inv (ck : Dev nD × CIx) : records P K ⊢ cellInv ER (sched P) (K ck) (kcell ck) := by
  unfold records
  iintro ⟨#H, -, -⟩
  iapply (inv_at P K ck); iexact H
theorem rec_reached (ck : Dev nD × CIx) : records P K ⊢ reached ER (kcell ck) 0 := by
  unfold records
  iintro ⟨-, #H, -⟩
  iapply (reached_at (F := F) ck); iexact H
theorem rec_lev : records P K ⊢ levAts L lv := by
  unfold records
  iintro ⟨-, -, #H⟩
  iexact H

/-! ## Rows -/

theorem o_split (c : Dev nD) (a n b : ℕ) (f : CO F) : (oPts c a (n + b) f : sProp 𝕄) = iprop(oPts c a n f ∗ oPts c (a + n) b f) := by
  unfold oPts
  rw [← rowsO_split]
  exact Entails.antisymm (pointsTo_union (rowsO_disj (Or.inl le_rfl))).1 (pointsTo_union (rowsO_disj (Or.inl le_rfl))).2
theorem o_congr (c : Dev nD) {a n : ℕ} {f g : CO F} (h : ∀ i ∈ rowsO a n, f i = g i) : (oPts c a n f : sProp 𝕄) = oPts c a n g :=
  pointsTo_congr h
theorem c_split (c : Dev nD) (a n b : ℕ) (f : CC F) : (cPts c a (n + b) f : sProp 𝕄) = iprop(cPts c a n f ∗ cPts c (a + n) b f) := by
  unfold cPts
  rw [← rowsC_split]
  exact Entails.antisymm (pointsTo_union (rowsC_disj (Or.inl le_rfl))).1 (pointsTo_union (rowsC_disj (Or.inl le_rfl))).2

theorem sep_swap (A B : sProp 𝕄) : iprop(A ∗ B) = iprop(B ∗ A) :=
  Entails.antisymm (sep_comm (PROP := sProp 𝕄) (P := A) (Q := B)).1 (sep_comm (PROP := sProp 𝕄) (P := B) (Q := A)).1

theorem o_halves (c : Dev nD) (p : Fin 4) (s : Fin 3) {n : ℕ} (hs : s.val = n) (f : CO F) :
    (oPts c (base p c n) (256 / 2 ^ n) f : sProp 𝕄) = iprop(oPts c (keep p s c) (half s) f ∗ oPts c (send p s c) (half s) f) := by
  subst hs
  rw [half_two, two_mul, o_split]
  rcases halves p s c with ⟨h1, h2⟩ | ⟨h1, h2⟩
  · rw [h1, h2]
  · rw [h1, h2]; exact sep_swap _ _

/-! ## A part's state -/

def stepRes (c : Dev nD) (p : Fin 4) (k : Fin 6) : sProp 𝕄 :=
  iprop(dutyTok ER (sendCell c p k) 0 0 ∗ dutyTok ER (recvCell (mate p (sOf k) c) p k) 0 0
    ∗ atPos ER (sendCell c p k) 0 ∅ 0 ∗ atPos ER (recvCell c p k) 0 ∅ 0 ∗ cred (tallyAt (recvCell c p k) () (crd (half (sOf k)))))
def dst (c : Dev nD) (p : Fin 4) (k : Fin 6) : sProp 𝕄 :=
  if k.val < 3 then iprop(∃ f, cPts (F := F) (mate p (sOf k) c) (slot p (sOf k)) (half (sOf k)) f) else iprop(emp)
def old (c : Dev nD) (p : Fin 4) (k : Fin 6) : sProp 𝕄 :=
  if k.val < 3 then iprop(∃ f, cPts (F := F) c (slot p (sOf k)) (half (sOf k)) f) else iprop(emp)

/-- What the steps from `n` on still need; what those before `n` left; the mates' rows held at `n`. -/
def fut (c : Dev nD) (p : Fin 4) (n : ℕ) : sProp 𝕄 :=
  bigSep (Finset.univ.filter fun k : Fin 6 => n ≤ k.val) fun k => iprop(stepRes (F := F) c p k ∗ dst c p k)
def past (c : Dev nD) (p : Fin 4) (n : ℕ) : sProp 𝕄 :=
  bigSep (Finset.univ.filter fun k : Fin 6 => k.val < n) fun k => iprop(semVal (sendCell c p k) 0 ∗ semVal (recvCell c p k) 0 ∗ old (F := F) c p k)
def perm (c : Dev nD) (p : Fin 4) (n : ℕ) : sProp 𝕄 :=
  bigSep (Finset.univ.filter fun s : Fin 3 => s.val < n) fun s => iprop(∃ f, oPts (F := F) (mate p s c) (keep p s c) (half s) f)

theorem fut_step (c : Dev nD) (p : Fin 4) (k : Fin 6) : (fut c p k.val : sProp 𝕄) = iprop((stepRes (F := F) c p k ∗ dst c p k) ∗ fut c p (k.val + 1)) := by
  unfold fut
  rw [show (Finset.univ.filter fun k' : Fin 6 => k.val ≤ k'.val) = insert k (Finset.univ.filter fun k' : Fin 6 => k.val + 1 ≤ k'.val) by revert k; decide,
    bigSep_insert (by simp)]
  rfl
theorem past_step (c : Dev nD) (p : Fin 4) (k : Fin 6) :
    (past c p (k.val + 1) : sProp 𝕄) = iprop((semVal (sendCell c p k) 0 ∗ semVal (recvCell c p k) 0 ∗ old (F := F) c p k) ∗ past c p k.val) := by
  unfold past
  rw [show (Finset.univ.filter fun k' : Fin 6 => k'.val < k.val + 1) = insert k (Finset.univ.filter fun k' : Fin 6 => k'.val < k.val) by revert k; decide,
    bigSep_insert (by simp)]
  rfl
theorem perm_step (c : Dev nD) (p : Fin 4) (s : Fin 3) :
    (perm c p (s.val + 1) : sProp 𝕄) = iprop((∃ f, oPts (F := F) (mate p s c) (keep p s c) (half s) f) ∗ perm c p s.val) := by
  unfold perm
  rw [show (Finset.univ.filter fun k' : Fin 3 => k'.val < s.val + 1) = insert s (Finset.univ.filter fun k' : Fin 3 => k'.val < s.val) by revert s; decide,
    bigSep_insert (by simp)]
  rfl

/-- `n` steps of part `p` done, the next not started. -/
def Rdy (c : Dev nD) (p : Fin 4) (n : ℕ) : sProp 𝕄 :=
  iprop(fut (F := F) c p n ∗ past (F := F) c p n
    ∗ if n ≤ 3 then iprop(perm c p n ∗ oPts c (base p c n) (256 / 2 ^ n) (acc P p n c))
      else iprop(perm c p (6 - n) ∗ oPts c (base p c (6 - n)) (256 / 2 ^ (6 - n)) (fin P)))
/-- Step `k` started. -/
def Fly (c : Dev nD) (p : Fin 4) (k : Fin 6) : sProp 𝕄 :=
  iprop(fut (F := F) c p (k.val + 1) ∗ past (F := F) c p k.val
    ∗ atPos ER (sendCell c p k) 0 ∅ 0 ∗ atPos ER (recvCell c p k) 0 ∅ 0 ∗ cred (tallyAt (recvCell c p k) () (crd (half (sOf k))))
    ∗ cred (tallyAt (sendCell c p k) () (crd (half (sOf k))))
    ∗ if k.val < 3 then iprop(perm c p k.val ∗ oPts c (keep p (sOf k) c) (half (sOf k)) (acc P p k.val c)) else perm c p (5 - k.val))
/-- Step `k`'s send waited for. -/
def Sent (c : Dev nD) (p : Fin 4) (k : Fin 6) : sProp 𝕄 :=
  iprop(fut (F := F) c p (k.val + 1) ∗ past (F := F) c p k.val
    ∗ semVal (sendCell c p k) 0 ∗ atPos ER (recvCell c p k) 0 ∅ 0 ∗ cred (tallyAt (recvCell c p k) () (crd (half (sOf k))))
    ∗ if k.val < 3 then iprop(perm c p k.val ∗ oPts c (keep p (sOf k) c) (half (sOf k)) (acc P p k.val c))
      else iprop(perm c p (5 - k.val) ∗ oPts c (keep p (sOf k) c) (half (sOf k)) (fin P)))
/-- Reducing step `k`'s rows received, not yet added. -/
def Mid (c : Dev nD) (p : Fin 4) (k : Fin 6) (g : CC F) : sProp 𝕄 :=
  iprop(fut (F := F) c p (k.val + 1) ∗ past (F := F) c p k.val
    ∗ semVal (sendCell c p k) 0 ∗ semVal (recvCell c p k) 0 ∗ perm c p (k.val + 1)
    ∗ oPts c (keep p (sOf k) c) (half (sOf k)) (acc P p k.val c) ∗ cPts c (slot p (sOf k)) (half (sOf k)) g)
/-- What the core owes once it has started `j` transfers. -/
def Ow (c : Dev nD) (j : ℕ) : sProp 𝕄 := iprop(∃ W, owes (c : Thread nD τ) (rem c j) W)

theorem sOf_lt {k : Fin 6} (h : k.val < 3) : (sOf k).val = k.val := by unfold sOf; rw [dif_pos h]
theorem sOf_ge : ∀ {k : Fin 6}, ¬ k.val < 3 → (sOf k).val = 5 - k.val := by decide

theorem half_ge : ∀ k : Fin 6, ¬ k.val < 3 → 256 / 2 ^ (6 - k.val) = half (sOf k) := by decide
theorem half_lt : ∀ k : Fin 6, k.val < 3 → 256 / 2 ^ (k.val + 1) = half (sOf k) := by decide

/-- Before a gathering step: the rows finished so far, and the mate's rows of the same place. -/
theorem rdy_gather (c : Dev nD) (p : Fin 4) (k : Fin 6) (hk : ¬ k.val < 3) :
    Rdy P c p k.val ⊢ iprop(((stepRes (F := F) c p k ∗ dst c p k) ∗ fut (F := F) c p (k.val + 1)) ∗ past (F := F) c p k.val ∗ perm c p (5 - k.val)
      ∗ (∃ f, oPts (F := F) (mate p (sOf k) c) (keep p (sOf k) c) (half (sOf k)) f) ∗ oPts c (keep p (sOf k) c) (half (sOf k)) (fin P)) := by
  have hs := sOf_ge hk
  have h5 := k.isLt
  have hbase : base p c (6 - k.val) = keep p (sOf k) c := by
    unfold keep; rw [hs, show 5 - k.val + 1 = 6 - k.val by omega]
  have hhalf := half_ge k hk
  have hperm : (perm (F := F) c p (6 - k.val) : sProp 𝕄) = iprop((∃ f, oPts (F := F) (mate p (sOf k) c) (keep p (sOf k) c) (half (sOf k)) f) ∗ perm c p (5 - k.val)) := by
    rw [show 6 - k.val = (sOf k).val + 1 by omega, perm_step, hs]
  unfold Rdy
  rw [fut_step]
  by_cases h3 : k.val ≤ 3
  · rw [if_pos h3]
    have hk3 : k.val = 3 := by omega
    have e : (oPts c (base p c k.val) (256 / 2 ^ k.val) (acc P p k.val c) : sProp 𝕄) = oPts c (base p c (6 - k.val)) (256 / 2 ^ (6 - k.val)) (fin P) := by
      rw [hk3]
      exact o_congr c fun i hi => acc_fin P p c hi
    rw [e, hbase, hhalf, show (perm (F := F) c p k.val : sProp 𝕄) = perm c p (6 - k.val) by rw [hk3], hperm]
    iintro ⟨H1, H2, ⟨H3, H4⟩, H5⟩
    isplitl [H1]; · iexact H1
    isplitl [H2]; · iexact H2
    isplitl [H4]; · iexact H4
    isplitl [H3]; · iexact H3
    iexact H5
  · rw [if_neg h3, hbase, hhalf, hperm]
    iintro ⟨H1, H2, ⟨H3, H4⟩, H5⟩
    isplitl [H1]; · iexact H1
    isplitl [H2]; · iexact H2
    isplitl [H4]; · iexact H4
    isplitl [H3]; · iexact H3
    iexact H5

/-! ## The rules -/

theorem read_oR (off n h) (f : CO F) (x) : (oR off n h).view.read (Elt F) f x = f ((oR off n h).view.emb x) := rfl
theorem read_oR_congr {off off' : Fin 2 → ℕ} {n : ℕ} (e : off = off') (h h') (f : CO F) :
    (oR off n h).view.read (Elt F) f = (oR off' n h').view.read (Elt F) f := by subst e; rfl
theorem write_oR (off n h) (f : CO F) (w) (x) : (oR off n h).view.write (Elt F) f w Finset.univ ((oR off n h).view.emb x) = w x := by
  rw [View.write_emb_of_mem _ _ (Finset.mem_univ x)]; rfl

/-- The start of a reducing step: the rows the mate keeps go to the mate's slot. -/
theorem start_reduce {α : Type} {Q : α → sProp 𝕄} {k' : PUnit → Prog (TpuEff nD τ sig (Elt F) Λ₀ .tc) α}
    (c : Dev nD) (p : Fin 4) (k : Fin 6) (hk : k.val < 3) {n : Dev nD} (hn : n = mate p (sOf k) c)
    {j : ℕ} (hj : j = 4 * k.val + p.val) {a : ℕ} (ha : a = half (sOf k))
    {off off' : Fin 2 → ℕ} (hoff : off = ![send p (sOf k) c, 0]) (hoff' : off' = ![slot p (sOf k), 0]) {h h'}
    {sS sR : DmaSem sig} (hS : sS = sendSem p k) (hR : sR = recvSem p k)
    {hsc : (cR off' a h' : Memref sig (Dev.tc n : Thread nD τ).2.kind .vmem (Sn a) .f32).view.ref.isScScratch = false}
    {hsrc : (oR off a h).view.WordExact} {hdst : (cR off' a h').view.WordExact}
    {hsem : DmaTarget.Typed .vmem (.dma sR) (.remote (Dev.tc n : Thread nD τ) (cR off' a h') (.dma sS) hsc)} :
    iprop(records P K ∗ Ow (F := F) c j ∗ Rdy P c p k.val)
      ⊢ iprop(((Ow (F := F) c (j + 1) ∗ Fly P c p k) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (oR off a h) (.remote (Dev.tc n : Thread nD τ) (cR off' a h') (.dma sS) hsc) (.dma sR) hsrc hdst hsem) k') Q) := by
  subst hn ha hoff hoff' hS hR hj
  have hs := sOf_lt hk
  unfold Rdy Ow
  rw [if_pos (by omega), fut_step, o_halves c p (sOf k) hs]
  unfold stepRes dst
  rw [if_pos hk]
  iintro ⟨#HR, ⟨%W, HO⟩, ⟨⟨⟨HtS, HtR, HaS, HaR, HcR⟩, ⟨%fd, Hd⟩⟩, Hf⟩, Hpast, Hperm, Hkeep, Hsend⟩ Hk
  ihave #HIs := (rec_inv P K (c, some (false, p, k))) $$ HR
  ihave #HIr := (rec_inv P K (mate p (sOf k) c, some (true, p, k))) $$ HR
  ihave #Hrs := (rec_reached P K (c, some (false, p, k))) $$ HR
  ihave #Hrr := (rec_reached P K (mate p (sOf k) c, some (true, p, k))) $$ HR
  unfold oPts cPts
  rw [← set_oR (send p (sOf k) c) (half (sOf k)) (inbO (send_le p (sOf k) c)), ← set_cR (slot p (sOf k)) (half (sOf k)) (inbC (slot_le p (sOf k)))]
  iapply (Rounds.wp_send_landing_pointsTo 𝒱₀ ER (sched P) (c : Thread nD τ) none (κ₁ := K (c, some (false, p, k))) (κ₂ := K (mate p (sOf k) c, some (true, p, k)))
    (r₁ := 0) (r₂ := 0) (d₁ := 0) (d₂ := 0) (fd := fd) (fs := acc P p k.val c) (q := fullShare)
    (by rw [duties_send]; exact Finset.mem_singleton_self _) (by rw [duties_recv]; exact Finset.mem_singleton_self _)
    () () (crd (half (sOf k))) rfl (amount_send P c p k 0) (amount_recv P (mate p (sOf k) c) p k 0) (O₀ := rem c (4 * k.val + p.val)) (rem c (4 * k.val + p.val + 1))
    (by rw [rem_step c (by omega), pay_eq]) (W := W)
    (by rw [payload_send]; unfold sendPay; rw [if_pos hk])
    (by
      rw [payload_recv]; unfold recvPay; rw [if_pos hk, mate_mate, keep_mate, hs]
      unfold oPts cPts
      rw [← set_oR (send p (sOf k) c) (half (sOf k)) (inbO (send_le p (sOf k) c)), ← set_cR (slot p (sOf k)) (half (sOf k)) (inbC (slot_le p (sOf k)))]
      refine sep_mono_left ?_
      iintro H
      iexists _
      isplitr
      rotate_left
      · iexact H
      · ipureintro
        unfold Got
        rw [View.read_write_univ, mate_mate, hs]
        exact read_oR_congr (by rw [keep_mate]) _ _ _))
    $$ [HO HtS HtR Hsend Hd]
  · isplitr; · iexact HIs
    isplitr; · iexact HIr
    isplitl [Hsend]; · iexact Hsend
    isplitl [Hd]; · iexact Hd
    isplitl [HO]; · iexact HO
    isplitl [HtS]; · iexact HtS
    isplitr; · iexact Hrs
    isplitl [HtR]; · iexact HtR
    iexact Hrr
  iintro ⟨HcS, HO⟩
  iapply Hk
  isplitl [HO]; · iexists W; iexact HO
  unfold Fly
  rw [if_pos hk]
  isplitl [Hf]; · iexact Hf
  isplitl [Hpast]; · iexact Hpast
  isplitl [HaS]; · iexact HaS
  isplitl [HaR]; · iexact HaR
  isplitl [HcR]; · iexact HcR
  isplitl [HcS]; · iexact HcS
  isplitl [Hperm]; · iexact Hperm
  unfold oPts
  iexact Hkeep

/-- The start of a gathering step: the rows finished so far go to the mate's rows of the same place. -/
theorem start_gather {α : Type} {Q : α → sProp 𝕄} {k' : PUnit → Prog (TpuEff nD τ sig (Elt F) Λ₀ .tc) α}
    (c : Dev nD) (p : Fin 4) (k : Fin 6) (hk : ¬ k.val < 3) {n : Dev nD} (hn : n = mate p (sOf k) c)
    {j : ℕ} (hj : j = 4 * k.val + p.val) {a : ℕ} (ha : a = half (sOf k))
    {off off' : Fin 2 → ℕ} (hoff : off = ![keep p (sOf k) c, 0]) (hoff' : off' = ![keep p (sOf k) c, 0]) {h h'}
    {sS sR : DmaSem sig} (hS : sS = sendSem p k) (hR : sR = recvSem p k)
    {hsc : (oR off' a h' : Memref sig (Dev.tc n : Thread nD τ).2.kind .vmem (Sn a) .f32).view.ref.isScScratch = false}
    {hsrc : (oR off a h).view.WordExact} {hdst : (oR off' a h').view.WordExact}
    {hsem : DmaTarget.Typed .vmem (.dma sR) (.remote (Dev.tc n : Thread nD τ) (oR off' a h') (.dma sS) hsc)} :
    iprop(records P K ∗ Ow (F := F) c j ∗ Rdy P c p k.val)
      ⊢ iprop(((Ow (F := F) c (j + 1) ∗ Fly P c p k) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (oR off a h) (.remote (Dev.tc n : Thread nD τ) (oR off' a h') (.dma sS) hsc) (.dma sR) hsrc hdst hsem) k') Q) := by
  subst hn ha hoff hoff' hS hR hj
  have hs := sOf_ge hk
  iintro ⟨#HR, HO, HRdy⟩ Hk
  ihave HRdy' := (rdy_gather P c p k hk) $$ HRdy
  icases HRdy' with ⟨Hf, Hpast, Hp, ⟨%fd, Hd⟩, Hsrc⟩
  unfold Ow
  icases HO with ⟨%W, HO⟩
  unfold stepRes dst
  rw [if_neg hk]
  icases Hf with ⟨⟨⟨HtS, HtR, HaS, HaR, HcR⟩, -⟩, Hf⟩
  ihave #HIs := (rec_inv P K (c, some (false, p, k))) $$ HR
  ihave #HIr := (rec_inv P K (mate p (sOf k) c, some (true, p, k))) $$ HR
  ihave #Hrs := (rec_reached P K (c, some (false, p, k))) $$ HR
  ihave #Hrr := (rec_reached P K (mate p (sOf k) c, some (true, p, k))) $$ HR
  unfold oPts
  rw [← set_oR (keep p (sOf k) c) (half (sOf k)) (inbO (keep_le p (sOf k) c))]
  iapply (Rounds.wp_send_pointsTo 𝒱₀ ER (sched P) (c : Thread nD τ) none (κ₁ := K (c, some (false, p, k))) (κ₂ := K (mate p (sOf k) c, some (true, p, k)))
    (r₁ := 0) (r₂ := 0) (d₁ := 0) (d₂ := 0) (fd := fd) (fs := fin P) (q := fullShare)
    (by rw [duties_send]; exact Finset.mem_singleton_self _) (by rw [duties_recv]; exact Finset.mem_singleton_self _)
    () () (crd (half (sOf k))) rfl (amount_send P c p k 0) (amount_recv P (mate p (sOf k) c) p k 0) (O₀ := rem c (4 * k.val + p.val)) (rem c (4 * k.val + p.val + 1))
    (by rw [rem_step c (by omega), pay_eq]) (W := W)
    (by
      rw [payload_send]; unfold sendPay; rw [if_neg hk]; unfold oPts
      rw [← set_oR (keep p (sOf k) c) (half (sOf k)) (inbO (keep_le p (sOf k) c))])
    (by
      rw [payload_recv]; unfold recvPay; rw [if_neg hk, send_mate]; unfold oPts
      rw [← set_oR (keep p (sOf k) c) (half (sOf k)) (inbO (keep_le p (sOf k) c))]
      refine Entails.of_eq (pointsTo_congr fun i hi => ?_)
      obtain ⟨x, -, rfl⟩ := Finset.mem_map.mp hi
      exact write_oR _ _ _ _ _ x))
    $$ [HO HtS HtR Hsrc Hd]
  · isplitr; · iexact HIs
    isplitr; · iexact HIr
    isplitl [Hsrc]; · iexact Hsrc
    isplitl [Hd]; · iexact Hd
    isplitl [HO]; · iexact HO
    isplitl [HtS]; · iexact HtS
    isplitr; · iexact Hrs
    isplitl [HtR]; · iexact HtR
    iexact Hrr
  iintro ⟨HcS, HO⟩
  iapply Hk
  isplitl [HO]; · iexists W; iexact HO
  unfold Fly
  rw [if_neg hk]
  isplitl [Hf]; · iexact Hf
  isplitl [Hpast]; · iexact Hpast
  isplitl [HaS]; · iexact HaS
  isplitl [HaR]; · iexact HaR
  isplitl [HcR]; · iexact HcR
  isplitl [HcS]; · iexact HcS
  iexact Hp

/-- The wait for a transfer's send. -/
theorem wait_send {α : Type} {Q : α → sProp 𝕄} {k' : PUnit → Prog (TpuEff nD τ sig (Elt F) Λ₀ .tc) α}
    (c : Dev nD) (p : Fin 4) (k : Fin 6) {j : ℕ} (hj : k.val * 4 < j)
    {q : DmaSem sig} (hq : q = sendSem p k) {s : Shape} {src dst' : Memref sig .tc .vmem s .f32} (hc : dst'.view.dmaCredit = crd (half (sOf k)))
    {hsrc : src.view.WordExact} {hdst : dst'.view.WordExact} :
    iprop(records P K ∗ Ow (F := F) c j ∗ Fly P c p k)
      ⊢ iprop(((Ow (F := F) c j ∗ Sent P c p k) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst' hsrc hdst) k') Q) := by
  subst hq
  unfold Ow Fly
  iintro ⟨#HR, ⟨%W, HO⟩, Hf, Hpast, HaS, HaR, HcR, HcS, Hrest⟩ Hk
  ihave #HIs := (rec_inv P K (c, some (false, p, k))) $$ HR
  ihave #Hlev := (rec_lev P K) $$ HR
  iapply (Rounds.wp_wait_rest_token 𝒱₀ ER (sched P) (c : Thread nD τ) none (κ := K (c, some (false, p, k))) (k' := crd (half (sOf k)))
      (fun K' => (wpE_waitDma2_eq 𝒱₀ (c : Thread nD τ) none Set.univ K').trans (by rw [hc])) (Set.mem_univ _) () (O := rem c j) (W := W) (R := 0) (m := 0) (T := ∅)
      (by rw [Nat.zero_add]; exact (expect_send P c p k).symm)) $$ [HcS HO HaS]
  · isplitr; · iexact HIs
    isplitl [HcS]; · iexact HcS
    isplitl [HO]; · iexact HO
    isplitr
    · iapply (mayWait_rem (F := F) (n := 0) (le_of_eq (lv_send c p k)) (by omega)); iexact Hlev
    iexact HaS
  iintro ⟨HO, HaS, -, Hpay⟩
  ihave Hp := (Entails.of_eq (rest_send P c p k)) $$ Hpay
  imod (Rounds.cell_close ER (sched P) (Set.mem_univ (K (c, some (false, p, k)))) (fun h => h) (R := 0 + 1) (duties_later P (sendCell c p k))) $$ [HaS] with Hz
  · isplitr; · iexact HIs
    iexact HaS
  iapply Hk
  isplitl [HO]; · iexists _; iexact HO
  unfold Sent sendPay
  isplitl [Hf]; · iexact Hf
  isplitl [Hpast]; · iexact Hpast
  isplitl [Hz]; · iexact Hz
  isplitl [HaR]; · iexact HaR
  isplitl [HcR]; · iexact HcR
  by_cases hk : k.val < 3
  · simp only [if_pos hk]; iexact Hrest
  · simp only [if_neg hk]
    isplitl [Hrest]; · iexact Hrest
    iexact Hp

/-- The wait for a transfer received, up to what its cell hands over. -/
theorem wait_recv {α : Type} {Q : α → sProp 𝕄} {k' : PUnit → Prog (TpuEff nD τ sig (Elt F) Λ₀ .tc) α}
    (c : Dev nD) (p : Fin 4) (k : Fin 6) {j : ℕ} (hj : k.val + 2 < j / 4 + 2)
    {q : DmaSem sig} (hq : q = recvSem p k) {s : Shape} {src dst' : Memref sig .tc .vmem s .f32} (hc : dst'.view.dmaCredit = crd (half (sOf k)))
    {hsrc : src.view.WordExact} {hdst : dst'.view.WordExact} :
    iprop(records P K ∗ Ow (F := F) c j ∗ cred (tallyAt (recvCell c p k) () (crd (half (sOf k)))) ∗ atPos ER (recvCell c p k) 0 ∅ 0)
      ⊢ iprop(((Ow (F := F) c j ∗ recvPay P c p k ∗ semVal (recvCell c p k) 0) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst' hsrc hdst) k') Q) := by
  subst hq
  unfold Ow
  iintro ⟨#HR, ⟨%W, HO⟩, HcS, HaS⟩ Hk
  ihave #HIs := (rec_inv P K (c, some (true, p, k))) $$ HR
  ihave #Hlev := (rec_lev P K) $$ HR
  iapply (Rounds.wp_wait_rest_token 𝒱₀ ER (sched P) (c : Thread nD τ) none (κ := K (c, some (true, p, k))) (k' := crd (half (sOf k)))
      (fun K' => (wpE_waitDma2_eq 𝒱₀ (c : Thread nD τ) none Set.univ K').trans (by rw [hc])) (Set.mem_univ _) () (O := rem c j) (W := W) (R := 0) (m := 0) (T := ∅)
      (by rw [Nat.zero_add]; exact (expect_recv P c p k).symm)) $$ [HcS HO HaS]
  · isplitr; · iexact HIs
    isplitl [HcS]; · iexact HcS
    isplitl [HO]; · iexact HO
    isplitr
    · iapply (mayWait_rem (F := F) (n := k.val + 2) (le_of_eq (lv_recv c p k)) hj); iexact Hlev
    iexact HaS
  iintro ⟨HO, HaS, -, Hpay⟩
  ihave Hp := (Entails.of_eq (rest_recv P c p k)) $$ Hpay
  imod (Rounds.cell_close ER (sched P) (Set.mem_univ (K (c, some (true, p, k)))) (fun h => h) (R := 0 + 1) (duties_later P (recvCell c p k))) $$ [HaS] with Hz
  · isplitr; · iexact HIs
    iexact HaS
  iapply Hk
  isplitl [HO]; · iexists _; iexact HO
  isplitl [Hp]; · iexact Hp
  iexact Hz

theorem wait_recv_reduce {α : Type} {Q : α → sProp 𝕄} {k' : PUnit → Prog (TpuEff nD τ sig (Elt F) Λ₀ .tc) α}
    (c : Dev nD) (p : Fin 4) (k : Fin 6) (hk : k.val < 3) {j : ℕ} (hj : k.val + 2 < j / 4 + 2)
    {q : DmaSem sig} (hq : q = recvSem p k) {s : Shape} {src dst' : Memref sig .tc .vmem s .f32} (hc : dst'.view.dmaCredit = crd (half (sOf k)))
    {hsrc : src.view.WordExact} {hdst : dst'.view.WordExact} :
    iprop(records P K ∗ Ow (F := F) c j ∗ Sent P c p k)
      ⊢ iprop(((Ow (F := F) c j ∗ ∃ g, ⌜Got P p (sOf k) c g⌝ ∗ Mid P c p k g) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst' hsrc hdst) k') Q) := by
  unfold Sent
  rw [if_pos hk]
  iintro ⟨#HR, HO, Hf, Hpast, Hz, HaR, HcR, Hp, Hkeep⟩ Hk
  iapply (wait_recv P K c p k hj hq hc) $$ [HO HcR HaR]
  · isplitr; · iexact HR
    isplitl [HO]; · iexact HO
    isplitl [HcR]; · iexact HcR
    iexact HaR
  unfold recvPay
  rw [if_pos hk]
  iintro ⟨HO, ⟨⟨%g, %hg, Hg⟩, Hm⟩, Hz'⟩
  iapply Hk
  isplitl [HO]; · iexact HO
  iexists g
  isplitr; · ipureintro; exact hg
  unfold Mid
  isplitl [Hf]; · iexact Hf
  isplitl [Hpast]; · iexact Hpast
  isplitl [Hz]; · iexact Hz
  isplitl [Hz']; · iexact Hz'
  isplitl [Hp Hm]
  · rw [← sOf_lt hk, perm_step]
    isplitl [Hm]; · iexists _; iexact Hm
    iexact Hp
  isplitl [Hkeep]; · iexact Hkeep
  iexact Hg

theorem wait_recv_gather {α : Type} {Q : α → sProp 𝕄} {k' : PUnit → Prog (TpuEff nD τ sig (Elt F) Λ₀ .tc) α}
    (c : Dev nD) (p : Fin 4) (k : Fin 6) (hk : ¬ k.val < 3) {j : ℕ} (hj : k.val + 2 < j / 4 + 2)
    {q : DmaSem sig} (hq : q = recvSem p k) {s : Shape} {src dst' : Memref sig .tc .vmem s .f32} (hc : dst'.view.dmaCredit = crd (half (sOf k)))
    {hsrc : src.view.WordExact} {hdst : dst'.view.WordExact} :
    iprop(records P K ∗ Ow (F := F) c j ∗ Sent P c p k)
      ⊢ iprop(((Ow (F := F) c j ∗ Rdy P c p (k.val + 1)) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst' hsrc hdst) k') Q) := by
  have hs := sOf_ge hk
  unfold Sent
  rw [if_neg hk]
  iintro ⟨#HR, HO, Hf, Hpast, Hz, HaR, HcR, Hp, Hkeep⟩ Hk
  iapply (wait_recv P K c p k hj hq hc) $$ [HO HcR HaR]
  · isplitr; · iexact HR
    isplitl [HO]; · iexact HO
    isplitl [HcR]; · iexact HcR
    iexact HaR
  unfold recvPay
  rw [if_neg hk]
  iintro ⟨HO, Hg, Hz'⟩
  iapply Hk
  isplitl [HO]; · iexact HO
  unfold Rdy
  rw [if_neg (by omega), past_step, show 6 - (k.val + 1) = 5 - k.val by omega, o_halves c p (sOf k) hs]
  unfold old
  rw [if_neg hk]
  isplitl [Hf]; · iexact Hf
  isplitl [Hpast Hz Hz']
  · isplitl [Hz Hz']
    · isplitl [Hz]; · iexact Hz
      isplitl [Hz']; · iexact Hz'
      iempintro
    iexact Hpast
  isplitl [Hp]; · iexact Hp
  isplitl [Hkeep]; · iexact Hkeep
  iexact Hg

/-- The sum's loads and store. -/
theorem add_step {α : Type} {Q : α → sProp 𝕄} {k' : PUnit → Prog (TpuEff nD τ sig (Elt F) Λ₀ .tc) α}
    (c : Dev nD) (p : Fin 4) (k : Fin 6) (hk : k.val < 3) {a : ℕ} (ha : a = half (sOf k)) {g : CC F} (hg : Got P p (sOf k) c g)
    {o1 o2 o3 o4 : Fin 2 → ℕ} (h1 : o1 = ![keep p (sOf k) c, 0]) (h2 : o2 = ![slot p (sOf k), 0]) (h3 : o3 = ![keep p (sOf k) c, 0]) (h4 : o4 = ![keep p (sOf k) c, 0])
    {b1 b2 b3 b4} {l1 l2 l3} {pay : Vec F (Sn a) .f32 → Vec F (Sn a) .f32 → Vec F (Sn a) .f32}
    (hpay : ∀ v w i, pay v w i = FloatOps.addf (F := F) (φ := .f32) (v i) (w i))
    {hx} {hm} :
    Mid P c p k g
      ⊢ iprop((Rdy P c p (k.val + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.load oM (Rect.unit (s := S1024x1024) o1 (Sn a).size b1).toLoadRect l1) fun (v : Vec F (Sn a) .f32) =>
                .op (.load cM (Rect.unit (s := S896x1024) o2 (Sn a).size b2).toLoadRect l2) fun (w : Vec F (Sn a) .f32) =>
                  .op (.load oM (Rect.unit (s := S1024x1024) o3 (Sn a).size b3).toLoadRect l3) fun _ =>
                    .op (.store oM (Rect.unit (s := S1024x1024) o4 (Sn a).size b4) (pay v w) Finset.univ hx hm) k') Q) := by
  subst ha h1 h2 h3 h4
  have hs := sOf_lt hk
  unfold Mid
  iintro ⟨Hf, Hpast, Hz, Hz', Hp, Ho, Hc⟩ Hk
  unfold oPts cPts
  iapply (wp_load_rect 𝒱₀ (c : Thread nD τ) none Set.univ (m := oM) (r := Rect.unit (s := S1024x1024) ![keep p (sOf k) c, 0] (Sn (half (sOf k))).size b1)
    (le_of_eq (set_oR _ _ _))) $$ Ho; iintro Ho
  iapply (wp_load_rect 𝒱₀ (c : Thread nD τ) none Set.univ (m := cM) (r := Rect.unit (s := S896x1024) ![slot p (sOf k), 0] (Sn (half (sOf k))).size b2)
    (le_of_eq (set_cR _ _ _))) $$ Hc; iintro Hc
  iapply (wp_load_rect 𝒱₀ (c : Thread nD τ) none Set.univ (m := oM) (r := Rect.unit (s := S1024x1024) ![keep p (sOf k) c, 0] (Sn (half (sOf k))).size b3)
    (le_of_eq (set_oR _ _ _))) $$ Ho; iintro Ho
  iapply (wp_store 𝒱₀ (c : Thread nD τ) none Set.univ (m := oM) (r := Rect.unit (s := S1024x1024) ![keep p (sOf k) c, 0] (Sn (half (sOf k))).size b4) (Mk := Finset.univ)
    (le_of_eq ((View.setOn_univ _).trans (set_oR _ _ _)))) $$ Ho; iintro Ho
  iapply Hk
  unfold Rdy
  rw [if_pos (by omega), past_step]
  unfold old
  rw [if_pos hk]
  isplitl [Hf]; · iexact Hf
  isplitl [Hpast Hz Hz' Hc]
  · isplitl [Hz Hz' Hc]
    · isplitl [Hz]; · iexact Hz
      isplitl [Hz']; · iexact Hz'
      iexists g; unfold cPts; iexact Hc
    iexact Hpast
  isplitl [Hp]; · iexact Hp
  rw [show base p c (k.val + 1) = keep p (sOf k) c by unfold keep; rw [hs],
    half_lt k hk]
  have hgx : ∀ x, (slotR p (sOf k)).view.read (Elt F) g x = acc P p k.val (mate p (sOf k) c) ((keepR p (sOf k) c).view.emb x) := fun x => by
    rw [hg, ← hs]; rfl
  refine Entails.of_eq (pointsTo_congr fun i hi => ?_)
  obtain ⟨x, rfl⟩ := exists_emb_oR (inbO (keep_le p (sOf k) c)) hi
  refine (write_oR _ _ _ _ _ x).trans ?_
  rw [hpay, ← hs, acc_succ, hs]
  exact congrArg (FloatOps.addf (F := F) (φ := .f32) _) (hgx x)

end Ops

end Cert.Fused

end
-- ==== Proof.Offs.lean ====
/-
The offsets and the partners the fused kernel computes from its device's number, in closed form: the
rows each transfer moves, the rows each sum is stored to, and the device each transfer goes to.
-/
module

public import proofs.«01_k».proof.Proof.Protocol

@[expose] public section

namespace Cert.Fused

open Cert.KernelIdeal Cert.KernelIdeal.Gen
open Idealize.ShloMosaic

theorem snd_00 : ∀ c : Dev nD, k0_off5 c 0#32 = ![send 0 0 c, 0] := by decide +kernel
theorem snd_10 : ∀ c : Dev nD, k0_off6 c 256#32 1#32 = ![send 1 0 c, 0] := by decide +kernel
theorem snd_20 : ∀ c : Dev nD, k0_off6 c 512#32 2#32 = ![send 2 0 c, 0] := by decide +kernel
theorem snd_30 : ∀ c : Dev nD, k0_off5 c 768#32 = ![send 3 0 c, 0] := by decide +kernel
theorem snd_01 : ∀ c : Dev nD, k0_off8 c 0#32 = ![send 0 1 c, 0] := by decide +kernel
theorem snd_11 : ∀ c : Dev nD, k0_off10 c = ![send 1 1 c, 0] := by decide +kernel
theorem snd_21 : ∀ c : Dev nD, k0_off11 c = ![send 2 1 c, 0] := by decide +kernel
theorem snd_31 : ∀ c : Dev nD, k0_off8 c 768#32 = ![send 3 1 c, 0] := by decide +kernel
theorem snd_02 : ∀ c : Dev nD, k0_off13 c 0#32 = ![send 0 2 c, 0] := by decide +kernel
theorem snd_12 : ∀ c : Dev nD, k0_off15 c = ![send 1 2 c, 0] := by decide +kernel
theorem snd_22 : ∀ c : Dev nD, k0_off17 c = ![send 2 2 c, 0] := by decide +kernel
theorem snd_32 : ∀ c : Dev nD, k0_off13 c 768#32 = ![send 3 2 c, 0] := by decide +kernel
theorem kp_00 : ∀ c : Dev nD, k0_off7 c 0#32 = ![keep 0 0 c, 0] := by decide +kernel
theorem kp_10 : ∀ c : Dev nD, k0_off9 c 256#32 1#32 = ![keep 1 0 c, 0] := by decide +kernel
theorem kp_20 : ∀ c : Dev nD, k0_off9 c 512#32 2#32 = ![keep 2 0 c, 0] := by decide +kernel
theorem kp_30 : ∀ c : Dev nD, k0_off7 c 768#32 = ![keep 3 0 c, 0] := by decide +kernel
theorem kp_01 : ∀ c : Dev nD, k0_off12 c 0#32 = ![keep 0 1 c, 0] := by decide +kernel
theorem kp_11 : ∀ c : Dev nD, k0_off14 c = ![keep 1 1 c, 0] := by decide +kernel
theorem kp_21 : ∀ c : Dev nD, k0_off16 c = ![keep 2 1 c, 0] := by decide +kernel
theorem kp_31 : ∀ c : Dev nD, k0_off12 c 768#32 = ![keep 3 1 c, 0] := by decide +kernel
theorem kp_02 : ∀ c : Dev nD, k0_off18 c 0#32 = ![keep 0 2 c, 0] := by decide +kernel
theorem kp_12 : ∀ c : Dev nD, k0_off20 c = ![keep 1 2 c, 0] := by decide +kernel
theorem kp_22 : ∀ c : Dev nD, k0_off22 c = ![keep 2 2 c, 0] := by decide +kernel
theorem kp_32 : ∀ c : Dev nD, k0_off18 c 768#32 = ![keep 3 2 c, 0] := by decide +kernel
theorem gat_03 : ∀ c : Dev nD, k0_off19 c 0#32 = ![keep 0 (sOf 3) c, 0] := by decide +kernel
theorem gat_13 : ∀ c : Dev nD, k0_off21 c = ![keep 1 (sOf 3) c, 0] := by decide +kernel
theorem gat_23 : ∀ c : Dev nD, k0_off23 c = ![keep 2 (sOf 3) c, 0] := by decide +kernel
theorem gat_33 : ∀ c : Dev nD, k0_off19 c 768#32 = ![keep 3 (sOf 3) c, 0] := by decide +kernel
theorem gat_04 : ∀ c : Dev nD, k0_off24 c 0#32 = ![keep 0 (sOf 4) c, 0] := by decide +kernel
theorem gat_14 : ∀ c : Dev nD, k0_off25 c = ![keep 1 (sOf 4) c, 0] := by decide +kernel
theorem gat_24 : ∀ c : Dev nD, k0_off26 c = ![keep 2 (sOf 4) c, 0] := by decide +kernel
theorem gat_34 : ∀ c : Dev nD, k0_off24 c 768#32 = ![keep 3 (sOf 4) c, 0] := by decide +kernel
theorem gat_05 : ∀ c : Dev nD, k0_off27 c 0#32 = ![keep 0 (sOf 5) c, 0] := by decide +kernel
theorem gat_15 : ∀ c : Dev nD, k0_off28 c = ![keep 1 (sOf 5) c, 0] := by decide +kernel
theorem gat_25 : ∀ c : Dev nD, k0_off29 c = ![keep 2 (sOf 5) c, 0] := by decide +kernel
theorem gat_35 : ∀ c : Dev nD, k0_off27 c 768#32 = ![keep 3 (sOf 5) c, 0] := by decide +kernel
theorem flip_0 : ∀ c : Dev nD, (⟨k0_dev1 c, k0_dev1_lt c⟩ : Dev nD) = flip 0 c := by decide +kernel
theorem flip_1 : ∀ c : Dev nD, (⟨k0_dev2 c, k0_dev2_lt c⟩ : Dev nD) = flip 1 c := by decide +kernel
theorem flip_2 : ∀ c : Dev nD, (⟨k0_dev3 c, k0_dev3_lt c⟩ : Dev nD) = flip 2 c := by decide +kernel
theorem to_00 : ∀ c : Dev nD, (⟨k0_dev4 c, k0_dev4_lt c⟩ : Dev nD) = mate 0 (sOf 0) c := by decide +kernel
theorem to_10 : ∀ c : Dev nD, (⟨k0_dev5 c, k0_dev5_lt c⟩ : Dev nD) = mate 1 (sOf 0) c := by decide +kernel
theorem to_20 : ∀ c : Dev nD, (⟨k0_dev6 c, k0_dev6_lt c⟩ : Dev nD) = mate 2 (sOf 0) c := by decide +kernel
theorem to_30 : ∀ c : Dev nD, (⟨k0_dev7 c, k0_dev7_lt c⟩ : Dev nD) = mate 3 (sOf 0) c := by decide +kernel
theorem to_01 : ∀ c : Dev nD, (⟨k0_dev8 c, k0_dev8_lt c⟩ : Dev nD) = mate 0 (sOf 1) c := by decide +kernel
theorem to_11 : ∀ c : Dev nD, (⟨k0_dev9 c, k0_dev9_lt c⟩ : Dev nD) = mate 1 (sOf 1) c := by decide +kernel
theorem to_21 : ∀ c : Dev nD, (⟨k0_dev10 c, k0_dev10_lt c⟩ : Dev nD) = mate 2 (sOf 1) c := by decide +kernel
theorem to_31 : ∀ c : Dev nD, (⟨k0_dev11 c, k0_dev11_lt c⟩ : Dev nD) = mate 3 (sOf 1) c := by decide +kernel
theorem to_02 : ∀ c : Dev nD, (⟨k0_dev12 c, k0_dev12_lt c⟩ : Dev nD) = mate 0 (sOf 2) c := by decide +kernel
theorem to_12 : ∀ c : Dev nD, (⟨k0_dev13 c, k0_dev13_lt c⟩ : Dev nD) = mate 1 (sOf 2) c := by decide +kernel
theorem to_22 : ∀ c : Dev nD, (⟨k0_dev14 c, k0_dev14_lt c⟩ : Dev nD) = mate 2 (sOf 2) c := by decide +kernel
theorem to_32 : ∀ c : Dev nD, (⟨k0_dev15 c, k0_dev15_lt c⟩ : Dev nD) = mate 3 (sOf 2) c := by decide +kernel
theorem to_03 : ∀ c : Dev nD, (⟨k0_dev16 c, k0_dev16_lt c⟩ : Dev nD) = mate 0 (sOf 3) c := by decide +kernel
theorem to_13 : ∀ c : Dev nD, (⟨k0_dev17 c, k0_dev17_lt c⟩ : Dev nD) = mate 1 (sOf 3) c := by decide +kernel
theorem to_23 : ∀ c : Dev nD, (⟨k0_dev18 c, k0_dev18_lt c⟩ : Dev nD) = mate 2 (sOf 3) c := by decide +kernel
theorem to_33 : ∀ c : Dev nD, (⟨k0_dev19 c, k0_dev19_lt c⟩ : Dev nD) = mate 3 (sOf 3) c := by decide +kernel
theorem to_04 : ∀ c : Dev nD, (⟨k0_dev20 c, k0_dev20_lt c⟩ : Dev nD) = mate 0 (sOf 4) c := by decide +kernel
theorem to_14 : ∀ c : Dev nD, (⟨k0_dev21 c, k0_dev21_lt c⟩ : Dev nD) = mate 1 (sOf 4) c := by decide +kernel
theorem to_24 : ∀ c : Dev nD, (⟨k0_dev22 c, k0_dev22_lt c⟩ : Dev nD) = mate 2 (sOf 4) c := by decide +kernel
theorem to_34 : ∀ c : Dev nD, (⟨k0_dev23 c, k0_dev23_lt c⟩ : Dev nD) = mate 3 (sOf 4) c := by decide +kernel
theorem to_05 : ∀ c : Dev nD, (⟨k0_dev24 c, k0_dev24_lt c⟩ : Dev nD) = mate 0 (sOf 5) c := by decide +kernel
theorem to_15 : ∀ c : Dev nD, (⟨k0_dev25 c, k0_dev25_lt c⟩ : Dev nD) = mate 1 (sOf 5) c := by decide +kernel
theorem to_25 : ∀ c : Dev nD, (⟨k0_dev26 c, k0_dev26_lt c⟩ : Dev nD) = mate 2 (sOf 5) c := by decide +kernel
theorem to_35 : ∀ c : Dev nD, (⟨k0_dev27 c, k0_dev27_lt c⟩ : Dev nD) = mate 3 (sOf 5) c := by decide +kernel

end Cert.Fused

end
-- ==== Proof.Sums.lean ====
/-
The sums of the fused kernel's reducing steps, load by load, and a step's two waits in one rule.
-/
module

public import proofs.«01_k».proof.Proof.Steps
public import proofs.«01_k».proof.Proof.Offs

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ops

variable (P : Dev nD → CO F) (K : Dev nD × CIx → ℕ)

/-- Vector `v`'s rows are those of `f` from row `a` on. -/
def RowsAt {n : ℕ} (a : ℕ) (f : CO F) (v : Vec F (Sn n) .f32) : Prop :=
  ∀ (x : (Sn n).Idx) (i : S1024x1024.Idx), (i 0).val = a + (x 0).val → (i 1).val = (x 1).val → v x = f i

theorem rowsAt_oR {n a : ℕ} (h) (f : CO F) : RowsAt a f ((oR ![a, 0] n h).view.read (Elt F) f) := fun x i h0 h1 => by
  rw [read_oR]
  congr 1
  funext b
  refine Fin.ext ?_
  fin_cases b
  · exact (emb_oR_0 a n h x).trans h0.symm
  · exact (emb_oR_1 a n h x).trans h1.symm

/-- A reducing step's rows received. -/
def Arr (c : Dev nD) (p : Fin 4) (k : Fin 6) : sProp 𝕄 := iprop(∃ g, ⌜Got P p (sOf k) c g⌝ ∗ Mid P c p k g)

/-- The load of the rows a device keeps. -/
theorem load_kept {α : Type} {Q : α → sProp 𝕄} {a : ℕ} {k' : Vec F (Sn a) .f32 → Prog (TpuEff nD τ sig (Elt F) Λ₀ .tc) α}
    (c : Dev nD) (p : Fin 4) (k : Fin 6) (ha : a = half (sOf k)) {off : Fin 2 → ℕ} (hoff : off = ![keep p (sOf k) c, 0]) {b l} :
    Arr P c p k
      ⊢ iprop((∀ v, ⌜RowsAt (keep p (sOf k) c) (acc P p k.val c) v⌝ -∗ Arr P c p k -∗ wp frame (wpE (defs₀ (F := F)) 𝒱₀ (c : Thread nD τ) none) Set.univ (k' v) Q)
          -∗ wp frame (wpE (defs₀ (F := F)) 𝒱₀ (c : Thread nD τ) none) Set.univ
              (.op (.load oM (Rect.unit (s := S1024x1024) off (Sn a).size b).toLoadRect l) k') Q) := by
  subst ha hoff
  unfold Arr
  iintro ⟨%g, %hg, H⟩ Hk
  unfold Mid oPts
  icases H with ⟨H1, H2, H3, H4, H5, Ho, H6⟩
  iapply (wp_load_rect 𝒱₀ (c : Thread nD τ) none Set.univ (m := oM) (r := Rect.unit (s := S1024x1024) ![keep p (sOf k) c, 0] (Sn (half (sOf k))).size b)
    (le_of_eq (set_oR _ _ _))) $$ Ho; iintro Ho
  ispecialize Hk $$ %_ %(rowsAt_oR (inbO (keep_le p (sOf k) c)) (acc P p k.val c))
  iapply Hk
  iexists g
  isplitr; · ipureintro; exact hg
  isplitl [H1]; · iexact H1
  isplitl [H2]; · iexact H2
  isplitl [H3]; · iexact H3
  isplitl [H4]; · iexact H4
  isplitl [H5]; · iexact H5
  isplitl [Ho]; · iexact Ho
  iexact H6

/-- The load of the rows received. -/
theorem load_came {α : Type} {Q : α → sProp 𝕄} {a : ℕ} {k' : Vec F (Sn a) .f32 → Prog (TpuEff nD τ sig (Elt F) Λ₀ .tc) α}
    (c : Dev nD) (p : Fin 4) (k : Fin 6) (hk : k.val < 3) (ha : a = half (sOf k)) {off : Fin 2 → ℕ} (hoff : off = ![slot p (sOf k), 0]) {b l} :
    Arr P c p k
      ⊢ iprop((∀ v, ⌜RowsAt (keep p (sOf k) c) (acc P p k.val (mate p (sOf k) c)) v⌝ -∗ Arr P c p k -∗ wp frame (wpE (defs₀ (F := F)) 𝒱₀ (c : Thread nD τ) none) Set.univ (k' v) Q)
          -∗ wp frame (wpE (defs₀ (F := F)) 𝒱₀ (c : Thread nD τ) none) Set.univ
              (.op (.load cM (Rect.unit (s := S896x1024) off (Sn a).size b).toLoadRect l) k') Q) := by
  subst ha hoff
  unfold Arr
  iintro ⟨%g, %hg, H⟩ Hk
  unfold Mid cPts
  icases H with ⟨H1, H2, H3, H4, H5, H6, Hc⟩
  iapply (wp_load_rect 𝒱₀ (c : Thread nD τ) none Set.univ (m := cM) (r := Rect.unit (s := S896x1024) ![slot p (sOf k), 0] (Sn (half (sOf k))).size b)
    (le_of_eq (set_cR _ _ _))) $$ Hc; iintro Hc
  have hv : RowsAt (keep p (sOf k) c) (acc P p k.val (mate p (sOf k) c)) ((slotR p (sOf k)).view.read (Elt F) g) := by
    rw [hg, sOf_lt hk]
    exact rowsAt_oR (inbO (keep_le p (sOf k) c)) _
  ispecialize Hk $$ %_ %hv
  iapply Hk
  iexists g
  isplitr; · ipureintro; exact hg
  isplitl [H1]; · iexact H1
  isplitl [H2]; · iexact H2
  isplitl [H3]; · iexact H3
  isplitl [H4]; · iexact H4
  isplitl [H5]; · iexact H5
  isplitl [H6]; · iexact H6
  iexact Hc

/-- The store of the sum. -/
theorem store_sum {α : Type} {Q : α → sProp 𝕄} {a : ℕ} {k' : PUnit → Prog (TpuEff nD τ sig (Elt F) Λ₀ .tc) α}
    (c : Dev nD) (p : Fin 4) (k : Fin 6) (hk : k.val < 3) (ha : a = half (sOf k)) {off : Fin 2 → ℕ} (hoff : off = ![keep p (sOf k) c, 0]) {b}
    {x : Vec F (Sn a) .f32} (hx : RowsAt (keep p (sOf k) c) (acc P p (k.val + 1) c) x) {h1 h2} :
    Arr P c p k
      ⊢ iprop((Rdy P c p (k.val + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.store oM (Rect.unit (s := S1024x1024) off (Sn a).size b) x Finset.univ h1 h2) k') Q) := by
  subst ha hoff
  have hs := sOf_lt hk
  unfold Arr
  iintro ⟨%g, %hg, H⟩ Hk
  unfold Mid oPts
  icases H with ⟨Hf, Hpast, Hz, Hz', Hp, Ho, Hc⟩
  iapply (wp_store 𝒱₀ (c : Thread nD τ) none Set.univ (m := oM) (r := Rect.unit (s := S1024x1024) ![keep p (sOf k) c, 0] (Sn (half (sOf k))).size b) (Mk := Finset.univ)
    (le_of_eq ((View.setOn_univ _).trans (set_oR _ _ _)))) $$ Ho; iintro Ho
  iapply Hk
  unfold Rdy
  rw [if_pos (by omega), past_step]
  unfold old
  rw [if_pos hk]
  isplitl [Hf]; · iexact Hf
  isplitl [Hpast Hz Hz' Hc]
  · isplitl [Hz Hz' Hc]
    · isplitl [Hz]; · iexact Hz
      isplitl [Hz']; · iexact Hz'
      iexists g; iexact Hc
    iexact Hpast
  isplitl [Hp]; · iexact Hp
  rw [show base p c (k.val + 1) = keep p (sOf k) c by unfold keep; rw [hs],
    half_lt k hk]
  refine Entails.of_eq (pointsTo_congr fun i hi => ?_)
  obtain ⟨y, rfl⟩ := exists_emb_oR (inbO (keep_le p (sOf k) c)) hi
  refine (write_oR _ _ _ _ _ y).trans ?_
  exact hx y _ (emb_oR_0 _ _ _ y) (emb_oR_1 _ _ _ y)

/-- A vector that adds the rows kept and the rows received holds the step's sums. -/
theorem rowsAt_sum (c : Dev nD) (p : Fin 4) (k : Fin 6) (hk : k.val < 3) {n a : ℕ} {v w x : Vec F (Sn n) .f32}
    (hv : RowsAt a (acc P p k.val c) v) (hw : RowsAt a (acc P p k.val (mate p (sOf k) c)) w)
    (hx : ∀ i, x i = FloatOps.addf (F := F) (φ := .f32) (v i) (w i)) : RowsAt a (acc P p (k.val + 1) c) x := fun y i h0 h1 => by
  have hs := sOf_lt hk
  rw [hx, hv y i h0 h1, hw y i h0 h1, ← hs, acc_succ]

/-- A reducing step's two waits. -/
theorem waits_reduce {α : Type} {Q : α → sProp 𝕄} {k' : PUnit → Prog (TpuEff nD τ sig (Elt F) Λ₀ .tc) α}
    (c : Dev nD) (p : Fin 4) (k : Fin 6) (hk : k.val < 3) {j : ℕ} (hj : k.val + 2 < j / 4 + 2)
    {q q' : DmaSem sig} (hq : q = sendSem p k) (hq' : q' = recvSem p k) {s s' : Shape}
    {src dst' : Memref sig .tc .vmem s .f32} (hc : dst'.view.dmaCredit = crd (half (sOf k)))
    {src2 dst2 : Memref sig .tc .vmem s' .f32} (hc2 : dst2.view.dmaCredit = crd (half (sOf k)))
    {hsrc : src.view.WordExact} {hdst : dst'.view.WordExact} {hsrc2 : src2.view.WordExact} {hdst2 : dst2.view.WordExact} :
    iprop(records P K ∗ Ow (F := F) c j ∗ Fly P c p k)
      ⊢ iprop(((Ow (F := F) c j ∗ Arr P c p k) -∗ wp frame (wpE (defs₀ (F := F)) 𝒱₀ (c : Thread nD τ) none) Set.univ (k' ⟨⟩) Q)
          -∗ wp frame (wpE (defs₀ (F := F)) 𝒱₀ (c : Thread nD τ) none) Set.univ
            (.op (.waitDma2 q src dst' hsrc hdst) fun _ => .op (.waitDma2 q' src2 dst2 hsrc2 hdst2) k') Q) := by
  iintro ⟨#HR, HO, H⟩ Hk
  iapply (wait_send P K c p k (j := j) (by omega) hq hc) $$ [HO H]
  · isplitr; · iexact HR
    isplitl [HO]; · iexact HO
    iexact H
  iintro ⟨HO, H⟩
  iapply (wait_recv_reduce P K c p k hk hj hq' hc2) $$ [HO H]
  · isplitr; · iexact HR
    isplitl [HO]; · iexact HO
    iexact H
  iintro ⟨HO, H⟩
  iapply Hk
  isplitl [HO]; · iexact HO
  unfold Arr
  iexact H

/-- A gathering step's two waits. -/
theorem waits_gather {α : Type} {Q : α → sProp 𝕄} {k' : PUnit → Prog (TpuEff nD τ sig (Elt F) Λ₀ .tc) α}
    (c : Dev nD) (p : Fin 4) (k : Fin 6) (hk : ¬ k.val < 3) {j : ℕ} (hj : k.val + 2 < j / 4 + 2)
    {q q' : DmaSem sig} (hq : q = sendSem p k) (hq' : q' = recvSem p k) {s s' : Shape}
    {src dst' : Memref sig .tc .vmem s .f32} (hc : dst'.view.dmaCredit = crd (half (sOf k)))
    {src2 dst2 : Memref sig .tc .vmem s' .f32} (hc2 : dst2.view.dmaCredit = crd (half (sOf k)))
    {hsrc : src.view.WordExact} {hdst : dst'.view.WordExact} {hsrc2 : src2.view.WordExact} {hdst2 : dst2.view.WordExact} :
    iprop(records P K ∗ Ow (F := F) c j ∗ Fly P c p k)
      ⊢ iprop(((Ow (F := F) c j ∗ Rdy P c p (k.val + 1)) -∗ wp frame (wpE (defs₀ (F := F)) 𝒱₀ (c : Thread nD τ) none) Set.univ (k' ⟨⟩) Q)
          -∗ wp frame (wpE (defs₀ (F := F)) 𝒱₀ (c : Thread nD τ) none) Set.univ
            (.op (.waitDma2 q src dst' hsrc hdst) fun _ => .op (.waitDma2 q' src2 dst2 hsrc2 hdst2) k') Q) := by
  iintro ⟨#HR, HO, H⟩ Hk
  iapply (wait_send P K c p k (j := j) (by omega) hq hc) $$ [HO H]
  · isplitr; · iexact HR
    isplitl [HO]; · iexact HO
    iexact H
  iintro ⟨HO, H⟩
  iapply (wait_recv_gather P K c p k hk hj hq' hc2) $$ [HO H]
  · isplitr; · iexact HR
    isplitl [HO]; · iexact HO
    iexact H
  iintro ⟨HO, H⟩
  iapply Hk
  isplitl [HO]; · iexact HO
  iexact H

end Ops

end Cert.Fused

end
-- ==== Proof.Reduce.lean ====
/-
The reducing half of the all-reduce: the kernel's text from the fourth part's first transfer to the
fourth part's first gathering one, a part of the text at a time.
-/
module

public import proofs.«01_k».proof.Proof.Sums
public import Idealize.ShloMosaic.Lib.Pipeline.Value

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the buffers and semaphores the launch gives it. -/
@[reducible] def on {β : Sort _} (f : (a0 : Memref sig .tc .vmem S4x256x1024 .f32) → a0.IsWhole → (a1 : Memref sig .tc .vmem S1024x1024 .f32) → a1.IsWhole →
    (a2 : Memref sig .tc .vmem S1024x1024 .f32) → a2.IsWhole → (a3 : Memref sig .tc .hbm S4x1024x16x128 .f32) → a3.IsWhole →
    (a4 : Memref sig .tc .hbm S4x1024x16x128 .f32) → a4.IsWhole → (a5 : Memref sig .tc .vmem S1024x1024 .f32) → a5.IsWhole →
    (a6 : Memref sig .tc .vmem S896x1024 .f32) → a6.IsWhole → (a7 : Memref sig .tc .vmem S4x2x1024x128 .f32) → a7.IsWhole →
    (a8 : Memref sig .tc .vmem S4x2x1024x128 .f32) → a8.IsWhole → DmaSems sig S16 → DmaSems sig S24 → DmaSems sig S24 → β) : β :=
  f (Memref.whole cc0_stg0_0) (Memref.isWhole_whole _) (Memref.whole cc0_stg1_0) (Memref.isWhole_whole _) (Memref.whole cc0_stg2_0) (Memref.isWhole_whole _)
    (Memref.whole main_arg2) (Memref.isWhole_whole _) (Memref.whole main_arg3) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5

/-- A sum whose first summand is cast to its own shape. -/
theorem addf_cast {s : Shape} (v w : FVec F s .f32) (h : s.ShapeCasts s) : addf (shapeCast s v h) w = fun i => FloatOps.addf (v i) (w i) := by
  rw [shapeCast_self]; rfl

section Ops

variable (P : Dev nD → CO F) (K : Dev nD × CIx → ℕ)

theorem part22_run (c : Dev nD) (v5 : BitVec 32) (v7 : BitVec 32) (v10 : BitVec 32) (v248 : BitVec 32) (v353 : BitVec 32) (Kt : (BitVec 32) → sProp 𝕄) :
    iprop(records P K ∗ Ow (F := F) c 3 ∗ Rdy P c 3 0 ∗ Fly P c 0 0)
      ⊢ iprop((∀ r, (Ow (F := F) c 4 ∗ Fly P c 3 0 ∗ Rdy P c 0 1) -∗ Kt r) -∗ wp frame (wpE (defs₀ (F := F)) 𝒱₀ (c : Thread nD τ) none) Set.univ (on (k0_part22 (F := F)) c v5 v7 v10 v248 v353) Kt) := by
  simp only [on, k0_part22_eq_skeleton, k0_part22_skel, Prog.lift, Prog.bind_op, Prog.bind_ret, Prog.pure_eq_ret]
  iintro ⟨#HR, HO, H3, H0⟩ Hk
  iapply (start_reduce P K c 3 0 (by decide) (to_30 c) (j := 3) rfl rfl (snd_30 c) rfl rfl rfl) $$ [HO H3]
  · isplitr; · iexact HR
    isplitl [HO]; · iexact HO
    iexact H3
  iintro ⟨HO, H3⟩
  iapply (waits_reduce P K c 0 0 (by decide) (j := 4) (by decide) rfl rfl rfl rfl) $$ [HO H0]
  · isplitr; · iexact HR
    isplitl [HO]; · iexact HO
    iexact H0
  iintro ⟨HO, H0⟩
  iapply (load_kept P c 0 0 rfl (kp_00 c)) $$ H0; iintro %v %hv H0
  iapply (load_came P c 0 0 (by decide) rfl rfl) $$ H0; iintro %w %hw H0
  iapply (load_kept P c 0 0 rfl (kp_00 c)) $$ H0; iintro %u %_ H0
  iapply (store_sum P c 0 0 (by decide) rfl (kp_00 c) (rowsAt_sum P c 0 0 (by decide) hv hw fun i => congrFun (addf_cast v w _) i)) $$ H0; iintro H0
  rw [wp_ret]; imodintro
  iapply Hk
  isplitl [HO]; · iexact HO
  isplitl [H3]; · iexact H3
  iexact H0

theorem part23_run (c : Dev nD) (v7 : BitVec 32) (v11 : BitVec 32) (v353 : BitVec 32) (v469 : BitVec 32) (v730 : BitVec 32) (Kt : (Σ' (v731 : BitVec 32), BitVec 32) → sProp 𝕄) :
    iprop(records P K ∗ Ow (F := F) c 4 ∗ Rdy P c 0 1 ∗ Fly P c 1 0)
      ⊢ iprop((∀ r, (Ow (F := F) c 5 ∗ Fly P c 0 1 ∗ Rdy P c 1 1) -∗ Kt r) -∗ wp frame (wpE (defs₀ (F := F)) 𝒱₀ (c : Thread nD τ) none) Set.univ (on (k0_part23 (F := F)) c v7 v11 v353 v469 v730) Kt) := by
  simp only [on, k0_part23_eq_skeleton, k0_part23_skel, Prog.lift, Prog.bind_op, Prog.bind_ret, Prog.pure_eq_ret]
  iintro ⟨#HR, HO, H0, H1⟩ Hk
  iapply (start_reduce P K c 0 1 (by decide) (to_01 c) (j := 4) rfl rfl (snd_01 c) rfl rfl rfl) $$ [HO H0]
  · isplitr; · iexact HR
    isplitl [HO]; · iexact HO
    iexact H0
  iintro ⟨HO, H0⟩
  iapply (waits_reduce P K c 1 0 (by decide) (j := 5) (by decide) rfl rfl rfl rfl) $$ [HO H1]
  · isplitr; · iexact HR
    isplitl [HO]; · iexact HO
    iexact H1
  iintro ⟨HO, H1⟩
  iapply (load_kept P c 1 0 rfl (kp_10 c)) $$ H1; iintro %v %hv H1
  iapply (load_came P c 1 0 (by decide) rfl rfl) $$ H1; iintro %w %hw H1
  iapply (load_kept P c 1 0 rfl (kp_10 c)) $$ H1; iintro %u %_ H1
  iapply (store_sum P c 1 0 (by decide) rfl (kp_10 c) (rowsAt_sum P c 1 0 (by decide) hv hw fun i => congrFun (addf_cast v w _) i)) $$ H1; iintro H1
  rw [wp_ret]; imodintro
  iapply Hk
  isplitl [HO]; · iexact HO
  isplitl [H0]; · iexact H0
  iexact H1

theorem part24_run (c : Dev nD) (v9 : BitVec 32) (v12 : BitVec 32) (v469 : BitVec 32) (v585 : BitVec 32) (c64_i32_532 : BitVec 32) (Kt : (BitVec 32) → sProp 𝕄) :
    iprop(records P K ∗ Ow (F := F) c 5 ∗ Rdy P c 1 1 ∗ Fly P c 2 0)
      ⊢ iprop((∀ r, (Ow (F := F) c 6 ∗ Fly P c 1 1 ∗ Rdy P c 2 1) -∗ Kt r) -∗ wp frame (wpE (defs₀ (F := F)) 𝒱₀ (c : Thread nD τ) none) Set.univ (on (k0_part24 (F := F)) c v9 v12 v469 v585 c64_i32_532) Kt) := by
  simp only [on, k0_part24_eq_skeleton, k0_part24_skel, Prog.lift, Prog.bind_op, Prog.bind_ret, Prog.pure_eq_ret]
  iintro ⟨#HR, HO, H1, H2⟩ Hk
  iapply (start_reduce P K c 1 1 (by decide) (to_11 c) (j := 5) rfl rfl (snd_11 c) rfl rfl rfl) $$ [HO H1]
  · isplitr; · iexact HR
    isplitl [HO]; · iexact HO
    iexact H1
  iintro ⟨HO, H1⟩
  iapply (waits_reduce P K c 2 0 (by decide) (j := 6) (by decide) rfl rfl rfl rfl) $$ [HO H2]
  · isplitr; · iexact HR
    isplitl [HO]; · iexact HO
    iexact H2
  iintro ⟨HO, H2⟩
  iapply (load_kept P c 2 0 rfl (kp_20 c)) $$ H2; iintro %v %hv H2
  iapply (load_came P c 2 0 (by decide) rfl rfl) $$ H2; iintro %w %hw H2
  iapply (load_kept P c 2 0 rfl (kp_20 c)) $$ H2; iintro %u %_ H2
  iapply (store_sum P c 2 0 (by decide) rfl (kp_20 c) (rowsAt_sum P c 2 0 (by decide) hv hw fun i => congrFun (addf_cast v w _) i)) $$ H2; iintro H2
  rw [wp_ret]; imodintro
  iapply Hk
  isplitl [HO]; · iexact HO
  isplitl [H1]; · iexact H1
  iexact H2

theorem part25_run (c : Dev nD) (v5 : BitVec 32) (v10 : BitVec 32) (v585 : BitVec 32) (v701 : BitVec 32) (Kt : (Σ' (v791 : BitVec 32), FVec F S128x1024 .f32) → sProp 𝕄) :
    iprop(records P K ∗ Ow (F := F) c 6 ∗ Rdy P c 2 1 ∗ Fly P c 3 0)
      ⊢ iprop((∀ r, (⌜RowsAt (keep 3 (sOf 0) c) (acc P 3 1 c) r.2⌝ ∗ Ow (F := F) c 7 ∗ Fly P c 2 1 ∗ Arr P c 3 0) -∗ Kt r) -∗ wp frame (wpE (defs₀ (F := F)) 𝒱₀ (c : Thread nD τ) none) Set.univ (on (k0_part25 (F := F)) c v5 v10 v585 v701) Kt) := by
  simp only [on, k0_part25_eq_skeleton, k0_part25_skel, Prog.lift, Prog.bind_op, Prog.bind_ret, Prog.pure_eq_ret]
  iintro ⟨#HR, HO, H2, H3⟩ Hk
  iapply (start_reduce P K c 2 1 (by decide) (to_21 c) (j := 6) rfl rfl (snd_21 c) rfl rfl rfl) $$ [HO H2]
  · isplitr; · iexact HR
    isplitl [HO]; · iexact HO
    iexact H2
  iintro ⟨HO, H2⟩
  iapply (waits_reduce P K c 3 0 (by decide) (j := 7) (by decide) rfl rfl rfl rfl) $$ [HO H3]
  · isplitr; · iexact HR
    isplitl [HO]; · iexact HO
    iexact H3
  iintro ⟨HO, H3⟩
  iapply (load_kept P c 3 0 rfl (kp_30 c)) $$ H3; iintro %v %hv H3
  iapply (load_came P c 3 0 (by decide) rfl rfl) $$ H3; iintro %w %hw H3
  iapply (load_kept P c 3 0 rfl (kp_30 c)) $$ H3; iintro %u %_ H3
  have hx' : RowsAt (keep 3 (sOf 0) c) (acc P 3 1 c) (k0_pay57 v w) := rowsAt_sum P c 3 0 (by decide) hv hw fun i => congrFun (addf_cast v w _) i
  rw [wp_ret]; imodintro
  iapply Hk
  isplitr; · ipureintro; exact hx'
  isplitl [HO]; · iexact HO
  isplitl [H2]; · iexact H2
  iexact H3

theorem part26_run (c : Dev nD) (v7 : BitVec 32) (v11 : BitVec 32) (v701 : BitVec 32) (v731 : BitVec 32) (v817 : FVec F S128x1024 .f32) (hx : RowsAt (keep 3 (sOf 0) c) (acc P 3 1 c) v817) (Kt : (Σ' (v821 : BitVec 32), FVec F S64x1024 .f32) → sProp 𝕄) :
    iprop(records P K ∗ Ow (F := F) c 7 ∗ Arr P c 3 0 ∗ Fly P c 0 1)
      ⊢ iprop((∀ r, (⌜RowsAt (keep 0 (sOf 1) c) (acc P 0 2 c) r.2⌝ ∗ Ow (F := F) c 8 ∗ Fly P c 3 1 ∗ Arr P c 0 1) -∗ Kt r) -∗ wp frame (wpE (defs₀ (F := F)) 𝒱₀ (c : Thread nD τ) none) Set.univ (on (k0_part26 (F := F)) c v7 v11 v701 v731 v817) Kt) := by
  simp only [on, k0_part26_eq_skeleton, k0_part26_skel, Prog.lift, Prog.bind_op, Prog.bind_ret, Prog.pure_eq_ret]
  iintro ⟨#HR, HO, H3, H0⟩ Hk
  iapply (store_sum P c 3 0 (by decide) rfl (kp_30 c) hx) $$ H3; iintro H3
  iapply (start_reduce P K c 3 1 (by decide) (to_31 c) (j := 7) rfl rfl (snd_31 c) rfl rfl rfl) $$ [HO H3]
  · isplitr; · iexact HR
    isplitl [HO]; · iexact HO
    iexact H3
  iintro ⟨HO, H3⟩
  iapply (waits_reduce P K c 0 1 (by decide) (j := 8) (by decide) rfl rfl rfl rfl) $$ [HO H0]
  · isplitr; · iexact HR
    isplitl [HO]; · iexact HO
    iexact H0
  iintro ⟨HO, H0⟩
  iapply (load_kept P c 0 1 rfl (kp_01 c)) $$ H0; iintro %v %hv H0
  iapply (load_came P c 0 1 (by decide) rfl rfl) $$ H0; iintro %w %hw H0
  have hx' : RowsAt (keep 0 (sOf 1) c) (acc P 0 2 c) (k0_pay58 v w) := rowsAt_sum P c 0 1 (by decide) hv hw fun i => congrFun (addf_cast v w _) i
  rw [wp_ret]; imodintro
  iapply Hk
  isplitr; · ipureintro; exact hx'
  isplitl [HO]; · iexact HO
  isplitl [H3]; · iexact H3
  iexact H0

theorem part27_run (c : Dev nD) (v9 : BitVec 32) (v12 : BitVec 32) (v731 : BitVec 32) (v761 : BitVec 32) (v847 : FVec F S64x1024 .f32) (hx : RowsAt (keep 0 (sOf 1) c) (acc P 0 2 c) v847) (Kt : (Σ' (v851 : BitVec 32), FVec F S64x1024 .f32) → sProp 𝕄) :
    iprop(records P K ∗ Ow (F := F) c 8 ∗ Arr P c 0 1 ∗ Fly P c 1 1)
      ⊢ iprop((∀ r, (⌜RowsAt (keep 1 (sOf 1) c) (acc P 1 2 c) r.2⌝ ∗ Ow (F := F) c 9 ∗ Fly P c 0 2 ∗ Arr P c 1 1) -∗ Kt r) -∗ wp frame (wpE (defs₀ (F := F)) 𝒱₀ (c : Thread nD τ) none) Set.univ (on (k0_part27 (F := F)) c v9 v12 v731 v761 v847) Kt) := by
  simp only [on, k0_part27_eq_skeleton, k0_part27_skel, Prog.lift, Prog.bind_op, Prog.bind_ret, Prog.pure_eq_ret]
  iintro ⟨#HR, HO, H0, H1⟩ Hk
  iapply (load_kept P c 0 1 rfl (kp_01 c)) $$ H0; iintro %u %_ H0
  iapply (store_sum P c 0 1 (by decide) rfl (kp_01 c) hx) $$ H0; iintro H0
  iapply (start_reduce P K c 0 2 (by decide) (to_02 c) (j := 8) rfl rfl (snd_02 c) rfl rfl rfl) $$ [HO H0]
  · isplitr; · iexact HR
    isplitl [HO]; · iexact HO
    iexact H0
  iintro ⟨HO, H0⟩
  iapply (waits_reduce P K c 1 1 (by decide) (j := 9) (by decide) rfl rfl rfl rfl) $$ [HO H1]
  · isplitr; · iexact HR
    isplitl [HO]; · iexact HO
    iexact H1
  iintro ⟨HO, H1⟩
  iapply (load_kept P c 1 1 rfl (kp_11 c)) $$ H1; iintro %v %hv H1
  iapply (load_came P c 1 1 (by decide) rfl rfl) $$ H1; iintro %w %hw H1
  have hx' : RowsAt (keep 1 (sOf 1) c) (acc P 1 2 c) (k0_pay59 v w) := rowsAt_sum P c 1 1 (by decide) hv hw fun i => congrFun (addf_cast v w _) i
  rw [wp_ret]; imodintro
  iapply Hk
  isplitr; · ipureintro; exact hx'
  isplitl [HO]; · iexact HO
  isplitl [H0]; · iexact H0
  iexact H1

theorem part28_run (c : Dev nD) (v5 : BitVec 32) (v10 : BitVec 32) (v761 : BitVec 32) (v791 : BitVec 32) (v877 : FVec F S64x1024 .f32) (hx : RowsAt (keep 1 (sOf 1) c) (acc P 1 2 c) v877) (Kt : (Σ' (v881 : BitVec 32), FVec F S64x1024 .f32) → sProp 𝕄) :
    iprop(records P K ∗ Ow (F := F) c 9 ∗ Arr P c 1 1 ∗ Fly P c 2 1)
      ⊢ iprop((∀ r, (⌜RowsAt (keep 2 (sOf 1) c) (acc P 2 2 c) r.2⌝ ∗ Ow (F := F) c 10 ∗ Fly P c 1 2 ∗ Arr P c 2 1) -∗ Kt r) -∗ wp frame (wpE (defs₀ (F := F)) 𝒱₀ (c : Thread nD τ) none) Set.univ (on (k0_part28 (F := F)) c v5 v10 v761 v791 v877) Kt) := by
  simp only [on, k0_part28_eq_skeleton, k0_part28_skel, Prog.lift, Prog.bind_op, Prog.bind_ret, Prog.pure_eq_ret]
  iintro ⟨#HR, HO, H1, H2⟩ Hk
  iapply (load_kept P c 1 1 rfl (kp_11 c)) $$ H1; iintro %u %_ H1
  iapply (store_sum P c 1 1 (by decide) rfl (kp_11 c) hx) $$ H1; iintro H1
  iapply (start_reduce P K c 1 2 (by decide) (to_12 c) (j := 9) rfl rfl (snd_12 c) rfl rfl rfl) $$ [HO H1]
  · isplitr; · iexact HR
    isplitl [HO]; · iexact HO
    iexact H1
  iintro ⟨HO, H1⟩
  iapply (waits_reduce P K c 2 1 (by decide) (j := 10) (by decide) rfl rfl rfl rfl) $$ [HO H2]
  · isplitr; · iexact HR
    isplitl [HO]; · iexact HO
    iexact H2
  iintro ⟨HO, H2⟩
  iapply (load_kept P c 2 1 rfl (kp_21 c)) $$ H2; iintro %v %hv H2
  iapply (load_came P c 2 1 (by decide) rfl rfl) $$ H2; iintro %w %hw H2
  have hx' : RowsAt (keep 2 (sOf 1) c) (acc P 2 2 c) (k0_pay60 v w) := rowsAt_sum P c 2 1 (by decide) hv hw fun i => congrFun (addf_cast v w _) i
  rw [wp_ret]; imodintro
  iapply Hk
  isplitr; · ipureintro; exact hx'
  isplitl [HO]; · iexact HO
  isplitl [H1]; · iexact H1
  iexact H2

theorem part29_run (c : Dev nD) (v7 : BitVec 32) (v11 : BitVec 32) (v791 : BitVec 32) (v821 : BitVec 32) (v907 : FVec F S64x1024 .f32) (hx : RowsAt (keep 2 (sOf 1) c) (acc P 2 2 c) v907) (Kt : (Σ' (v911 : BitVec 32) (v935 : FVec F S64x1024 .f32), Vec F S64x1024 .f32) → sProp 𝕄) :
    iprop(records P K ∗ Ow (F := F) c 10 ∗ Arr P c 2 1 ∗ Fly P c 3 1)
      ⊢ iprop((∀ r, (⌜RowsAt (keep 3 (sOf 1) c) (acc P 3 1 c) r.2.1⌝ ∗ ⌜RowsAt (keep 3 (sOf 1) c) (acc P 3 1 (mate 3 (sOf 1) c)) r.2.2⌝ ∗ Ow (F := F) c 11 ∗ Fly P c 2 2 ∗ Arr P c 3 1) -∗ Kt r) -∗ wp frame (wpE (defs₀ (F := F)) 𝒱₀ (c : Thread nD τ) none) Set.univ (on (k0_part29 (F := F)) c v7 v11 v791 v821 v907) Kt) := by
  simp only [on, k0_part29_eq_skeleton, k0_part29_skel, Prog.lift, Prog.bind_op, Prog.bind_ret, Prog.pure_eq_ret]
  iintro ⟨#HR, HO, H2, H3⟩ Hk
  iapply (load_kept P c 2 1 rfl (kp_21 c)) $$ H2; iintro %u %_ H2
  iapply (store_sum P c 2 1 (by decide) rfl (kp_21 c) hx) $$ H2; iintro H2
  iapply (start_reduce P K c 2 2 (by decide) (to_22 c) (j := 10) rfl rfl (snd_22 c) rfl rfl rfl) $$ [HO H2]
  · isplitr; · iexact HR
    isplitl [HO]; · iexact HO
    iexact H2
  iintro ⟨HO, H2⟩
  iapply (waits_reduce P K c 3 1 (by decide) (j := 11) (by decide) rfl rfl rfl rfl) $$ [HO H3]
  · isplitr; · iexact HR
    isplitl [HO]; · iexact HO
    iexact H3
  iintro ⟨HO, H3⟩
  iapply (load_kept P c 3 1 rfl (kp_31 c)) $$ H3; iintro %v %hv H3
  iapply (load_came P c 3 1 (by decide) rfl rfl) $$ H3; iintro %w %hw H3
  have hv' : RowsAt (keep 3 (sOf 1) c) (acc P 3 1 c) (k0_pay61 v) := by rw [show k0_pay61 v = v from shapeCast_self _ _]; exact hv
  rw [wp_ret]; imodintro
  iapply Hk
  isplitr; · ipureintro; exact hv'
  isplitr; · ipureintro; exact hw
  isplitl [HO]; · iexact HO
  isplitl [H2]; · iexact H2
  iexact H3

theorem part30_run (c : Dev nD) (v9 : BitVec 32) (v12 : BitVec 32) (v821 : BitVec 32) (v851 : BitVec 32) (v935 : FVec F S64x1024 .f32) (v936 : Vec F S64x1024 .f32) (hv : RowsAt (keep 3 (sOf 1) c) (acc P 3 1 c) v935) (hw : RowsAt (keep 3 (sOf 1) c) (acc P 3 1 (mate 3 (sOf 1) c)) v936) (Kt : (Σ' (v941 : BitVec 32), FVec F S32x1024 .f32) → sProp 𝕄) :
    iprop(records P K ∗ Ow (F := F) c 11 ∗ Arr P c 3 1 ∗ Fly P c 0 2)
      ⊢ iprop((∀ r, (⌜RowsAt (keep 0 (sOf 2) c) (acc P 0 2 c) r.2⌝ ∗ Ow (F := F) c 12 ∗ Fly P c 3 2 ∗ Arr P c 0 2) -∗ Kt r) -∗ wp frame (wpE (defs₀ (F := F)) 𝒱₀ (c : Thread nD τ) none) Set.univ (on (k0_part30 (F := F)) c v9 v12 v821 v851 v935 v936) Kt) := by
  simp only [on, k0_part30_eq_skeleton, k0_part30_skel, Prog.lift, Prog.bind_op, Prog.bind_ret, Prog.pure_eq_ret]
  iintro ⟨#HR, HO, H3, H0⟩ Hk
  iapply (load_kept P c 3 1 rfl (kp_31 c)) $$ H3; iintro %u %_ H3
  iapply (store_sum P c 3 1 (by decide) rfl (kp_31 c) (rowsAt_sum P c 3 1 (by decide) hv hw fun i => rfl)) $$ H3; iintro H3
  iapply (start_reduce P K c 3 2 (by decide) (to_32 c) (j := 11) rfl rfl (snd_32 c) rfl rfl rfl) $$ [HO H3]
  · isplitr; · iexact HR
    isplitl [HO]; · iexact HO
    iexact H3
  iintro ⟨HO, H3⟩
  iapply (waits_reduce P K c 0 2 (by decide) (j := 12) (by decide) rfl rfl rfl rfl) $$ [HO H0]
  · isplitr; · iexact HR
    isplitl [HO]; · iexact HO
    iexact H0
  iintro ⟨HO, H0⟩
  iapply (load_kept P c 0 2 rfl (kp_02 c)) $$ H0; iintro %v %hv H0
  have hv' : RowsAt (keep 0 (sOf 2) c) (acc P 0 2 c) (k0_pay63 v) := by rw [show k0_pay63 v = v from shapeCast_self _ _]; exact hv
  rw [wp_ret]; imodintro
  iapply Hk
  isplitr; · ipureintro; exact hv'
  isplitl [HO]; · iexact HO
  isplitl [H3]; · iexact H3
  iexact H0

theorem part31_run (c : Dev nD) (v10 : BitVec 32) (v12 : BitVec 32) (v851 : BitVec 32) (v881 : BitVec 32) (v965 : FVec F S32x1024 .f32) (hv : RowsAt (keep 0 (sOf 2) c) (acc P 0 2 c) v965) (Kt : (PUnit) → sProp 𝕄) :
    iprop(records P K ∗ Ow (F := F) c 12 ∗ Arr P c 0 2 ∗ Fly P c 1 2)
      ⊢ iprop((∀ r, (Ow (F := F) c 13 ∗ Fly P c 0 3 ∗ Rdy P c 1 3) -∗ Kt r) -∗ wp frame (wpE (defs₀ (F := F)) 𝒱₀ (c : Thread nD τ) none) Set.univ (on (k0_part31 (F := F)) c v10 v12 v851 v881 v965) Kt) := by
  simp only [on, k0_part31_eq_skeleton, k0_part31_skel, Prog.lift, Prog.bind_op, Prog.bind_ret, Prog.pure_eq_ret]
  iintro ⟨#HR, HO, H0, H1⟩ Hk
  iapply (load_came P c 0 2 (by decide) rfl rfl) $$ H0; iintro %w %hw H0
  iapply (load_kept P c 0 2 rfl (kp_02 c)) $$ H0; iintro %u %_ H0
  iapply (store_sum P c 0 2 (by decide) rfl (kp_02 c) (rowsAt_sum P c 0 2 (by decide) hv hw fun i => rfl)) $$ H0; iintro H0
  iapply (start_gather P K c 0 3 (by decide) (to_03 c) (j := 12) rfl rfl (gat_03 c) (gat_03 c) rfl rfl) $$ [HO H0]
  · isplitr; · iexact HR
    isplitl [HO]; · iexact HO
    iexact H0
  iintro ⟨HO, H0⟩
  iapply (waits_reduce P K c 1 2 (by decide) (j := 13) (by decide) rfl rfl rfl rfl) $$ [HO H1]
  · isplitr; · iexact HR
    isplitl [HO]; · iexact HO
    iexact H1
  iintro ⟨HO, H1⟩
  iapply (load_kept P c 1 2 rfl (kp_12 c)) $$ H1; iintro %v %hv H1
  iapply (load_came P c 1 2 (by decide) rfl rfl) $$ H1; iintro %w %hw H1
  iapply (load_kept P c 1 2 rfl (kp_12 c)) $$ H1; iintro %u %_ H1
  iapply (store_sum P c 1 2 (by decide) rfl (kp_12 c) (rowsAt_sum P c 1 2 (by decide) hv hw fun i => congrFun (addf_cast v w _) i)) $$ H1; iintro H1
  rw [wp_ret]; imodintro
  iapply Hk
  isplitl [HO]; · iexact HO
  isplitl [H0]; · iexact H0
  iexact H1

theorem part32_run (c : Dev nD) (v10 : BitVec 32) (v11 : BitVec 32) (v911 : BitVec 32) (Kt : (PUnit) → sProp 𝕄) :
    iprop(records P K ∗ Ow (F := F) c 13 ∗ Rdy P c 1 3 ∗ Fly P c 2 2)
      ⊢ iprop((∀ r, (Ow (F := F) c 14 ∗ Fly P c 1 3 ∗ Rdy P c 2 3) -∗ Kt r) -∗ wp frame (wpE (defs₀ (F := F)) 𝒱₀ (c : Thread nD τ) none) Set.univ (on (k0_part32 (F := F)) c v10 v11 v911) Kt) := by
  simp only [on, k0_part32_eq_skeleton, k0_part32_skel, Prog.lift, Prog.bind_op, Prog.bind_ret, Prog.pure_eq_ret]
  iintro ⟨#HR, HO, H1, H2⟩ Hk
  iapply (start_gather P K c 1 3 (by decide) (to_13 c) (j := 13) rfl rfl (gat_13 c) (gat_13 c) rfl rfl) $$ [HO H1]
  · isplitr; · iexact HR
    isplitl [HO]; · iexact HO
    iexact H1
  iintro ⟨HO, H1⟩
  iapply (waits_reduce P K c 2 2 (by decide) (j := 14) (by decide) rfl rfl rfl rfl) $$ [HO H2]
  · isplitr; · iexact HR
    isplitl [HO]; · iexact HO
    iexact H2
  iintro ⟨HO, H2⟩
  iapply (load_kept P c 2 2 rfl (kp_22 c)) $$ H2; iintro %v %hv H2
  iapply (load_came P c 2 2 (by decide) rfl rfl) $$ H2; iintro %w %hw H2
  iapply (load_kept P c 2 2 rfl (kp_22 c)) $$ H2; iintro %u %_ H2
  iapply (store_sum P c 2 2 (by decide) rfl (kp_22 c) (rowsAt_sum P c 2 2 (by decide) hv hw fun i => congrFun (addf_cast v w _) i)) $$ H2; iintro H2
  rw [wp_ret]; imodintro
  iapply Hk
  isplitl [HO]; · iexact HO
  isplitl [H1]; · iexact H1
  iexact H2

theorem part33_run (c : Dev nD) (v12 : BitVec 32) (v941 : BitVec 32) (Kt : (PUnit) → sProp 𝕄) :
    iprop(records P K ∗ Ow (F := F) c 14 ∗ Rdy P c 2 3 ∗ Fly P c 3 2)
      ⊢ iprop((∀ r, (Ow (F := F) c 16 ∗ Fly P c 2 3 ∗ Fly P c 3 3) -∗ Kt r) -∗ wp frame (wpE (defs₀ (F := F)) 𝒱₀ (c : Thread nD τ) none) Set.univ (on (k0_part33 (F := F)) c v12 v941) Kt) := by
  simp only [on, k0_part33_eq_skeleton, k0_part33_skel, Prog.lift, Prog.bind_op, Prog.bind_ret, Prog.pure_eq_ret]
  iintro ⟨#HR, HO, H2, H3⟩ Hk
  iapply (start_gather P K c 2 3 (by decide) (to_23 c) (j := 14) rfl rfl (gat_23 c) (gat_23 c) rfl rfl) $$ [HO H2]
  · isplitr; · iexact HR
    isplitl [HO]; · iexact HO
    iexact H2
  iintro ⟨HO, H2⟩
  iapply (waits_reduce P K c 3 2 (by decide) (j := 15) (by decide) rfl rfl rfl rfl) $$ [HO H3]
  · isplitr; · iexact HR
    isplitl [HO]; · iexact HO
    iexact H3
  iintro ⟨HO, H3⟩
  iapply (load_kept P c 3 2 rfl (kp_32 c)) $$ H3; iintro %v %hv H3
  iapply (load_came P c 3 2 (by decide) rfl rfl) $$ H3; iintro %w %hw H3
  iapply (load_kept P c 3 2 rfl (kp_32 c)) $$ H3; iintro %u %_ H3
  iapply (store_sum P c 3 2 (by decide) rfl (kp_32 c) (rowsAt_sum P c 3 2 (by decide) hv hw fun i => congrFun (addf_cast v w _) i)) $$ H3; iintro H3
  iapply (start_gather P K c 3 3 (by decide) (to_33 c) (j := 15) rfl rfl (gat_33 c) (gat_33 c) rfl rfl) $$ [HO H3]
  · isplitr; · iexact HR
    isplitl [HO]; · iexact HO
    iexact H3
  iintro ⟨HO, H3⟩
  rw [wp_ret]; imodintro
  iapply Hk
  isplitl [HO]; · iexact HO
  isplitl [H2]; · iexact H2
  iexact H3

end Ops

end Cert.Fused

end
-- ==== Proof.Copies.lean ====
/-
The copies each device makes of its own two heads' keys and values.
-/
module

public import proofs.«01_k».proof.Proof.Reduce
public import Idealize.ShloMosaic.Lib.ValueLayout
public import Idealize.ShloMosaic.Lib.Transfers

@[expose] public section

noncomputable section

namespace Cert.Fused

open Cert.KernelIdeal Cert.KernelIdeal.Gen
open Idealize.ShloMosaic
open Idealize.ShloMosaic.TcCoe
open Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev EC : UEmb Counters (MT nD τ sig Unit (Elt F) ℕ UU ℕ) := countersEmb

instance EC_landsIn : (EC (F := F)).LandsIn (upEmb : UEmb _ 𝕄) := by unfold EC countersEmb; infer_instance

/-- One head's block of a gathered buffer. -/
def blkS (b : Fin 4) (r : Fin 2) : Finset S4x2x1024x128.Idx := Finset.univ.filter fun i => (i 0).val = b.val ∧ (i 1).val = r.val
theorem mem_blkS {b : Fin 4} {r : Fin 2} {i : S4x2x1024x128.Idx} : i ∈ blkS b r ↔ (i 0).val = b.val ∧ (i 1).val = r.val := by simp [blkS]

theorem blk_inb (b : Fin 4) (r : Fin 2) : ∀ a, (![b.val, r.val, 0, 0] : Fin 4 → ℕ) a + S1x1x1024x128.size a ≤ S4x2x1024x128.size a := fun a => by
  match a with
  | ⟨0, _⟩ => exact b.isLt
  | ⟨1, _⟩ => exact r.isLt
  | ⟨2, _⟩ => exact Nat.le_refl 1024
  | ⟨3, _⟩ => exact Nat.le_refl 128

theorem rect_blkS (b : Fin 4) (r : Fin 2) (h) : (Rect.unit (s := S4x2x1024x128) ![b.val, r.val, 0, 0] S1x1x1024x128.size h).set = blkS b r := by
  ext i
  rw [Rect.mem_set_unit, mem_blkS]
  have h2 : (i 2).val < 1024 := (i 2).isLt
  have h3 : (i 3).val < 128 := (i 3).isLt
  constructor
  · intro h
    have h0 : b.val ≤ (i 0).val ∧ (i 0).val < b.val + 1 := h 0
    have h1 : r.val ≤ (i 1).val ∧ (i 1).val < r.val + 1 := h 1
    omega
  · intro h a
    match a with
    | ⟨0, _⟩ => show b.val ≤ (i 0).val ∧ (i 0).val < b.val + 1; omega
    | ⟨1, _⟩ => show r.val ≤ (i 1).val ∧ (i 1).val < r.val + 1; omega
    | ⟨2, _⟩ => show 0 ≤ (i 2).val ∧ (i 2).val < 0 + 1024; omega
    | ⟨3, _⟩ => show 0 ≤ (i 3).val ∧ (i 3).val < 0 + 128; omega

/-- A row and a lane matched with the block of one head cut out of the whole keys or values. -/
theorem unsqueeze_src (h : (⟨2, ![1024, 128]⟩ : Shape).numel = (⟨4, ![1, 1024, 1, 128]⟩ : Shape).numel) (x : Fin 1024) (y : Fin 128) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * 1024 + x.val) * 1 + 0) * 128 + y.val) = x.val * 128 + y.val
    simp only [Nat.zero_mul, Nat.zero_add, Nat.mul_one, Nat.add_zero])

theorem head_lt (c : Dev nD) (r : Fin 2) : 2 * c.val + r.val < 16 := by
  have := c.isLt; have h : nD = 8 := rfl; omega

/-- A whole buffer's block of rows of one head, as the device's own copy holds it. -/
def kvSem (j : Fin 16) : DmaSem sig := ⟨4 + j.val, by show _ < 68; omega⟩
abbrev kvCell (c : Dev nD) (j : Fin 16) : GSem nD τ sig := ((c : Thread nD τ), .dma (kvSem j))
theorem lv_kv (c : Dev nD) : ∀ j : Fin 16, lv ((c : Thread nD τ), .dma (kvSem j)) () = 0 := fun j => by
  show (if 44 ≤ 4 + j.val then _ else 0) = 0
  rw [if_neg (by omega)]

/-! ## The two pairs of buffers: keys (`false`) and values (`true`) -/

@[reducible] def kvA : Bool → Memref sig .tc .hbm S4x1024x16x128 .f32
  | false => Memref.whole main_arg2
  | true => Memref.whole main_arg3
@[reducible] def kvB : Bool → Memref sig .tc .vmem S4x2x1024x128 .f32
  | false => Memref.whole cc0_scratch1
  | true => Memref.whole cc0_scratch2

abbrev AV (F : FTy → Type) [FloatOps F] := Vec F S4x1024x16x128 .f32
abbrev BV (F : FTy → Type) [FloatOps F] := Vec F S4x2x1024x128 .f32

abbrev kvSrc (w : Bool) (off : Fin 4 → ℕ) (h : ∀ a, off a + S1x1024x1x128.size a ≤ S4x1024x16x128.size a) : Memref sig .tc .hbm S1024x128 .f32 :=
  ((kvA w).slice (Rect.unit (s := S4x1024x16x128) off S1x1024x1x128.size h) (fun _ => rfl)).squeeze S1024x128 squeezes_S1x1024x1x128_S1024x128
abbrev kvDst (w : Bool) (off : Fin 4 → ℕ) (h : ∀ a, off a + S1x1x1024x128.size a ≤ S4x2x1024x128.size a) : Memref sig .tc .vmem S1024x128 .f32 :=
  ((kvB w).slice (Rect.unit (s := S4x2x1024x128) off S1x1x1024x128.size h) (fun _ => rfl)).squeeze S1024x128 squeezes_S1x1x1024x128_S1024x128

/-- What device `c`'s buffer holds once its copies are done: its own two heads. -/
def heads (c : Dev nD) (A : AV F) : BV F := fun i =>
  A (ix4 (⟨(i 0).val, (i 0).isLt⟩ : Fin 4) (⟨(i 2).val, (i 2).isLt⟩ : Fin 1024) ⟨2 * c.val + (i 1).val, head_lt c ⟨(i 1).val, (i 1).isLt⟩⟩ (⟨(i 3).val, (i 3).isLt⟩ : Fin 128))

/-- Elements of a gathered buffer, and a whole array of keys or values at a share. -/
def kvBuf : Bool → Dev nD → Finset S4x2x1024x128.Idx → BV F → sProp 𝕄
  | false, c, S, f => ((c : Thread nD τ).loc cc0_scratch1) ↦[S]{fullShare} f
  | true, c, S, f => ((c : Thread nD τ).loc cc0_scratch2) ↦[S]{fullShare} f
def kvArr : Bool → Dev nD → PosShare TreeShare → AV F → sProp 𝕄
  | false, c, q, A => ((c : Thread nD τ).loc main_arg2) ↦{q} A
  | true, c, q, A => ((c : Thread nD τ).loc main_arg3) ↦{q} A

def kvJ (w : Bool) (b : Fin 4) (r : Fin 2) : Fin 16 := ⟨4 * b.val + 2 * r.val + w.toNat, by have := w.toNat_le; omega⟩
def kvN : ℕ := (cc0_scratch1 : Ref sig .tc).dmaCredit S1024x128 .f32

theorem set_kvDst_keys (b : Fin 4) (r : Fin 2) (h) : (kvDst false ![b.val, r.val, 0, 0] h).view.set = blkS b r :=
  (View.set_reshape _ _).trans ((View.set_slice_whole _ _).trans (rect_blkS b r h))
theorem set_kvDst_vals (b : Fin 4) (r : Fin 2) (h) : (kvDst true ![b.val, r.val, 0, 0] h).view.set = blkS b r :=
  (View.set_reshape _ _).trans ((View.set_slice_whole _ _).trans (rect_blkS b r h))

/-- A block before its copy, in flight, and copied. -/
def kvPre (w : Bool) (A : AV F) (c : Dev nD) (b : Fin 4) (r : Fin 2) : sProp 𝕄 :=
  iprop(kvArr w c (shareTokN fullShare (2 * b.val + r.val)) A ∗ (∃ f, kvBuf (F := F) w c (blkS b r) f) ∗ semVal (kvCell c (kvJ w b r)) 0)
def kvFly (w : Bool) (A : AV F) (c : Dev nD) (b : Fin 4) (r : Fin 2) : sProp 𝕄 :=
  Flight EC (c : Thread nD τ) (.dma (kvSem (kvJ w b r))) () kvN (kvBuf w c (blkS b r) (heads c A))
def kvGot (w : Bool) (A : AV F) (c : Dev nD) (b : Fin 4) (r : Fin 2) : sProp 𝕄 :=
  iprop(kvBuf w c (blkS b r) (heads c A) ∗ semVal (kvCell c (kvJ w b r)) 0)

/-- A copy between whole buffers of any names: the block's elements are the head's. -/
theorem moved (c : Dev nD) (A : AV F) (b : Fin 4) (r : Fin 2) (h h')
    {x : S1024x128.Idx} {i : S4x2x1024x128.Idx} {j : S4x1024x16x128.Idx}
    (hi : i = (Rect.unit (s := S4x2x1024x128) ![b.val, r.val, 0, 0] S1x1x1024x128.size h').emb (Shape.reshapeEquiv squeezes_S1x1x1024x128_S1024x128.numel_eq x))
    (hj : j = (Rect.unit (s := S4x1024x16x128) ![b.val, 0, 2 * c.val + r.val, 0] S1x1024x1x128.size h).emb (Shape.reshapeEquiv squeezes_S1x1024x1x128_S1024x128.numel_eq x)) :
    A j = heads c A i := by
  obtain ⟨u, v, rfl⟩ : ∃ (u : Fin 1024) (v : Fin 128), x = ix2 u v := ⟨x 0, x 1, eq_ix2 x⟩
  replace hi := hi.trans (congrArg _ (reshapeEquiv_ix2_11ab _ u v))
  replace hj := hj.trans (congrArg _ (unsqueeze_src _ u v))
  subst hi hj
  unfold heads
  congr 1
  funext a
  apply Fin.ext
  rw [Rect.emb_apply]
  match a with
  | ⟨0, _⟩ => show b.val + 1 * 0 = b.val + 1 * 0; rfl
  | ⟨1, _⟩ => show 0 + 1 * u.val = 0 + 1 * u.val; rfl
  | ⟨2, _⟩ => show 2 * c.val + r.val + 1 * 0 = 2 * c.val + (r.val + 1 * 0); omega
  | ⟨3, _⟩ => show 0 + 1 * v.val = 0 + 1 * v.val; rfl

/-- The start of a copy between any two buffers, given what it leaves on the elements it fills. -/
theorem start_any {α : Type} {Q : α → sProp 𝕄} {k' : PUnit → Prog (TpuEff nD τ sig (Elt F) Λ₀ .tc) α} (c : Dev nD)
    {src : Memref sig .tc .hbm S1024x128 .f32} {dst' : Memref sig .tc .vmem S1024x128 .f32} {sm : DmaSem sig}
    {hsrc : src.view.WordExact} {hdst : dst'.view.WordExact}
    {hsem : DmaTarget.Typed (nD := nD) .hbm (.dma sm) (.here (p := (c : Thread nD τ).2) dst')} {q : PosShare TreeShare}
    {A : Buf (Elt F) (src.view.loc (c : Thread nD τ))} {f G : Buf (Elt F) (dst'.view.loc (c : Thread nD τ))}
    (hN : dst'.view.dmaCredit = kvN) (hG : ∀ x, dst'.view.write (Elt F) f (src.view.read (Elt F) A) Finset.univ (dst'.view.emb x) = G (dst'.view.emb x)) :
    iprop((src.view.loc (c : Thread nD τ) ↦{q} A) ∗ (dst'.view.loc (c : Thread nD τ) ↦[dst'.view.set]{fullShare} f) ∗ semVal ((c : Thread nD τ), .dma sm) 0)
      ⊢ iprop((Flight EC (c : Thread nD τ) (.dma sm) () kvN (dst'.view.loc (c : Thread nD τ) ↦[dst'.view.set]{fullShare} G)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.here (p := (c : Thread nD τ).2) dst') (.dma sm) hsrc hdst hsem) k') Q) := by
  iintro ⟨Ht, Hs, Hv⟩ Hk
  ihave Hsplit := (pointsTo_split_subset (Finset.subset_univ src.view.set)).1 $$ Ht
  icases Hsplit with ⟨Ht, -⟩
  iapply (wp_dmaLocal EC 𝒱₀ (c : Thread nD τ) none (src := src) (dst := dst') (via := .same) (sm := .dma sm)
    (Sd := dst'.view.set) (fd := f) (fs := A) () kvN hN (sig.dmaCredit_pos _ _ _ _ _ (by decide)) (Finset.Subset.refl _)) $$ [Ht Hs Hv]
  · isplitl [Ht]; · iexact Ht
    isplitl [Hs]; · iexact Hs
    iexact Hv
  iintro Hf
  iapply Hk
  iapply (Flight_mono EC (c : Thread nD τ) ?_) $$ Hf
  refine sep_elim_left.trans (Entails.of_eq (pointsTo_congr fun i hi => ?_))
  obtain ⟨x, -, rfl⟩ := Finset.mem_map.mp hi
  exact hG x

/-- The start of a copy of one head. -/
theorem start_kv {α : Type} {Q : α → sProp 𝕄} {k' : PUnit → Prog (TpuEff nD τ sig (Elt F) Λ₀ .tc) α}
    (w : Bool) (A : AV F) (c : Dev nD) (b : Fin 4) (r : Fin 2) {off off' : Fin 4 → ℕ} (hoff : off = ![b.val, 0, 2 * c.val + r.val, 0]) (hoff' : off' = ![b.val, r.val, 0, 0]) {h h'}
    {sm : DmaSem sig} (hs : sm = kvSem (kvJ w b r))
    {hsrc : (kvSrc w off h).view.WordExact} {hdst : (kvDst w off' h').view.WordExact}
    {hsem : DmaTarget.Typed (nD := nD) .hbm (.dma sm) (.here (p := (c : Thread nD τ).2) (kvDst w off' h'))} :
    kvPre w A c b r
      ⊢ iprop((kvFly w A c b r -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (kvSrc w off h) (.here (p := (c : Thread nD τ).2) (kvDst w off' h')) (.dma sm) hsrc hdst hsem) k') Q) := by
  subst hoff hoff' hs
  unfold kvPre kvFly
  cases w
  · unfold kvArr kvBuf
    rw [← set_kvDst_keys b r h']
    iintro ⟨Ht, ⟨%f, Hs⟩, Hv⟩
    iapply (start_any (F := F) c (src := kvSrc false _ h) (dst' := kvDst false _ h') (f := f) (G := heads c A) (A := A) rfl fun x =>
      (View.write_emb_of_mem _ _ (Finset.mem_univ x)).trans (moved c A b r h h' rfl rfl))
    isplitl [Ht]; · iexact Ht
    isplitl [Hs]; · iexact Hs
    iexact Hv
  · unfold kvArr kvBuf
    rw [← set_kvDst_vals b r h']
    iintro ⟨Ht, ⟨%f, Hs⟩, Hv⟩
    iapply (start_any (F := F) c (src := kvSrc true _ h) (dst' := kvDst true _ h') (f := f) (G := heads c A) (A := A) rfl fun x =>
      (View.write_emb_of_mem _ _ (Finset.mem_univ x)).trans (moved c A b r h h' rfl rfl))
    isplitl [Ht]; · iexact Ht
    isplitl [Hs]; · iexact Hs
    iexact Hv

/-- The wait for a copy. -/
theorem wait_kv {α : Type} {Q : α → sProp 𝕄} {k' : PUnit → Prog (TpuEff nD τ sig (Elt F) Λ₀ .tc) α}
    (P : Dev nD → CO F) (K : Dev nD × CIx → ℕ) (w : Bool) (A : AV F) (c : Dev nD) (b : Fin 4) (r : Fin 2)
    {sm : DmaSem sig} (hs : sm = kvSem (kvJ w b r))
    {src : Memref sig .tc .hbm S1024x128 .f32} {dst' : Memref sig .tc .vmem S1024x128 .f32} (hc : dst'.view.dmaCredit = kvN)
    {hsrc : src.view.WordExact} {hdst : dst'.view.WordExact} :
    iprop(records P K ∗ Ow (F := F) c 0 ∗ kvFly w A c b r)
      ⊢ iprop(((Ow (F := F) c 0 ∗ kvGot w A c b r) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst' hsrc hdst) k') Q) := by
  subst hs
  unfold kvFly kvGot Ow
  iintro ⟨#HR, ⟨%W, HO⟩, Hf⟩ Hk
  ihave #HL := (rec_lev P K) $$ HR
  iapply (wp_waitLocalO EC 𝒱₀ (c : Thread nD τ) none () hc (O := rem c 0) (W := W)) $$ [Hf HO]
  · isplitl [Hf]; · iexact Hf
    isplitl [HO]; · iexact HO
    iapply (mayWait_rem (n := 0) (j := 0) (le_of_eq (lv_kv c _)) (by decide)) $$ HL
  iintro ⟨Hd, Hv, HO⟩
  iapply Hk
  isplitl [HO]; · iexists _; iexact HO
  isplitl [Hd]; · iexact Hd
  iexact Hv

end Cert.Fused

end
-- ==== Proof.Local.lean ====
/-
The parts that make the copies: all sixteen are started, then all sixteen are awaited, in one order.
-/
module

public import proofs.«01_k».proof.Proof.Copies

@[expose] public section

noncomputable section

namespace Cert.Fused

open Cert.KernelIdeal Cert.KernelIdeal.Gen
open Idealize.ShloMosaic
open Idealize.ShloMosaic.TcCoe
open Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The sixteen copies, in the order the program makes them -/

abbrev KvIx := Bool × Fin 4 × Fin 2
abbrev KvP (F : FTy → Type) [FloatOps F] := Bool → Fin 4 → Fin 2 → sProp (MT nD τ sig Unit (Elt F) ℕ UU ℕ)

/-- Copies `n` onwards, and those before `n`, each in the state `φ`. -/
def fromKv (φ : KvP F) (n : ℕ) : sProp 𝕄 := bigSep (Finset.univ.filter fun x : KvIx => n ≤ (kvJ x.1 x.2.1 x.2.2).val) fun x => φ x.1 x.2.1 x.2.2
def uptoKv (φ : KvP F) (n : ℕ) : sProp 𝕄 := bigSep (Finset.univ.filter fun x : KvIx => (kvJ x.1 x.2.1 x.2.2).val < n) fun x => φ x.1 x.2.1 x.2.2

theorem kvJ_inj : ∀ (x y : KvIx), (kvJ x.1 x.2.1 x.2.2).val = (kvJ y.1 y.2.1 y.2.2).val → x = y := by decide +kernel

theorem fromKv_peel (φ : KvP F) (w : Bool) (b : Fin 4) (r : Fin 2) {n : ℕ} (hn : (kvJ w b r).val = n) :
    fromKv φ n = iprop(φ w b r ∗ fromKv φ (n + 1)) := by
  unfold fromKv
  rw [show (Finset.univ.filter fun x : KvIx => n ≤ (kvJ x.1 x.2.1 x.2.2).val)
      = insert (w, b, r) (Finset.univ.filter fun x : KvIx => n + 1 ≤ (kvJ x.1 x.2.1 x.2.2).val) from ?_,
    bigSep_insert (by simp [hn])]
  · rfl
  · ext x
    simp only [Finset.mem_filter, Finset.mem_univ, true_and, Finset.mem_insert]
    refine ⟨fun h => ?_, fun h => ?_⟩
    · rcases Nat.lt_or_ge n (kvJ x.1 x.2.1 x.2.2).val with h' | h'
      · exact .inr h'
      · exact .inl (kvJ_inj _ _ (show _ = (kvJ w b r).val by omega))
    · rcases h with rfl | h
      · exact le_of_eq hn.symm
      · omega

theorem uptoKv_push (φ : KvP F) (w : Bool) (b : Fin 4) (r : Fin 2) {n : ℕ} (hn : (kvJ w b r).val = n) :
    uptoKv φ (n + 1) = iprop(φ w b r ∗ uptoKv φ n) := by
  unfold uptoKv
  rw [show (Finset.univ.filter fun x : KvIx => (kvJ x.1 x.2.1 x.2.2).val < n + 1)
      = insert (w, b, r) (Finset.univ.filter fun x : KvIx => (kvJ x.1 x.2.1 x.2.2).val < n) from ?_,
    bigSep_insert (by simp [hn])]
  · rfl
  · ext x
    simp only [Finset.mem_filter, Finset.mem_univ, true_and, Finset.mem_insert]
    refine ⟨fun h => ?_, fun h => ?_⟩
    · rcases Nat.lt_or_ge (kvJ x.1 x.2.1 x.2.2).val n with h' | h'
      · exact .inr h'
      · exact .inl (kvJ_inj _ _ (show _ = (kvJ w b r).val by omega))
    · rcases h with rfl | h
      · show (kvJ w b r).val < n + 1
        omega
      · omega

theorem fromKv_zero (φ : KvP F) : fromKv φ 0 = bigSep Finset.univ fun x : KvIx => φ x.1 x.2.1 x.2.2 := by
  unfold fromKv; rw [Finset.filter_true_of_mem fun _ _ => Nat.zero_le _]
theorem fromKv_end (φ : KvP F) : fromKv φ 16 = iprop(emp) := by
  unfold fromKv; rw [Finset.filter_false_of_mem fun x _ => by have := (kvJ x.1 x.2.1 x.2.2).isLt; omega]; exact bigSep_empty
theorem uptoKv_zero (φ : KvP F) : uptoKv φ 0 = iprop(emp) := by
  unfold uptoKv; rw [Finset.filter_false_of_mem fun x _ => Nat.not_lt_zero _]; exact bigSep_empty
theorem uptoKv_end (φ : KvP F) : uptoKv φ 16 = bigSep Finset.univ fun x : KvIx => φ x.1 x.2.1 x.2.2 := by
  unfold uptoKv; rw [Finset.filter_true_of_mem fun x _ => (kvJ x.1 x.2.1 x.2.2).isLt]

section Ops

variable (P : Dev nD → CO F) (K : Dev nD × CIx → ℕ) (AB : Bool → AV F)

/-- The first `n` copies started, the others not; the first `n` copies awaited, the others in flight. -/
def starting (c : Dev nD) (n : ℕ) : sProp 𝕄 := iprop(fromKv (fun w b r => kvPre w (AB w) c b r) n ∗ uptoKv (fun w b r => kvFly w (AB w) c b r) n)
def landing (c : Dev nD) (n : ℕ) : sProp 𝕄 := iprop(fromKv (fun w b r => kvFly w (AB w) c b r) n ∗ uptoKv (fun w b r => kvGot w (AB w) c b r) n)

theorem starting_intro (c : Dev nD) : (bigSep Finset.univ fun x : KvIx => kvPre x.1 (AB x.1) c x.2.1 x.2.2) ⊢ starting AB c 0 := by
  unfold starting
  rw [fromKv_zero, uptoKv_zero]
  exact Laws.sep_emp.2

theorem turn (c : Dev nD) : starting AB c 16 ⊢ landing AB c 0 := by
  unfold starting landing
  rw [fromKv_end, uptoKv_end, fromKv_zero, uptoKv_zero]
  exact BIClass.emp_sep.1.trans Laws.sep_emp.2

theorem landing_done (c : Dev nD) : landing AB c 16 ⊢ bigSep Finset.univ fun x : KvIx => kvGot x.1 (AB x.1) c x.2.1 x.2.2 := by
  unfold landing
  rw [fromKv_end, uptoKv_end]
  exact BIClass.emp_sep.1

theorem start_at {α : Type} {Q : α → sProp 𝕄} {k' : PUnit → Prog (TpuEff nD τ sig (Elt F) Λ₀ .tc) α}
    (c : Dev nD) (w : Bool) (b : Fin 4) (r : Fin 2) (n : ℕ) (hn : (kvJ w b r).val = n)
    {off off' : Fin 4 → ℕ} (hoff : off = ![b.val, 0, 2 * c.val + r.val, 0]) (hoff' : off' = ![b.val, r.val, 0, 0]) {h h'}
    {sm : DmaSem sig} (hs : sm = kvSem (kvJ w b r))
    {hsrc : (kvSrc w off h).view.WordExact} {hdst : (kvDst w off' h').view.WordExact}
    {hsem : DmaTarget.Typed (nD := nD) .hbm (.dma sm) (.here (p := (c : Thread nD τ).2) (kvDst w off' h'))} :
    starting AB c n
      ⊢ iprop((starting AB c (n + 1) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (kvSrc w off h) (.here (p := (c : Thread nD τ).2) (kvDst w off' h')) (.dma sm) hsrc hdst hsem) k') Q) := by
  unfold starting
  rw [fromKv_peel _ w b r hn, uptoKv_push _ w b r hn]
  iintro ⟨⟨H0, Hf⟩, Hu⟩ Hk
  iapply (start_kv w (AB w) c b r hoff hoff' hs) $$ H0; iintro H0
  iapply Hk
  isplitl [Hf]; · iexact Hf
  isplitl [H0]; · iexact H0
  iexact Hu

theorem wait_at {α : Type} {Q : α → sProp 𝕄} {k' : PUnit → Prog (TpuEff nD τ sig (Elt F) Λ₀ .tc) α}
    (c : Dev nD) (w : Bool) (b : Fin 4) (r : Fin 2) (n : ℕ) (hn : (kvJ w b r).val = n)
    {sm : DmaSem sig} (hs : sm = kvSem (kvJ w b r))
    {src : Memref sig .tc .hbm S1024x128 .f32} {dst' : Memref sig .tc .vmem S1024x128 .f32} (hc : dst'.view.dmaCredit = kvN)
    {hsrc : src.view.WordExact} {hdst : dst'.view.WordExact} :
    iprop(records P K ∗ Ow (F := F) c 0 ∗ landing AB c n)
      ⊢ iprop(((Ow (F := F) c 0 ∗ landing AB c (n + 1)) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst' hsrc hdst) k') Q) := by
  unfold landing
  rw [fromKv_peel _ w b r hn, uptoKv_push _ w b r hn]
  iintro ⟨HR, HO, ⟨H0, Hf⟩, Hu⟩ Hk
  iapply (wait_kv P K w (AB w) c b r hs hc) $$ [HR HO H0]
  · isplitl [HR]; · iexact HR
    isplitl [HO]; · iexact HO
    iexact H0
  iintro ⟨HO, H0⟩
  iapply Hk
  isplitl [HO]; · iexact HO
  isplitl [Hf]; · iexact Hf
  isplitl [H0]; · iexact H0
  iexact Hu

/-! ## The staged windows, each loaded once and whole -/

theorem load_x {α : Type} {Q : α → sProp 𝕄} {k' : Vec F S4x256x1024 .f32 → Prog (TpuEff nD τ sig (Elt F) Λ₀ .tc) α} (c : Dev nD) {x : Vec F S4x256x1024 .f32} {b l} :
    (((c : Thread nD τ).loc cc0_stg0_0) ↦{fullShare} x)
      ⊢ iprop(((((c : Thread nD τ).loc cc0_stg0_0) ↦{fullShare} x) -∗ wp frame (wpE (defs₀ (F := F)) 𝒱₀ (c : Thread nD τ) none) Set.univ (k' x) Q)
          -∗ wp frame (wpE (defs₀ (F := F)) 𝒱₀ (c : Thread nD τ) none) Set.univ
              (.op (.load (Memref.whole cc0_stg0_0) (Rect.unit (s := S4x256x1024) ![0, 0, 0] S4x256x1024.size b).toLoadRect l) k') Q) := by
  have e := Memref.readAt_unit_zero (Elt F) cc0_stg0_0 (off := ![0, 0, 0]) (by decide) b x
  exact (wp_load 𝒱₀ (c : Thread nD τ) none Set.univ (m := Memref.whole cc0_stg0_0) (Finset.subset_univ _)).trans
    (wand_mono_left (wand_mono_right (Entails.of_eq (congrArg (fun v => wp frame (wpE (defs₀ (F := F)) 𝒱₀ (c : Thread nD τ) none) Set.univ (k' v) Q) e.symm))))

theorem load_wq {α : Type} {Q : α → sProp 𝕄} {k' : Vec F S1024x1024 .f32 → Prog (TpuEff nD τ sig (Elt F) Λ₀ .tc) α} (c : Dev nD) {x : Vec F S1024x1024 .f32} {b l} :
    (((c : Thread nD τ).loc cc0_stg1_0) ↦{fullShare} x)
      ⊢ iprop(((((c : Thread nD τ).loc cc0_stg1_0) ↦{fullShare} x) -∗ wp frame (wpE (defs₀ (F := F)) 𝒱₀ (c : Thread nD τ) none) Set.univ (k' x) Q)
          -∗ wp frame (wpE (defs₀ (F := F)) 𝒱₀ (c : Thread nD τ) none) Set.univ
              (.op (.load (Memref.whole cc0_stg1_0) (Rect.unit (s := S1024x1024) ![0, 0] S1024x1024.size b).toLoadRect l) k') Q) := by
  have e := Memref.readAt_unit_zero (Elt F) cc0_stg1_0 (off := ![0, 0]) (by decide) b x
  exact (wp_load 𝒱₀ (c : Thread nD τ) none Set.univ (m := Memref.whole cc0_stg1_0) (Finset.subset_univ _)).trans
    (wand_mono_left (wand_mono_right (Entails.of_eq (congrArg (fun v => wp frame (wpE (defs₀ (F := F)) 𝒱₀ (c : Thread nD τ) none) Set.univ (k' v) Q) e.symm))))
theorem load_wo {α : Type} {Q : α → sProp 𝕄} {k' : Vec F S1024x1024 .f32 → Prog (TpuEff nD τ sig (Elt F) Λ₀ .tc) α} (c : Dev nD) {x : Vec F S1024x1024 .f32} {b l} :
    (((c : Thread nD τ).loc cc0_stg2_0) ↦{fullShare} x)
      ⊢ iprop(((((c : Thread nD τ).loc cc0_stg2_0) ↦{fullShare} x) -∗ wp frame (wpE (defs₀ (F := F)) 𝒱₀ (c : Thread nD τ) none) Set.univ (k' x) Q)
          -∗ wp frame (wpE (defs₀ (F := F)) 𝒱₀ (c : Thread nD τ) none) Set.univ
              (.op (.load (Memref.whole cc0_stg2_0) (Rect.unit (s := S1024x1024) ![0, 0] S1024x1024.size b).toLoadRect l) k') Q) := by
  have e := Memref.readAt_unit_zero (Elt F) cc0_stg2_0 (off := ![0, 0]) (by decide) b x
  exact (wp_load 𝒱₀ (c : Thread nD τ) none Set.univ (m := Memref.whole cc0_stg2_0) (Finset.subset_univ _)).trans
    (wand_mono_left (wand_mono_right (Entails.of_eq (congrArg (fun v => wp frame (wpE (defs₀ (F := F)) 𝒱₀ (c : Thread nD τ) none) Set.univ (k' v) Q) e.symm))))

/-! ## The parts -/

theorem part2_run (c : Dev nD) (v2 : BitVec 32) (Kt : PUnit → sProp 𝕄) :
    starting AB c 0 ⊢ iprop((starting AB c 4 -∗ Kt ⟨⟩) -∗ wp frame (wpE (defs₀ (F := F)) 𝒱₀ (c : Thread nD τ) none) Set.univ (on (k0_part2 (F := F)) c v2) Kt) := by
  simp only [on, k0_part2_eq_skeleton, k0_part2_skel, Prog.lift, Prog.bind_op, Prog.bind_ret, Prog.pure_eq_ret]
  iintro H Hk
  iapply (start_at AB c false 0 0 0 rfl (k0_off1_eq c 0) rfl rfl) $$ H; iintro H
  iapply (start_at AB c true 0 0 1 rfl (k0_off1_eq c 0) rfl rfl) $$ H; iintro H
  iapply (start_at AB c false 0 1 2 rfl (k0_off1_eq c 1) rfl rfl) $$ H; iintro H
  iapply (start_at AB c true 0 1 3 rfl (k0_off1_eq c 1) rfl rfl) $$ H; iintro H
  rw [wp_ret]; imodintro
  iapply Hk
  iexact H

theorem part3_run (c : Dev nD) (v2 : BitVec 32) (Kt : PUnit → sProp 𝕄) :
    starting AB c 4 ⊢ iprop((starting AB c 7 -∗ Kt ⟨⟩) -∗ wp frame (wpE (defs₀ (F := F)) 𝒱₀ (c : Thread nD τ) none) Set.univ (on (k0_part3 (F := F)) c v2) Kt) := by
  simp only [on, k0_part3_eq_skeleton, k0_part3_skel, Prog.lift, Prog.bind_op, Prog.bind_ret, Prog.pure_eq_ret]
  iintro H Hk
  iapply (start_at AB c false 1 0 4 rfl (k0_off2_eq c 0) rfl rfl) $$ H; iintro H
  iapply (start_at AB c true 1 0 5 rfl (k0_off2_eq c 0) rfl rfl) $$ H; iintro H
  iapply (start_at AB c false 1 1 6 rfl (k0_off2_eq c 1) rfl rfl) $$ H; iintro H
  rw [wp_ret]; imodintro
  iapply Hk
  iexact H

theorem part4_run (c : Dev nD) (v2 : BitVec 32) (Kt : PUnit → sProp 𝕄) :
    starting AB c 7 ⊢ iprop((starting AB c 11 -∗ Kt ⟨⟩) -∗ wp frame (wpE (defs₀ (F := F)) 𝒱₀ (c : Thread nD τ) none) Set.univ (on (k0_part4 (F := F)) c v2) Kt) := by
  simp only [on, k0_part4_eq_skeleton, k0_part4_skel, Prog.lift, Prog.bind_op, Prog.bind_ret, Prog.pure_eq_ret]
  iintro H Hk
  iapply (start_at AB c true 1 1 7 rfl (k0_off2_eq c 1) rfl rfl) $$ H; iintro H
  iapply (start_at AB c false 2 0 8 rfl (k0_off3_eq c 0) rfl rfl) $$ H; iintro H
  iapply (start_at AB c true 2 0 9 rfl (k0_off3_eq c 0) rfl rfl) $$ H; iintro H
  iapply (start_at AB c false 2 1 10 rfl (k0_off3_eq c 1) rfl rfl) $$ H; iintro H
  rw [wp_ret]; imodintro
  iapply Hk
  iexact H

theorem part5_run (c : Dev nD) (v2 : BitVec 32) (Kt : PUnit → sProp 𝕄) :
    starting AB c 11 ⊢ iprop((starting AB c 14 -∗ Kt ⟨⟩) -∗ wp frame (wpE (defs₀ (F := F)) 𝒱₀ (c : Thread nD τ) none) Set.univ (on (k0_part5 (F := F)) c v2) Kt) := by
  simp only [on, k0_part5_eq_skeleton, k0_part5_skel, Prog.lift, Prog.bind_op, Prog.bind_ret, Prog.pure_eq_ret]
  iintro H Hk
  iapply (start_at AB c true 2 1 11 rfl (k0_off3_eq c 1) rfl rfl) $$ H; iintro H
  iapply (start_at AB c false 3 0 12 rfl (k0_off4_eq c 0) rfl rfl) $$ H; iintro H
  iapply (start_at AB c true 3 0 13 rfl (k0_off4_eq c 0) rfl rfl) $$ H; iintro H
  rw [wp_ret]; imodintro
  iapply Hk
  iexact H

theorem part6_run (c : Dev nD) (x : Vec F S4x256x1024 .f32) (wq : Vec F S1024x1024 .f32) (Kt : FVec F S1024x1024 .f32 → sProp 𝕄) :
    iprop(records P K ∗ Ow (F := F) c 0 ∗ starting AB c 14 ∗ (((c : Thread nD τ).loc cc0_stg0_0) ↦{fullShare} x) ∗ (((c : Thread nD τ).loc cc0_stg1_0) ↦{fullShare} wq))
      ⊢ iprop(((Ow (F := F) c 0 ∗ landing AB c 1 ∗ (((c : Thread nD τ).loc cc0_stg0_0) ↦{fullShare} x) ∗ (((c : Thread nD τ).loc cc0_stg1_0) ↦{fullShare} wq)) -∗ Kt (k0_pay1 x wq))
          -∗ wp frame (wpE (defs₀ (F := F)) 𝒱₀ (c : Thread nD τ) none) Set.univ (on (k0_part6 (F := F)) c) Kt) := by
  simp only [on, k0_part6_eq_skeleton, k0_part6_skel, Prog.lift, Prog.bind_op, Prog.bind_ret, Prog.pure_eq_ret]
  iintro ⟨#HR, HO, H, Hx, Hq⟩ Hk
  iapply (start_at AB c false 3 1 14 rfl (k0_off4_eq c 1) rfl rfl) $$ H; iintro H
  iapply (start_at AB c true 3 1 15 rfl (k0_off4_eq c 1) rfl rfl) $$ H; iintro H
  iapply (load_x c) $$ Hx; iintro Hx
  iapply (load_wq c) $$ Hq; iintro Hq
  ihave H := (turn AB c) $$ H
  iapply (wait_at P K AB c false 0 0 0 rfl rfl rfl) $$ [HO H]
  · isplitr; · iexact HR
    isplitl [HO]; · iexact HO
    iexact H
  iintro ⟨HO, H⟩
  rw [wp_ret]; imodintro
  iapply Hk
  isplitl [HO]; · iexact HO
  isplitl [H]; · iexact H
  isplitl [Hx]; · iexact Hx
  iexact Hq

theorem part7_run (c : Dev nD) (Kt : PUnit → sProp 𝕄) :
    iprop(records P K ∗ Ow (F := F) c 0 ∗ landing AB c 1)
      ⊢ iprop(((Ow (F := F) c 0 ∗ landing AB c 5) -∗ Kt ⟨⟩) -∗ wp frame (wpE (defs₀ (F := F)) 𝒱₀ (c : Thread nD τ) none) Set.univ (on (k0_part7 (F := F)) c) Kt) := by
  simp only [on, k0_part7_eq_skeleton, k0_part7_skel, Prog.lift, Prog.bind_op, Prog.bind_ret, Prog.pure_eq_ret]
  iintro ⟨#HR, HO, H⟩ Hk
  iapply (wait_at P K AB c true 0 0 1 rfl rfl rfl) $$ [HO H]
  · isplitr; · iexact HR
    isplitl [HO]; · iexact HO
    iexact H
  iintro ⟨HO, H⟩
  iapply (wait_at P K AB c false 0 1 2 rfl rfl rfl) $$ [HO H]
  · isplitr; · iexact HR
    isplitl [HO]; · iexact HO
    iexact H
  iintro ⟨HO, H⟩
  iapply (wait_at P K AB c true 0 1 3 rfl rfl rfl) $$ [HO H]
  · isplitr; · iexact HR
    isplitl [HO]; · iexact HO
    iexact H
  iintro ⟨HO, H⟩
  iapply (wait_at P K AB c false 1 0 4 rfl rfl rfl) $$ [HO H]
  · isplitr; · iexact HR
    isplitl [HO]; · iexact HO
    iexact H
  iintro ⟨HO, H⟩
  rw [wp_ret]; imodintro
  iapply Hk
  isplitl [HO]; · iexact HO
  iexact H

theorem part8_run (c : Dev nD) (Kt : PUnit → sProp 𝕄) :
    iprop(records P K ∗ Ow (F := F) c 0 ∗ landing AB c 5)
      ⊢ iprop(((Ow (F := F) c 0 ∗ landing AB c 9) -∗ Kt ⟨⟩) -∗ wp frame (wpE (defs₀ (F := F)) 𝒱₀ (c : Thread nD τ) none) Set.univ (on (k0_part8 (F := F)) c) Kt) := by
  simp only [on, k0_part8_eq_skeleton, k0_part8_skel, Prog.lift, Prog.bind_op, Prog.bind_ret, Prog.pure_eq_ret]
  iintro ⟨#HR, HO, H⟩ Hk
  iapply (wait_at P K AB c true 1 0 5 rfl rfl rfl) $$ [HO H]
  · isplitr; · iexact HR
    isplitl [HO]; · iexact HO
    iexact H
  iintro ⟨HO, H⟩
  iapply (wait_at P K AB c false 1 1 6 rfl rfl rfl) $$ [HO H]
  · isplitr; · iexact HR
    isplitl [HO]; · iexact HO
    iexact H
  iintro ⟨HO, H⟩
  iapply (wait_at P K AB c true 1 1 7 rfl rfl rfl) $$ [HO H]
  · isplitr; · iexact HR
    isplitl [HO]; · iexact HO
    iexact H
  iintro ⟨HO, H⟩
  iapply (wait_at P K AB c false 2 0 8 rfl rfl rfl) $$ [HO H]
  · isplitr; · iexact HR
    isplitl [HO]; · iexact HO
    iexact H
  iintro ⟨HO, H⟩
  rw [wp_ret]; imodintro
  iapply Hk
  isplitl [HO]; · iexact HO
  iexact H

theorem part9_run (c : Dev nD) (Kt : PUnit → sProp 𝕄) :
    iprop(records P K ∗ Ow (F := F) c 0 ∗ landing AB c 9)
      ⊢ iprop(((Ow (F := F) c 0 ∗ landing AB c 13) -∗ Kt ⟨⟩) -∗ wp frame (wpE (defs₀ (F := F)) 𝒱₀ (c : Thread nD τ) none) Set.univ (on (k0_part9 (F := F)) c) Kt) := by
  simp only [on, k0_part9_eq_skeleton, k0_part9_skel, Prog.lift, Prog.bind_op, Prog.bind_ret, Prog.pure_eq_ret]
  iintro ⟨#HR, HO, H⟩ Hk
  iapply (wait_at P K AB c true 2 0 9 rfl rfl rfl) $$ [HO H]
  · isplitr; · iexact HR
    isplitl [HO]; · iexact HO
    iexact H
  iintro ⟨HO, H⟩
  iapply (wait_at P K AB c false 2 1 10 rfl rfl rfl) $$ [HO H]
  · isplitr; · iexact HR
    isplitl [HO]; · iexact HO
    iexact H
  iintro ⟨HO, H⟩
  iapply (wait_at P K AB c true 2 1 11 rfl rfl rfl) $$ [HO H]
  · isplitr; · iexact HR
    isplitl [HO]; · iexact HO
    iexact H
  iintro ⟨HO, H⟩
  iapply (wait_at P K AB c false 3 0 12 rfl rfl rfl) $$ [HO H]
  · isplitr; · iexact HR
    isplitl [HO]; · iexact HO
    iexact H
  iintro ⟨HO, H⟩
  rw [wp_ret]; imodintro
  iapply Hk
  isplitl [HO]; · iexact HO
  iexact H

theorem part10_run (c : Dev nD) (v2 : BitVec 32) (wo : Vec F S1024x1024 .f32) (Kt : (Σ' (v240 : FVec F S1024x1024 .bf16) (v242 : BitVec 32) (v244 : BitVec 32) (v246 : BitVec 32), BitVec 32) → sProp 𝕄) :
    iprop(records P K ∗ Ow (F := F) c 0 ∗ landing AB c 13 ∗ (((c : Thread nD τ).loc cc0_stg2_0) ↦{fullShare} wo))
      ⊢ iprop((∀ v242 v244 v246 v248, (Ow (F := F) c 0 ∗ landing AB c 16 ∗ (((c : Thread nD τ).loc cc0_stg2_0) ↦{fullShare} wo)) -∗ Kt ⟨k0_pay2 wo, v242, v244, v246, v248⟩)
          -∗ wp frame (wpE (defs₀ (F := F)) 𝒱₀ (c : Thread nD τ) none) Set.univ (on (k0_part10 (F := F)) c v2) Kt) := by
  simp only [on, k0_part10_eq_skeleton, k0_part10_skel, Prog.lift, Prog.bind_op, Prog.bind_ret, Prog.pure_eq_ret]
  iintro ⟨#HR, HO, H, Hw⟩ Hk
  iapply (wait_at P K AB c true 3 0 13 rfl rfl rfl) $$ [HO H]
  · isplitr; · iexact HR
    isplitl [HO]; · iexact HO
    iexact H
  iintro ⟨HO, H⟩
  iapply (wait_at P K AB c false 3 1 14 rfl rfl rfl) $$ [HO H]
  · isplitr; · iexact HR
    isplitl [HO]; · iexact HO
    iexact H
  iintro ⟨HO, H⟩
  iapply (wait_at P K AB c true 3 1 15 rfl rfl rfl) $$ [HO H]
  · isplitr; · iexact HR
    isplitl [HO]; · iexact HO
    iexact H
  iintro ⟨HO, H⟩
  iapply (load_wo c) $$ Hw; iintro Hw
  rw [wp_ret]; imodintro
  iapply Hk
  isplitl [HO]; · iexact HO
  isplitl [H]; · iexact H
  iexact Hw

end Ops

end Cert.Fused

end
-- ==== Proof.Compute.lean ====
/-
The parts that compute: each batch's rows of the device's own share of the product, stored whole before they are sent.
-/
module

public import proofs.«01_k».proof.Proof.Local

@[expose] public section

noncomputable section

namespace Cert.Fused

open Cert.KernelIdeal Cert.KernelIdeal.Gen
open Idealize.ShloMosaic
open Idealize.ShloMosaic.TcCoe
open Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- One head's block of a gathered buffer, as it is loaded. -/
def blk (T : BV F) (b : Fin 4) (r : Fin 2) : Vec F S1x1x1024x128 .f32 := fun x =>
  T (ix4 b r (⟨(x 2).val, (x 2).isLt⟩ : Fin 1024) (⟨(x 3).val, (x 3).isLt⟩ : Fin 128))

/-- Both gathered buffers, filled. -/
def Full (c : Dev nD) (T : Bool → BV F) : sProp 𝕄 := iprop(kvBuf false c Finset.univ (T false) ∗ kvBuf true c Finset.univ (T true))

theorem blk_idx {b : Fin 4} {r : Fin 2} {h} (x : S1x1x1024x128.Idx) :
    (Rect.unit (s := S4x2x1024x128) ![b.val, r.val, 0, 0] S1x1x1024x128.size h).emb x
      = ix4 b r (⟨(x 2).val, (x 2).isLt⟩ : Fin 1024) (⟨(x 3).val, (x 3).isLt⟩ : Fin 128) := by
  have h0 : (x 0).val < 1 := (x 0).isLt
  have h1 : (x 1).val < 1 := (x 1).isLt
  funext a
  apply Fin.ext
  rw [Rect.emb_apply]
  match a with
  | ⟨0, _⟩ => show b.val + 1 * (x 0).val = b.val; omega
  | ⟨1, _⟩ => show r.val + 1 * (x 1).val = r.val; omega
  | ⟨2, _⟩ => show 0 + 1 * (x 2).val = (x 2).val; omega
  | ⟨3, _⟩ => show 0 + 1 * (x 3).val = (x 3).val; omega

section Ops

variable (P : Dev nD → CO F) (K : Dev nD × CIx → ℕ) (T : Bool → BV F)

theorem load_blk {α : Type} {Q : α → sProp 𝕄} {k' : Vec F S1x1x1024x128 .f32 → Prog (TpuEff nD τ sig (Elt F) Λ₀ .tc) α}
    (c : Dev nD) (w : Bool) (b : Fin 4) (r : Fin 2) {off : Fin 4 → ℕ} (hoff : off = ![b.val, r.val, 0, 0]) {bb l} :
    Full c T
      ⊢ iprop((Full c T -∗ wp frame (wpE (defs₀ (F := F)) 𝒱₀ (c : Thread nD τ) none) Set.univ (k' (blk (T w) b r)) Q)
          -∗ wp frame (wpE (defs₀ (F := F)) 𝒱₀ (c : Thread nD τ) none) Set.univ
              (.op (.load (kvB w) (Rect.unit (s := S4x2x1024x128) off S1x1x1024x128.size bb).toLoadRect l) k') Q) := by
  subst hoff
  unfold Full
  cases w
  · have e : (kvB false).view.readAt (Elt F) (Rect.unit (s := S4x2x1024x128) ![b.val, r.val, 0, 0] S1x1x1024x128.size bb).toLoadRect (T false) = blk (T false) b r :=
      funext fun x => congrArg (T false) (blk_idx x)
    rw [← e]
    unfold kvBuf
    iintro ⟨H1, H2⟩ Hk
    iapply (wp_load 𝒱₀ (c : Thread nD τ) none Set.univ (m := kvB false) (Finset.subset_univ _)) $$ H1; iintro H1
    iapply Hk
    isplitl [H1]; · iexact H1
    iexact H2
  · have e : (kvB true).view.readAt (Elt F) (Rect.unit (s := S4x2x1024x128) ![b.val, r.val, 0, 0] S1x1x1024x128.size bb).toLoadRect (T true) = blk (T true) b r :=
      funext fun x => congrArg (T true) (blk_idx x)
    rw [← e]
    unfold kvBuf
    iintro ⟨H1, H2⟩ Hk
    iapply (wp_load 𝒱₀ (c : Thread nD τ) none Set.univ (m := kvB true) (Finset.subset_univ _)) $$ H2; iintro H2
    iapply Hk
    isplitl [H1]; · iexact H1
    iexact H2

/-- A part's rows before they are computed: all its steps ahead, its rows at any values. -/
def Raw (c : Dev nD) (p : Fin 4) : sProp 𝕄 := iprop(fut (F := F) c p 0 ∗ ∃ f, oPts (F := F) c (256 * p.val) 256 f)

theorem part_le (p : Fin 4) : 256 * p.val + 256 ≤ 1024 := by omega

theorem load_raw {α : Type} {Q : α → sProp 𝕄} {k' : Vec F (Sn 256) .f32 → Prog (TpuEff nD τ sig (Elt F) Λ₀ .tc) α}
    (c : Dev nD) (p : Fin 4) {off : Fin 2 → ℕ} (hoff : off = ![256 * p.val, 0]) {b l} :
    Raw c p
      ⊢ iprop((∀ v, Raw c p -∗ wp frame (wpE (defs₀ (F := F)) 𝒱₀ (c : Thread nD τ) none) Set.univ (k' v) Q)
          -∗ wp frame (wpE (defs₀ (F := F)) 𝒱₀ (c : Thread nD τ) none) Set.univ
              (.op (.load oM (Rect.unit (s := S1024x1024) off (Sn 256).size b).toLoadRect l) k') Q) := by
  subst hoff
  unfold Raw oPts
  iintro ⟨Hf, %f, Ho⟩ Hk
  iapply (wp_load_rect 𝒱₀ (c : Thread nD τ) none Set.univ (m := oM) (r := Rect.unit (s := S1024x1024) ![256 * p.val, 0] (Sn 256).size b)
    (le_of_eq (set_oR _ _ _))) $$ Ho; iintro Ho
  iapply Hk
  isplitl [Hf]; · iexact Hf
  iexists f; iexact Ho

theorem store_raw {α : Type} {Q : α → sProp 𝕄} {k' : PUnit → Prog (TpuEff nD τ sig (Elt F) Λ₀ .tc) α}
    (c : Dev nD) (p : Fin 4) {off : Fin 2 → ℕ} (hoff : off = ![256 * p.val, 0]) {b}
    {x : Vec F (Sn 256) .f32} (hx : RowsAt (256 * p.val) (P c) x) {h1 h2} :
    Raw c p
      ⊢ iprop((Rdy P c p 0 -∗ wp frame (wpE (defs₀ (F := F)) 𝒱₀ (c : Thread nD τ) none) Set.univ (k' ⟨⟩) Q)
          -∗ wp frame (wpE (defs₀ (F := F)) 𝒱₀ (c : Thread nD τ) none) Set.univ
              (.op (.store oM (Rect.unit (s := S1024x1024) off (Sn 256).size b) x Finset.univ h1 h2) k') Q) := by
  subst hoff
  unfold Raw oPts
  iintro ⟨Hf, %f, Ho⟩ Hk
  iapply (wp_store 𝒱₀ (c : Thread nD τ) none Set.univ (m := oM) (r := Rect.unit (s := S1024x1024) ![256 * p.val, 0] (Sn 256).size b) (Mk := Finset.univ)
    (le_of_eq ((View.setOn_univ _).trans (set_oR _ _ _)))) $$ Ho; iintro Ho
  iapply Hk
  unfold Rdy
  rw [if_pos (by omega), acc_zero]
  isplitl [Hf]; · iexact Hf
  isplitr
  · unfold past
    rw [Finset.filter_false_of_mem fun k _ => Nat.not_lt_zero _, bigSep_empty]
    iempintro
  isplitr
  · unfold perm
    rw [Finset.filter_false_of_mem fun k _ => Nat.not_lt_zero _, bigSep_empty]
    iempintro
  unfold oPts
  refine Entails.of_eq (pointsTo_congr fun i hi => ?_)
  obtain ⟨y, rfl⟩ := exists_emb_oR (inbO (part_le p)) hi
  refine (write_oR _ _ _ _ _ y).trans ?_
  exact hx y _ (emb_oR_0 _ _ _ y) (emb_oR_1 _ _ _ y)

/-! ## The parts -/

theorem part11_run (c : Dev nD) (v141 : FVec F S1024x1024 .f32) (Kt : (Σ' (v254 : FVec F S1024x128 .bf16) (v265 : FVec F S256x128 .bf16) (v276 : FVec F S256x128 .bf16) (v287 : FVec F S256x128 .bf16) (v291 : FVec F S256x1024 .f32), FVec F S256 .f32) → sProp 𝕄) :
    Full c T
      ⊢ iprop((Full c T -∗ Kt ⟨k0_pay4 (blk (T true) 0 0), k0_pay5 v141 (blk (T false) 0 0) (blk (T true) 0 0), k0_pay6 v141 (blk (T false) 0 0) (blk (T true) 0 0), k0_pay7 v141 (blk (T false) 0 0) (blk (T true) 0 0), k0_pay8 v141 (blk (T false) 0 0), k0_pay9 v141 (blk (T false) 0 0)⟩) -∗ wp frame (wpE (defs₀ (F := F)) 𝒱₀ (c : Thread nD τ) none) Set.univ (on (k0_part11 (F := F)) v141) Kt) := by
  simp only [on, k0_part11_eq_skeleton, k0_part11_skel, Prog.lift, Prog.bind_op, Prog.bind_ret, Prog.pure_eq_ret]
  iintro HF Hk
  iapply (load_blk T c false 0 0 rfl) $$ HF; iintro HF
  iapply (load_blk T c true 0 0 rfl) $$ HF; iintro HF
  rw [wp_ret]; imodintro
  iapply Hk
  iexact HF

theorem part12_run (c : Dev nD) (v141 : FVec F S1024x1024 .f32) (v254 : FVec F S1024x128 .bf16) (v291 : FVec F S256x1024 .f32) (v292 : FVec F S256 .f32) (Kt : (Σ' (v298 : FVec F S256x128 .bf16) (v301 : FVec F S1024x128 .bf16) (v304 : FVec F S1024x128 .bf16) (v315 : FVec F S256x128 .bf16) (v326 : FVec F S256x128 .bf16) (v332 : FVec F S256x1 .f32), FVec F S256x128 .f32) → sProp 𝕄) :
    Full c T
      ⊢ iprop((Full c T -∗ Kt ⟨k0_pay10 v254 v291 v292, k0_pay11 (blk (T false) 0 1), k0_pay12 (blk (T true) 0 1), k0_pay13 v141 (blk (T false) 0 1) (blk (T true) 0 1), k0_pay14 v141 (blk (T false) 0 1) (blk (T true) 0 1), k0_pay16 v141 (blk (T false) 0 1), k0_pay17 v141 (blk (T false) 0 1) (blk (T true) 0 1)⟩) -∗ wp frame (wpE (defs₀ (F := F)) 𝒱₀ (c : Thread nD τ) none) Set.univ (on (k0_part12 (F := F)) v141 v254 v291 v292) Kt) := by
  simp only [on, k0_part12_eq_skeleton, k0_part12_skel, Prog.lift, Prog.bind_op, Prog.bind_ret, Prog.pure_eq_ret]
  iintro HF Hk
  iapply (load_blk T c false 0 1 rfl) $$ HF; iintro HF
  iapply (load_blk T c true 0 1 rfl) $$ HF; iintro HF
  rw [wp_ret]; imodintro
  iapply Hk
  iexact HF

theorem part13_run (c : Dev nD) (v5 : BitVec 32) (v10 : BitVec 32) (v141 : FVec F S1024x1024 .f32) (v240 : FVec F S1024x1024 .bf16) (v242 : BitVec 32) (v265 : FVec F S256x128 .bf16) (v276 : FVec F S256x128 .bf16) (v287 : FVec F S256x128 .bf16) (v298 : FVec F S256x128 .bf16) (v301 : FVec F S1024x128 .bf16) (v304 : FVec F S1024x128 .bf16) (v315 : FVec F S256x128 .bf16) (v326 : FVec F S256x128 .bf16) (v332 : FVec F S256x1 .f32) (v334 : FVec F S256x128 .f32) (hx : RowsAt 0 (P c) (k0_pay18 v141 v240 v265 v276 v287 v298 v301 v304 v315 v326 v332 v334)) (Kt : (Σ' (v353 : BitVec 32) (v367 : FVec F S1024x128 .bf16), Vec F S1x1x1024x128 .f32) → sProp 𝕄) :
    iprop(records P K ∗ Ow (F := F) c 0 ∗ Raw (F := F) c 0 ∗ Full c T)
      ⊢ iprop((∀ v353, (Ow (F := F) c 1 ∗ Fly P c 0 0 ∗ Full c T) -∗ Kt ⟨v353, k0_pay19 (blk (T false) 1 0), (blk (T true) 1 0)⟩) -∗ wp frame (wpE (defs₀ (F := F)) 𝒱₀ (c : Thread nD τ) none) Set.univ (on (k0_part13 (F := F)) c v5 v10 v141 v240 v242 v265 v276 v287 v298 v301 v304 v315 v326 v332 v334) Kt) := by
  simp only [on, k0_part13_eq_skeleton, k0_part13_skel, Prog.lift, Prog.bind_op, Prog.bind_ret, Prog.pure_eq_ret]
  iintro ⟨#HR, HO, HP, HF⟩ Hk
  iapply (load_raw c 0 rfl) $$ HP; iintro %u HP
  iapply (store_raw P c 0 rfl hx) $$ HP; iintro HP
  iapply (start_reduce P K c 0 0 (by decide) (to_00 c) (j := 0) rfl rfl (snd_00 c) rfl rfl rfl) $$ [HO HP]
  · isplitr; · iexact HR
    isplitl [HO]; · iexact HO
    iexact HP
  iintro ⟨HO, HP⟩
  iapply (load_blk T c false 1 0 rfl) $$ HF; iintro HF
  iapply (load_blk T c true 1 0 rfl) $$ HF; iintro HF
  rw [wp_ret]; imodintro
  iapply Hk
  isplitl [HO]; · iexact HO
  isplitl [HP]; · iexact HP
  iexact HF

theorem part14_run (c : Dev nD) (v141 : FVec F S1024x1024 .f32) (v367 : FVec F S1024x128 .bf16) (v368 : Vec F S1x1x1024x128 .f32) (Kt : (Σ' (v381 : FVec F S256x128 .bf16) (v392 : FVec F S256x128 .bf16) (v403 : FVec F S256x128 .bf16), FVec F S256x128 .bf16) → sProp 𝕄) :
    Kt ⟨k0_pay21 v141 v367 v368, k0_pay22 v141 v367 v368, k0_pay23 v141 v367 v368, k0_pay24 v141 v367 v368⟩ ⊢ wp frame (wpE (defs₀ (F := F)) 𝒱₀ (c : Thread nD τ) none) Set.univ (on (k0_part14 (F := F)) v141 v367 v368) Kt := by
  simp only [on, k0_part14_eq_skeleton, k0_part14_skel, Prog.lift, Prog.bind_op, Prog.bind_ret, Prog.pure_eq_ret]
  iintro Hk
  rw [wp_ret]; imodintro
  iexact Hk

theorem part15_run (c : Dev nD) (v141 : FVec F S1024x1024 .f32) (Kt : (Σ' (v420 : FVec F S1024x128 .bf16) (v431 : FVec F S256x128 .bf16) (v442 : FVec F S256x128 .bf16) (v453 : FVec F S256x128 .bf16), FVec F S256x1024 .f32) → sProp 𝕄) :
    Full c T
      ⊢ iprop((Full c T -∗ Kt ⟨k0_pay26 (blk (T true) 1 1), k0_pay27 v141 (blk (T false) 1 1) (blk (T true) 1 1), k0_pay28 v141 (blk (T false) 1 1) (blk (T true) 1 1), k0_pay29 v141 (blk (T false) 1 1) (blk (T true) 1 1), k0_pay30 v141 (blk (T false) 1 1)⟩) -∗ wp frame (wpE (defs₀ (F := F)) 𝒱₀ (c : Thread nD τ) none) Set.univ (on (k0_part15 (F := F)) v141) Kt) := by
  simp only [on, k0_part15_eq_skeleton, k0_part15_skel, Prog.lift, Prog.bind_op, Prog.bind_ret, Prog.pure_eq_ret]
  iintro HF Hk
  iapply (load_blk T c false 1 1 rfl) $$ HF; iintro HF
  iapply (load_blk T c true 1 1 rfl) $$ HF; iintro HF
  rw [wp_ret]; imodintro
  iapply Hk
  iexact HF

theorem part16_run (c : Dev nD) (v7 : BitVec 32) (v11 : BitVec 32) (v141 : FVec F S1024x1024 .f32) (v240 : FVec F S1024x1024 .bf16) (v244 : BitVec 32) (v381 : FVec F S256x128 .bf16) (v392 : FVec F S256x128 .bf16) (v403 : FVec F S256x128 .bf16) (v414 : FVec F S256x128 .bf16) (v420 : FVec F S1024x128 .bf16) (v431 : FVec F S256x128 .bf16) (v442 : FVec F S256x128 .bf16) (v453 : FVec F S256x128 .bf16) (v457 : FVec F S256x1024 .f32) (hx : RowsAt 256 (P c) (k0_pay31 v240 v381 v392 v403 v414 v420 v431 v442 v453 v457)) (Kt : (Σ' (v469 : BitVec 32) (v483 : FVec F S1024x128 .bf16) (v486 : FVec F S1024x128 .bf16) (v490 : FVec F S256x1024 .f32), FVec F S256 .f32) → sProp 𝕄) :
    iprop(records P K ∗ Ow (F := F) c 1 ∗ Raw (F := F) c 1 ∗ Full c T)
      ⊢ iprop((∀ v469, (Ow (F := F) c 2 ∗ Fly P c 1 0 ∗ Full c T) -∗ Kt ⟨v469, k0_pay32 (blk (T false) 2 0), k0_pay33 (blk (T true) 2 0), k0_pay34 v141 (blk (T false) 2 0), k0_pay35 v141 (blk (T false) 2 0)⟩) -∗ wp frame (wpE (defs₀ (F := F)) 𝒱₀ (c : Thread nD τ) none) Set.univ (on (k0_part16 (F := F)) c v7 v11 v141 v240 v244 v381 v392 v403 v414 v420 v431 v442 v453 v457) Kt) := by
  simp only [on, k0_part16_eq_skeleton, k0_part16_skel, Prog.lift, Prog.bind_op, Prog.bind_ret, Prog.pure_eq_ret]
  iintro ⟨#HR, HO, HP, HF⟩ Hk
  iapply (load_raw c 1 rfl) $$ HP; iintro %u HP
  iapply (store_raw P c 1 rfl hx) $$ HP; iintro HP
  iapply (start_reduce P K c 1 0 (by decide) (to_10 c) (j := 1) rfl rfl (snd_10 c) rfl rfl rfl) $$ [HO HP]
  · isplitr; · iexact HR
    isplitl [HO]; · iexact HO
    iexact HP
  iintro ⟨HO, HP⟩
  iapply (load_blk T c false 2 0 rfl) $$ HF; iintro HF
  iapply (load_blk T c true 2 0 rfl) $$ HF; iintro HF
  rw [wp_ret]; imodintro
  iapply Hk
  isplitl [HO]; · iexact HO
  isplitl [HP]; · iexact HP
  iexact HF

theorem part17_run (c : Dev nD) (v141 : FVec F S1024x1024 .f32) (v483 : FVec F S1024x128 .bf16) (v486 : FVec F S1024x128 .bf16) (v490 : FVec F S256x1024 .f32) (v491 : FVec F S256 .f32) (Kt : (Σ' (v497 : FVec F S256x128 .bf16) (v508 : FVec F S256x128 .bf16) (v519 : FVec F S256x128 .bf16) (v530 : FVec F S256x128 .bf16), FVec F S1024x128 .bf16) → sProp 𝕄) :
    Full c T
      ⊢ iprop((Full c T -∗ Kt ⟨k0_pay36 v486 v490 v491, k0_pay37 v141 v483 v486, k0_pay38 v141 v483 v486, k0_pay39 v141 v483 v486, k0_pay40 (blk (T false) 2 1)⟩) -∗ wp frame (wpE (defs₀ (F := F)) 𝒱₀ (c : Thread nD τ) none) Set.univ (on (k0_part17 (F := F)) v141 v483 v486 v490 v491) Kt) := by
  simp only [on, k0_part17_eq_skeleton, k0_part17_skel, Prog.lift, Prog.bind_op, Prog.bind_ret, Prog.pure_eq_ret]
  iintro HF Hk
  iapply (load_blk T c false 2 1 rfl) $$ HF; iintro HF
  rw [wp_ret]; imodintro
  iapply Hk
  iexact HF

theorem part18_run (c : Dev nD) (v141 : FVec F S1024x1024 .f32) (v497 : FVec F S256x128 .bf16) (v508 : FVec F S256x128 .bf16) (v519 : FVec F S256x128 .bf16) (v530 : FVec F S256x128 .bf16) (v533 : FVec F S1024x128 .bf16) (Kt : (FVec F S256x1024 .bf16) → sProp 𝕄) :
    Full c T
      ⊢ iprop((Full c T -∗ Kt (k0_pay41 v141 v497 v508 v519 v530 v533 (blk (T true) 2 1))) -∗ wp frame (wpE (defs₀ (F := F)) 𝒱₀ (c : Thread nD τ) none) Set.univ (on (k0_part18 (F := F)) v141 v497 v508 v519 v530 v533) Kt) := by
  simp only [on, k0_part18_eq_skeleton, k0_part18_skel, Prog.lift, Prog.bind_op, Prog.bind_ret, Prog.pure_eq_ret]
  iintro HF Hk
  iapply (load_blk T c true 2 1 rfl) $$ HF; iintro HF
  rw [wp_ret]; imodintro
  iapply Hk
  iexact HF

theorem part19_run (c : Dev nD) (v9 : BitVec 32) (v12 : BitVec 32) (v141 : FVec F S1024x1024 .f32) (v240 : FVec F S1024x1024 .bf16) (v246 : BitVec 32) (v581 : FVec F S256x1024 .bf16) (hx : RowsAt 512 (P c) (k0_pay42 v240 v581)) (Kt : (Σ' (v585 : BitVec 32) (v599 : FVec F S1024x128 .bf16) (v602 : FVec F S1024x128 .bf16) (v613 : FVec F S256x128 .bf16), FVec F S256x128 .bf16) → sProp 𝕄) :
    iprop(records P K ∗ Ow (F := F) c 2 ∗ Raw (F := F) c 2 ∗ Full c T)
      ⊢ iprop((∀ v585, (Ow (F := F) c 3 ∗ Fly P c 2 0 ∗ Full c T) -∗ Kt ⟨v585, k0_pay43 (blk (T false) 3 0), k0_pay44 (blk (T true) 3 0), k0_pay45 v141 (blk (T false) 3 0) (blk (T true) 3 0), k0_pay46 v141⟩) -∗ wp frame (wpE (defs₀ (F := F)) 𝒱₀ (c : Thread nD τ) none) Set.univ (on (k0_part19 (F := F)) c v9 v12 v141 v240 v246 v581) Kt) := by
  simp only [on, k0_part19_eq_skeleton, k0_part19_skel, Prog.lift, Prog.bind_op, Prog.bind_ret, Prog.pure_eq_ret]
  iintro ⟨#HR, HO, HP, HF⟩ Hk
  iapply (load_raw c 2 rfl) $$ HP; iintro %u HP
  iapply (store_raw P c 2 rfl hx) $$ HP; iintro HP
  iapply (start_reduce P K c 2 0 (by decide) (to_20 c) (j := 2) rfl rfl (snd_20 c) rfl rfl rfl) $$ [HO HP]
  · isplitr; · iexact HR
    isplitl [HO]; · iexact HO
    iexact HP
  iintro ⟨HO, HP⟩
  iapply (load_blk T c false 3 0 rfl) $$ HF; iintro HF
  iapply (load_blk T c true 3 0 rfl) $$ HF; iintro HF
  rw [wp_ret]; imodintro
  iapply Hk
  isplitl [HO]; · iexact HO
  isplitl [HP]; · iexact HP
  iexact HF

theorem part20_run (c : Dev nD) (v141 : FVec F S1024x1024 .f32) (v599 : FVec F S1024x128 .bf16) (v602 : FVec F S1024x128 .bf16) (v615 : FVec F S256x128 .bf16) (Kt : (Σ' (v624 : FVec F S256x128 .bf16) (v635 : FVec F S256x128 .bf16) (v646 : FVec F S256x128 .bf16) (v649 : FVec F S1024x128 .bf16) (v652 : FVec F S1024x128 .bf16), FVec F S256x1024 .f32) → sProp 𝕄) :
    Full c T
      ⊢ iprop((Full c T -∗ Kt ⟨k0_pay47 v599 v602 v615, k0_pay48 v141 v599 v602, k0_pay49 v141 v599 v602, k0_pay50 (blk (T false) 3 1), k0_pay51 (blk (T true) 3 1), k0_pay52 v141 (blk (T false) 3 1)⟩) -∗ wp frame (wpE (defs₀ (F := F)) 𝒱₀ (c : Thread nD τ) none) Set.univ (on (k0_part20 (F := F)) v141 v599 v602 v615) Kt) := by
  simp only [on, k0_part20_eq_skeleton, k0_part20_skel, Prog.lift, Prog.bind_op, Prog.bind_ret, Prog.pure_eq_ret]
  iintro HF Hk
  iapply (load_blk T c false 3 1 rfl) $$ HF; iintro HF
  iapply (load_blk T c true 3 1 rfl) $$ HF; iintro HF
  rw [wp_ret]; imodintro
  iapply Hk
  iexact HF

theorem part21_run (c : Dev nD) (v5 : BitVec 32) (v141 : FVec F S1024x1024 .f32) (v240 : FVec F S1024x1024 .bf16) (v248 : BitVec 32) (v613 : FVec F S256x128 .bf16) (v624 : FVec F S256x128 .bf16) (v635 : FVec F S256x128 .bf16) (v646 : FVec F S256x128 .bf16) (v649 : FVec F S1024x128 .bf16) (v652 : FVec F S1024x128 .bf16) (v656 : FVec F S256x1024 .f32) (hx : RowsAt 768 (P c) (k0_pay53 v141 v240 v613 v624 v635 v646 v649 v652 v656)) (Kt : (BitVec 32) → sProp 𝕄) :
    Raw (F := F) c 3
      ⊢ iprop((∀ v701, Rdy P c 3 0 -∗ Kt v701) -∗ wp frame (wpE (defs₀ (F := F)) 𝒱₀ (c : Thread nD τ) none) Set.univ (on (k0_part21 (F := F)) v5 v141 v240 v248 v613 v624 v635 v646 v649 v652 v656) Kt) := by
  simp only [on, k0_part21_eq_skeleton, k0_part21_skel, Prog.lift, Prog.bind_op, Prog.bind_ret, Prog.pure_eq_ret]
  iintro HP Hk
  iapply (load_raw c 3 rfl) $$ HP; iintro %u HP
  iapply (store_raw P c 3 rfl hx) $$ HP; iintro HP
  rw [wp_ret]; imodintro
  iapply Hk
  iexact HP

end Ops

end Cert.Fused

end
-- ==== Proof.Entry.lean ====
/-
The kernel's entry: the barrier with the three partners, by which every device is handed the rows
of its partners' receive buffers that it will write.
-/
module

public import proofs.«01_k».proof.Proof.Compute

@[expose] public section

noncomputable section

namespace Cert.Fused

open Cert.KernelIdeal Cert.KernelIdeal.Gen
open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem eqOf {A B : sProp 𝕄} (h : A ⊢ B) (h' : B ⊢ A) : A = B := Entails.antisymm h h'
theorem sepAll {I : Type} (s : Finset I) (Φ Ψ : I → sProp 𝕄) : bigSep s (fun i => iprop(Φ i ∗ Ψ i)) = iprop(bigSep s Φ ∗ bigSep s Ψ) := bigSep_sep s Φ Ψ
theorem bigSep_3 (Φ : Fin 3 → sProp 𝕄) : bigSep Finset.univ Φ = iprop(Φ 0 ∗ Φ 1 ∗ Φ 2) := bigSep_univ_eq_bigSepL [0, 1, 2] (by decide) (by decide) Φ
theorem bigSep_4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## Receive slots -/

/-- Rows of the receive buffer at any values. -/
def cAny (c : Dev nD) (a n : ℕ) : sProp 𝕄 := iprop(∃ f, cPts (F := F) c a n f)

theorem cAny_split (c : Dev nD) (a n b : ℕ) : (cAny (F := F) c a (n + b) : sProp 𝕄) = iprop(cAny (F := F) c a n ∗ cAny (F := F) c (a + n) b) := by
  refine eqOf ?_ ?_
  · unfold cAny
    iintro ⟨%f, H⟩
    ihave H := (Entails.of_eq (c_split c a n b f)) $$ H
    icases H with ⟨H1, H2⟩
    isplitl [H1]; · iexists f; iexact H1
    iexists f; iexact H2
  · unfold cAny cPts
    rw [← rowsC_split]
    iintro ⟨⟨%f, H1⟩, ⟨%g, H2⟩⟩
    iexists _
    iapply (pointsTo_join (rowsC_disj (Or.inl le_rfl)))
    isplitl [H1]; · iexact H1
    iexact H2

/-- A part's 224 rows are its three slots. -/
theorem cAny_part (c : Dev nD) (p : Fin 4) :
    (cAny (F := F) c (224 * p.val) 224 : sProp 𝕄) = bigSep Finset.univ fun s : Fin 3 => cAny (F := F) c (slot p s) (half s) := by
  rw [bigSep_3, show (224 : ℕ) = 128 + (64 + 32) from rfl, cAny_split, cAny_split]
  rfl

theorem cAny_all (c : Dev nD) :
    (iprop(∃ f, ((c : Thread nD τ).loc cc0_scratch0) ↦{fullShare} f) : sProp 𝕄)
      = bigSep Finset.univ fun p : Fin 4 => bigSep Finset.univ fun s : Fin 3 => cAny (F := F) c (slot p s) (half s) := by
  simp only [← cAny_part]
  rw [bigSep_4]
  have h : (iprop(∃ f, ((c : Thread nD τ).loc cc0_scratch0) ↦{fullShare} f) : sProp 𝕄) = cAny (F := F) c 0 (224 + (224 + (224 + 224))) := by
    unfold cAny cPts
    rw [show 224 + (224 + (224 + 224)) = 896 from rfl, rowsC_all]
  rw [h, cAny_split, cAny_split, cAny_split]
  rfl

/-- What is said of the reducing steps alone. -/
theorem six_three (Φ : Fin 3 → sProp 𝕄) :
    (bigSep Finset.univ fun k : Fin 6 => if k.val < 3 then Φ (sOf k) else iprop(emp)) = bigSep Finset.univ Φ := by
  rw [bigSep_6, bigSep_3, if_pos (show (0 : Fin 6).val < 3 by decide), if_pos (show (1 : Fin 6).val < 3 by decide), if_pos (show (2 : Fin 6).val < 3 by decide),
    if_neg (show ¬ (3 : Fin 6).val < 3 by decide), if_neg (show ¬ (4 : Fin 6).val < 3 by decide), if_neg (show ¬ (5 : Fin 6).val < 3 by decide),
    show sOf 0 = 0 by decide, show sOf 1 = 1 by decide, show sOf 2 = 2 by decide]
  refine eqOf ?_ ?_
  · iintro ⟨H0, H1, H2, -⟩
    isplitl [H0]; · iexact H0
    isplitl [H1]; · iexact H1
    iexact H2
  · iintro ⟨H0, H1, H2⟩
    isplitl [H0]; · iexact H0
    isplitl [H1]; · iexact H1
    isplitl [H2]; · iexact H2
    isplitr; · iempintro
    isplitr; · iempintro
    iempintro

def ordE (p : Fin 4) : Fin 3 ≃ Fin 3 := ⟨ord p, stepOf p, stepOf_ord p, ord_stepOf p⟩

/-- Slots by dimension of the partner are slots by step. -/
theorem by_dim (Φ : Fin 4 → Fin 3 → Fin 3 → sProp 𝕄) :
    (bigSep Finset.univ fun d : Fin 3 => bigSep Finset.univ fun p : Fin 4 => Φ p d (stepOf p d))
      = bigSep Finset.univ fun p : Fin 4 => bigSep Finset.univ fun s : Fin 3 => Φ p (ord p s) s := by
  rw [bigSep_univ_comm]
  refine bigSep_congr fun p _ => ?_
  rw [bigSep_univ_equiv (ordE p)]
  refine bigSep_congr fun d _ => ?_
  show Φ p (ord p d) (stepOf p (ord p d)) = Φ p (ord p d) d
  rw [stepOf_ord]

/-- A device's own slots, sorted by the partner each is handed to. -/
theorem slots_out (c : Dev nD) :
    (iprop(∃ f, ((c : Thread nD τ).loc cc0_scratch0) ↦{fullShare} f) : sProp 𝕄) = bigSep Finset.univ fun d : Fin 3 => barPay (F := F) (flip d c) d := by
  rw [cAny_all, ← by_dim fun p d s => cAny (F := F) c (slot p s) (half s)]
  refine bigSep_congr fun d _ => ?_
  unfold barPay
  rw [flip_flip]
  rfl

/-- The partners' slots, sorted by the step that writes each. -/
theorem slots_in (c : Dev nD) :
    (bigSep Finset.univ fun d : Fin 3 => barPay (F := F) c d) = bigSep Finset.univ fun p : Fin 4 => bigSep Finset.univ fun k : Fin 6 => dst (F := F) c p k := by
  unfold barPay
  rw [by_dim fun p d s => iprop(∃ f, cPts (F := F) (flip d c) (slot p s) (half s) f)]
  exact bigSep_congr fun p _ => (six_three fun s => iprop(∃ f, cPts (F := F) (mate p s c) (slot p s) (half s) f)).symm

theorem fut_zero (c : Dev nD) (p : Fin 4) :
    (fut (F := F) c p 0 : sProp 𝕄) = iprop((bigSep Finset.univ fun k : Fin 6 => stepRes (F := F) c p k) ∗ bigSep Finset.univ fun k : Fin 6 => dst (F := F) c p k) := by
  unfold fut
  rw [Finset.filter_true_of_mem fun _ _ => Nat.zero_le _, sepAll]
theorem futs_zero (c : Dev nD) :
    (bigSep Finset.univ fun p : Fin 4 => (fut (F := F) c p 0 : sProp 𝕄))
      = iprop((bigSep Finset.univ fun p : Fin 4 => bigSep Finset.univ fun k : Fin 6 => stepRes (F := F) c p k)
        ∗ bigSep Finset.univ fun p : Fin 4 => bigSep Finset.univ fun k : Fin 6 => dst (F := F) c p k) := by
  rw [← sepAll]
  exact bigSep_congr fun p _ => fut_zero c p

section Ops

variable (P : Dev nD → CO F) (K : Dev nD × CIx → ℕ)

/-- What a device holds as it enters the kernel, beside the arrays. -/
def entry (c : Dev nD) : sProp 𝕄 :=
  iprop((∃ W, owes (c : Thread nD τ) (owed0 c) W) ∗ atPos ER (barCell c) 0 ∅ 0 ∗ cred (tallyAt (barCell c) () 3)
    ∗ (bigSep Finset.univ fun d : Fin 3 => dutyTok ER (barCell (flip d c)) 0 d)
    ∗ (∃ f, ((c : Thread nD τ).loc cc0_scratch0) ↦{fullShare} f)
    ∗ bigSep Finset.univ fun p : Fin 4 => bigSep Finset.univ fun k : Fin 6 => stepRes (F := F) c p k)

/-- One signal: the device's slots of dimension `d` go to its partner along it. -/
theorem signal {α : Type} {Q : α → sProp 𝕄} {k' : PUnit → Prog (TpuEff nD τ sig (Elt F) Λ₀ .tc) α}
    (c : Dev nD) (d : Fin 3) {n : Dev nD} (hn : n = flip d c) {O₀ O : CellTallies nD τ sig Unit} (hO : O₀ = O + tallyAt (barCell (flip d c)) () 1) {W : Waits sig Unit} {v : ℕ} (hv : v = 1) :
    iprop(records P K ∗ owes (c : Thread nD τ) O₀ W ∗ dutyTok ER (barCell (flip d c)) 0 d ∗ barPay (F := F) (flip d c) d)
      ⊢ iprop((owes (c : Thread nD τ) O W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) barS v) k') Q) := by
  subst hn hv
  iintro ⟨#HR, HO, Ht, Hp⟩ Hk
  ihave #HI := (rec_inv P K (flip d c, none)) $$ HR
  ihave #Hr := (rec_reached P K (flip d c, none)) $$ HR
  iapply (Rounds.wp_signal 𝒱₀ ER (sched P) (c : Thread nD τ) none (dst := (flip d c : Thread nD τ)) (κ := K (flip d c, none))
    (d := d) (r := 0) (by rw [duties_bar]; exact Finset.mem_univ _) (amount_bar P (flip d c) d) () O hO) $$ [HO Ht Hp]
  · isplitr; · iexact HI
    isplitl [HO]; · iexact HO
    isplitl [Ht]; · iexact Ht
    isplitl [Hp]; · rw [payload_bar]; iexact Hp
    iexact Hr
  iexact Hk

theorem part1_run (c : Dev nD) (Kt : (Σ' (d0 : Dev nD) (v2 : BitVec 32) (v5 : BitVec 32) (v7 : BitVec 32) (v9 : BitVec 32) (v10 : BitVec 32) (v11 : BitVec 32), BitVec 32) → sProp 𝕄) :
    iprop(records P K ∗ entry (F := F) c)
      ⊢ iprop((∀ v2 v5 v7 v9 v10 v11 v12, (Ow (F := F) c 0 ∗ semVal (barCell c) 0 ∗ bigSep Finset.univ fun p : Fin 4 => fut (F := F) c p 0) -∗ Kt ⟨c, v2, v5, v7, v9, v10, v11, v12⟩)
          -∗ wp frame (wpE (defs₀ (F := F)) 𝒱₀ (c : Thread nD τ) none) Set.univ (on (k0_part1 (F := F))) Kt) := by
  simp only [on, k0_part1_eq_skeleton, k0_part1_skel, semSignalWord, semWaitWord, wp_deviceId, Prog.lift, Prog.bind_op, Prog.bind_ret, Prog.pure_eq_ret]
  unfold entry
  rw [slots_out, bigSep_3, bigSep_3]
  iintro ⟨#HR, ⟨%W, HO⟩, Hat, Hc, ⟨Ht0, Ht1, Ht2⟩, ⟨Hs0, Hs1, Hs2⟩, Hst⟩ Hk
  iapply (signal P K c 0 (flip_0 c) (O := owed1 c) rfl (by decide)) $$ [HO Ht0 Hs0]
  · isplitr; · iexact HR
    isplitl [HO]; · iexact HO
    isplitl [Ht0]; · iexact Ht0
    iexact Hs0
  iintro HO
  iapply (signal P K c 1 (flip_1 c) (O := owed2 c) rfl (by decide)) $$ [HO Ht1 Hs1]
  · isplitr; · iexact HR
    isplitl [HO]; · iexact HO
    isplitl [Ht1]; · iexact Ht1
    iexact Hs1
  iintro HO
  iapply (signal P K c 2 (flip_2 c) (O := rem c 0) rfl (by decide)) $$ [HO Ht2 Hs2]
  · isplitr; · iexact HR
    isplitl [HO]; · iexact HO
    isplitl [Ht2]; · iexact Ht2
    iexact Hs2
  iintro HO
  ihave #HI := (rec_inv P K (c, none)) $$ HR
  ihave #HL := (rec_lev P K) $$ HR
  iapply (Rounds.wp_wait_rest_token 𝒱₀ ER (sched P) (c : Thread nD τ) none (κ := K (c, none))
      (wpE_semWait_eq 𝒱₀ (c : Thread nD τ) none Set.univ) (Set.mem_univ _) () (O := rem c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_rem (n := 1) (j := 0) (le_of_eq rfl) (by decide)); iexact HL
    iexact Hat
  iintro ⟨HO, Hat, -, Hpay⟩
  ihave Hp := (Entails.of_eq ((rest_bar P c).trans (slots_in c))) $$ Hpay
  imod (Rounds.cell_close ER (sched P) (Set.mem_univ (K (c, none))) (fun h => h) (R := 0 + 1) (duties_later P (barCell c))) $$ [Hat] with Hz
  · isplitr; · iexact HI
    iexact Hat
  rw [wp_ret]; imodintro
  iapply Hk
  isplitl [HO]; · unfold Ow; iexists _; iexact HO
  isplitl [Hz]; · iexact Hz
  rw [futs_zero]
  isplitl [Hst]; · iexact Hst
  iexact Hp

end Ops

end Cert.Fused

end
-- ==== Proof.Share.lean ====
/-
What a device's own share of the product is, and the buffers the body starts and ends with.
-/
module

public import proofs.«01_k».proof.Proof.Compute
public import proofs.«01_k».proof.Proof.Entry

@[expose] public section

noncomputable section

namespace Cert.Fused

open Cert.KernelIdeal Cert.KernelIdeal.Gen
open Idealize.ShloMosaic
open Idealize.ShloMosaic.TcCoe
open Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The value of each batch's rows -/

section Values

variable (q : FVec F S1024x1024 .f32) (w : FVec F S1024x1024 .bf16) (T : Bool → BV F)

def out0 : FVec F S256x1024 .f32 :=
  k0_pay18 q w (k0_pay5 q (blk (T false) 0 0) (blk (T true) 0 0)) (k0_pay6 q (blk (T false) 0 0) (blk (T true) 0 0)) (k0_pay7 q (blk (T false) 0 0) (blk (T true) 0 0))
    (k0_pay10 (k0_pay4 (blk (T true) 0 0)) (k0_pay8 q (blk (T false) 0 0)) (k0_pay9 q (blk (T false) 0 0)))
    (k0_pay11 (blk (T false) 0 1)) (k0_pay12 (blk (T true) 0 1)) (k0_pay13 q (blk (T false) 0 1) (blk (T true) 0 1)) (k0_pay14 q (blk (T false) 0 1) (blk (T true) 0 1))
    (k0_pay16 q (blk (T false) 0 1)) (k0_pay17 q (blk (T false) 0 1) (blk (T true) 0 1))

def out1 : FVec F S256x1024 .f32 :=
  k0_pay31 w (k0_pay21 q (k0_pay19 (blk (T false) 1 0)) (blk (T true) 1 0)) (k0_pay22 q (k0_pay19 (blk (T false) 1 0)) (blk (T true) 1 0))
    (k0_pay23 q (k0_pay19 (blk (T false) 1 0)) (blk (T true) 1 0)) (k0_pay24 q (k0_pay19 (blk (T false) 1 0)) (blk (T true) 1 0))
    (k0_pay26 (blk (T true) 1 1)) (k0_pay27 q (blk (T false) 1 1) (blk (T true) 1 1)) (k0_pay28 q (blk (T false) 1 1) (blk (T true) 1 1))
    (k0_pay29 q (blk (T false) 1 1) (blk (T true) 1 1)) (k0_pay30 q (blk (T false) 1 1))

def out2 : FVec F S256x1024 .f32 :=
  k0_pay42 w (k0_pay41 q (k0_pay36 (k0_pay33 (blk (T true) 2 0)) (k0_pay34 q (blk (T false) 2 0)) (k0_pay35 q (blk (T false) 2 0)))
    (k0_pay37 q (k0_pay32 (blk (T false) 2 0)) (k0_pay33 (blk (T true) 2 0))) (k0_pay38 q (k0_pay32 (blk (T false) 2 0)) (k0_pay33 (blk (T true) 2 0)))
    (k0_pay39 q (k0_pay32 (blk (T false) 2 0)) (k0_pay33 (blk (T true) 2 0))) (k0_pay40 (blk (T false) 2 1)) (blk (T true) 2 1))

def out3 : FVec F S256x1024 .f32 :=
  k0_pay53 q w (k0_pay45 q (blk (T false) 3 0) (blk (T true) 3 0)) (k0_pay47 (k0_pay43 (blk (T false) 3 0)) (k0_pay44 (blk (T true) 3 0)) (k0_pay46 q))
    (k0_pay48 q (k0_pay43 (blk (T false) 3 0)) (k0_pay44 (blk (T true) 3 0))) (k0_pay49 q (k0_pay43 (blk (T false) 3 0)) (k0_pay44 (blk (T true) 3 0)))
    (k0_pay50 (blk (T false) 3 1)) (k0_pay51 (blk (T true) 3 1)) (k0_pay52 q (blk (T false) 3 1))

def outB : Fin 4 → FVec F S256x1024 .f32
  | 0 => out0 q w T
  | 1 => out1 q w T
  | 2 => out2 q w T
  | 3 => out3 q w T

/-- A device's own share: batch `b`'s rows are rows `256 b` on. -/
def share : CO F := fun i =>
  outB q w T ⟨(i 0).val / 256, by have h : (i 0).val < 1024 := (i 0).isLt; omega⟩
    (ix2 (⟨(i 0).val % 256, Nat.mod_lt _ (by decide)⟩ : Fin 256) (⟨(i 1).val, (i 1).isLt⟩ : Fin 1024))

theorem rows_share (p : Fin 4) : RowsAt (256 * p.val) (share q w T) (outB q w T p) := fun x i h0 h1 => by
  have hx : (x 0).val < 256 := (x 0).isLt
  unfold share
  have hp : (⟨(i 0).val / 256, by have h : (i 0).val < 1024 := (i 0).isLt; omega⟩ : Fin 4) = p := Fin.ext (by show (i 0).val / 256 = p.val; omega)
  rw [hp]
  congr 1
  funext a
  match a with
  | ⟨0, _⟩ => exact Fin.ext (show (x 0).val = (i 0).val % 256 by omega)
  | ⟨1, _⟩ => exact Fin.ext h1.symm

end Values

/-! ## Keys and values -/

theorem kv_pieces : (Finset.univ : Finset S4x2x1024x128.Idx) = (Finset.univ : Finset (Fin 4 × Fin 2)).biUnion fun x => blkS x.1 x.2 := by
  ext i
  simp only [Finset.mem_univ, Finset.mem_biUnion, true_and, true_iff]
  exact ⟨(⟨(i 0).val, (i 0).isLt⟩, ⟨(i 1).val, (i 1).isLt⟩), mem_blkS.mpr ⟨rfl, rfl⟩⟩

theorem kv_disj : ∀ x ∈ (Finset.univ : Finset (Fin 4 × Fin 2)), ∀ y ∈ (Finset.univ : Finset (Fin 4 × Fin 2)), x ≠ y → Disjoint (blkS x.1 x.2) (blkS y.1 y.2) := by
  intro x _ y _ hxy
  refine Finset.disjoint_left.mpr fun i hi hj => hxy ?_
  rw [mem_blkS] at hi hj
  exact Prod.ext (Fin.ext (hi.1.symm.trans hj.1)) (Fin.ext (hi.2.symm.trans hj.2))

theorem kvBuf_blocks (w : Bool) (c : Dev nD) (f : BV F) :
    kvBuf w c Finset.univ f = bigSep (Finset.univ : Finset (Fin 4 × Fin 2)) fun x => kvBuf w c (blkS x.1 x.2) f := by
  rw [kv_pieces]
  cases w
  · exact pointsTo_biUnion _ _ kv_disj
  · exact pointsTo_biUnion _ _ kv_disj

theorem bigSep_bool (Φ : Bool → sProp 𝕄) : bigSep Finset.univ Φ = iprop(Φ false ∗ Φ true) := by
  rw [show (Finset.univ : Finset Bool) = insert false {true} by decide, bigSep_insert (by decide), bigSep_singleton]
  rfl

theorem by_kind (Φ : KvIx → sProp 𝕄) :
    bigSep Finset.univ Φ = iprop((bigSep (Finset.univ : Finset (Fin 4 × Fin 2)) fun x => Φ (false, x)) ∗ bigSep (Finset.univ : Finset (Fin 4 × Fin 2)) fun x => Φ (true, x)) := by
  rw [bigSep_univ_prod, bigSep_bool]

theorem kv_full (AB : Bool → AV F) (c : Dev nD) :
    landing AB c 16 ⊢ iprop(Full c (fun w => heads c (AB w)) ∗ bigSep Finset.univ fun x : KvIx => semVal (kvCell c (kvJ x.1 x.2.1 x.2.2)) 0) := by
  refine (landing_done AB c).trans ?_
  unfold kvGot Full
  rw [sepAll, by_kind (fun x : KvIx => kvBuf x.1 c (blkS x.2.1 x.2.2) (heads c (AB x.1))), kvBuf_blocks false c, kvBuf_blocks true c]

/-! ## The result's rows -/

theorem out_pieces : (Finset.univ : Finset S1024x1024.Idx) = (Finset.univ : Finset (Fin 4)).biUnion fun p => rowsO (256 * p.val) 256 := by
  ext i
  have h : (i 0).val < 1024 := (i 0).isLt
  simp only [Finset.mem_univ, Finset.mem_biUnion, true_and, true_iff, mem_rowsO]
  exact ⟨⟨(i 0).val / 256, by omega⟩, by show 256 * ((i 0).val / 256) ≤ _; omega, by show _ < 256 * ((i 0).val / 256) + 256; omega⟩

theorem out_disj : ∀ p ∈ (Finset.univ : Finset (Fin 4)), ∀ q ∈ (Finset.univ : Finset (Fin 4)), p ≠ q → Disjoint (rowsO (256 * p.val) 256) (rowsO (256 * q.val) 256) :=
  fun p _ q _ hpq => rowsO_disj (by have : p.val ≠ q.val := fun h => hpq (Fin.ext h); omega)

theorem out_parts (c : Dev nD) (f : CO F) :
    (((c : Thread nD τ).loc cc0_stg3_0) ↦[(Finset.univ : Finset S1024x1024.Idx)]{fullShare} f : sProp 𝕄) = bigSep Finset.univ fun p : Fin 4 => oPts c (256 * p.val) 256 f := by
  rw [out_pieces]
  exact pointsTo_biUnion _ _ out_disj

theorem oPts_any (c : Dev nD) (a n : ℕ) (f : CO F) : (oPts c a n f : sProp 𝕄) ⊢ iprop(∃ f, oPts (F := F) c a n f) := by
  iintro H; iexists f; iexact H

theorem out_any (c : Dev nD) (f : CO F) :
    (((c : Thread nD τ).loc cc0_stg3_0) ↦{fullShare} f : sProp 𝕄) ⊢ bigSep Finset.univ fun p : Fin 4 => iprop(∃ f, oPts (F := F) c (256 * p.val) 256 f) :=
  (Entails.of_eq (out_parts c f)).trans (bigSep_mono fun p _ => oPts_any c _ _ f)

theorem out_raw (c : Dev nD) :
    iprop((∃ f, ((c : Thread nD τ).loc cc0_stg3_0) ↦{fullShare} f) ∗ bigSep Finset.univ fun p : Fin 4 => fut (F := F) c p 0)
      ⊢ bigSep Finset.univ fun p : Fin 4 => Raw (F := F) c p := by
  unfold Raw
  rw [sepAll]
  iintro ⟨⟨%f, H⟩, Hf⟩
  isplitl [Hf]; · iexact Hf
  iapply (out_any c f) $$ H

/-- The steps all done: the result whole, the incoming rows back, every cell at zero. -/
theorem out_done (P : Dev nD → CO F) (c : Dev nD) :
    (bigSep Finset.univ fun p : Fin 4 => Rdy P c p 6)
      ⊢ iprop((((c : Thread nD τ).loc cc0_stg3_0) ↦{fullShare} fin P) ∗ (∃ f, ((c : Thread nD τ).loc cc0_scratch0) ↦{fullShare} f)
        ∗ bigSep Finset.univ fun p : Fin 4 => bigSep Finset.univ fun k : Fin 6 => iprop(semVal (sendCell c p k) 0 ∗ semVal (recvCell c p k) 0)) := by
  have h : ∀ p ∈ (Finset.univ : Finset (Fin 4)), (Rdy P c p 6 : sProp 𝕄)
      ⊢ iprop(oPts c (256 * p.val) 256 (fin P) ∗ (bigSep Finset.univ fun s : Fin 3 => cAny (F := F) c (slot p s) (half s))
        ∗ bigSep Finset.univ fun k : Fin 6 => iprop(semVal (sendCell c p k) 0 ∗ semVal (recvCell c p k) 0)) := fun p _ => by
    unfold Rdy past
    rw [if_neg (by decide), Finset.filter_true_of_mem (fun k _ => k.isLt), ← six_three]
    rw [show (fun k : Fin 6 => (iprop(semVal (sendCell c p k) 0 ∗ semVal (recvCell c p k) 0 ∗ old (F := F) c p k) : sProp 𝕄))
      = fun k : Fin 6 => iprop((if k.val < 3 then cAny (F := F) c (slot p (sOf k)) (half (sOf k)) else iprop(emp)) ∗ (semVal (sendCell c p k) 0 ∗ semVal (recvCell c p k) 0)) from
      funext fun k => by
        unfold old cAny
        refine eqOf ?_ ?_
        · iintro ⟨H1, H2, H3⟩
          isplitl [H3]; · iexact H3
          isplitl [H1]; · iexact H1
          iexact H2
        · iintro ⟨H3, H1, H2⟩
          isplitl [H1]; · iexact H1
          isplitl [H2]; · iexact H2
          iexact H3]
    rw [sepAll]
    iintro ⟨-, ⟨H1, H2⟩, -, H3⟩
    isplitl [H3]; · iexact H3
    isplitl [H1]; · iexact H1
    iexact H2
  have e : (bigSep Finset.univ fun p : Fin 4 => (iprop(oPts c (256 * p.val) 256 (fin P) ∗ (bigSep Finset.univ fun s : Fin 3 => cAny (F := F) c (slot p s) (half s))
        ∗ bigSep Finset.univ fun k : Fin 6 => iprop(semVal (sendCell c p k) 0 ∗ semVal (recvCell c p k) 0)) : sProp 𝕄))
      = iprop((((c : Thread nD τ).loc cc0_stg3_0) ↦{fullShare} fin P) ∗ (∃ f, ((c : Thread nD τ).loc cc0_scratch0) ↦{fullShare} f)
        ∗ bigSep Finset.univ fun p : Fin 4 => bigSep Finset.univ fun k : Fin 6 => iprop(semVal (sendCell c p k) 0 ∗ semVal (recvCell c p k) 0)) := by
    rw [sepAll, sepAll, ← out_parts, ← cAny_all]
  rw [← e]
  exact bigSep_mono h

end Cert.Fused

end
-- ==== Proof.Gather.lean ====
/-
The gathering half of the all-reduce, a part of the kernel's text at a time.
-/
module

public import proofs.«01_k».proof.Proof.Reduce
public import Idealize.ShloMosaic.Lib.Pipeline.Value

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ops

variable (P : Dev nD → CO F) (K : Dev nD × CIx → ℕ)

theorem part34_run (c : Dev nD) (v9 : BitVec 32) (v10 : BitVec 32) (v11 : BitVec 32) (v12 : BitVec 32) (v851 : BitVec 32) (Kt : (BitVec 32) → sProp 𝕄) :
    iprop(records P K ∗ Ow (F := F) c 16 ∗ Fly P c 0 3 ∗ Fly P c 1 3)
      ⊢ iprop((∀ r, (Ow (F := F) c 17 ∗ Fly P c 0 4 ∗ Sent P c 1 3) -∗ Kt r) -∗ wp frame (wpE (defs₀ (F := F)) 𝒱₀ (c : Thread nD τ) none) Set.univ (on (k0_part34 (F := F)) c v9 v10 v11 v12 v851) Kt) := by
  simp only [on, k0_part34_eq_skeleton, k0_part34_skel, Prog.lift, Prog.bind_op, Prog.bind_ret, Prog.pure_eq_ret]
  iintro ⟨#HR, HO, H0, H1⟩ Hk
  iapply (waits_gather P K c 0 3 (by decide) (j := 16) (by decide) rfl rfl rfl rfl) $$ [HO H0]
  · isplitr; · iexact HR
    isplitl [HO]; · iexact HO
    iexact H0
  iintro ⟨HO, H0⟩
  iapply (start_gather P K c 0 4 (by decide) (to_04 c) (j := 16) rfl rfl (gat_04 c) (gat_04 c) rfl rfl) $$ [HO H0]
  · isplitr; · iexact HR
    isplitl [HO]; · iexact HO
    iexact H0
  iintro ⟨HO, H0⟩
  iapply (wait_send P K c 1 3 (j := 17) (by decide) rfl rfl) $$ [HO H1]
  · isplitr; · iexact HR
    isplitl [HO]; · iexact HO
    iexact H1
  iintro ⟨HO, H1⟩
  rw [wp_ret]; imodintro
  iapply Hk
  isplitl [HO]; · iexact HO
  isplitl [H0]; · iexact H0
  iexact H1

theorem part35_run (c : Dev nD) (v5 : BitVec 32) (v7 : BitVec 32) (v10 : BitVec 32) (v11 : BitVec 32) (v12 : BitVec 32) (v881 : BitVec 32) (v911 : BitVec 32) (Kt : (Σ' (v1084 : BitVec 32), BitVec 32) → sProp 𝕄) :
    iprop(records P K ∗ Ow (F := F) c 17 ∗ Sent P c 1 3 ∗ Fly P c 2 3)
      ⊢ iprop((∀ r, (Ow (F := F) c 19 ∗ Fly P c 1 4 ∗ Fly P c 2 4) -∗ Kt r) -∗ wp frame (wpE (defs₀ (F := F)) 𝒱₀ (c : Thread nD τ) none) Set.univ (on (k0_part35 (F := F)) c v5 v7 v10 v11 v12 v881 v911) Kt) := by
  simp only [on, k0_part35_eq_skeleton, k0_part35_skel, Prog.lift, Prog.bind_op, Prog.bind_ret, Prog.pure_eq_ret]
  iintro ⟨#HR, HO, H1, H2⟩ Hk
  iapply (wait_recv_gather P K c 1 3 (by decide) (j := 17) (by decide) rfl rfl) $$ [HO H1]
  · isplitr; · iexact HR
    isplitl [HO]; · iexact HO
    iexact H1
  iintro ⟨HO, H1⟩
  iapply (start_gather P K c 1 4 (by decide) (to_14 c) (j := 17) rfl rfl (gat_14 c) (gat_14 c) rfl rfl) $$ [HO H1]
  · isplitr; · iexact HR
    isplitl [HO]; · iexact HO
    iexact H1
  iintro ⟨HO, H1⟩
  iapply (waits_gather P K c 2 3 (by decide) (j := 18) (by decide) rfl rfl rfl rfl) $$ [HO H2]
  · isplitr; · iexact HR
    isplitl [HO]; · iexact HO
    iexact H2
  iintro ⟨HO, H2⟩
  iapply (start_gather P K c 2 4 (by decide) (to_24 c) (j := 18) rfl rfl (gat_24 c) (gat_24 c) rfl rfl) $$ [HO H2]
  · isplitr; · iexact HR
    isplitl [HO]; · iexact HO
    iexact H2
  iintro ⟨HO, H2⟩
  rw [wp_ret]; imodintro
  iapply Hk
  isplitl [HO]; · iexact HO
  isplitl [H1]; · iexact H1
  iexact H2

theorem part36_run (c : Dev nD) (v9 : BitVec 32) (v11 : BitVec 32) (v12 : BitVec 32) (v941 : BitVec 32) (Kt : (BitVec 32) → sProp 𝕄) :
    iprop(records P K ∗ Ow (F := F) c 19 ∗ Fly P c 3 3 ∗ Fly P c 0 4)
      ⊢ iprop((∀ r, (Ow (F := F) c 20 ∗ Fly P c 3 4 ∗ Sent P c 0 4) -∗ Kt r) -∗ wp frame (wpE (defs₀ (F := F)) 𝒱₀ (c : Thread nD τ) none) Set.univ (on (k0_part36 (F := F)) c v9 v11 v12 v941) Kt) := by
  simp only [on, k0_part36_eq_skeleton, k0_part36_skel, Prog.lift, Prog.bind_op, Prog.bind_ret, Prog.pure_eq_ret]
  iintro ⟨#HR, HO, H3, H0⟩ Hk
  iapply (waits_gather P K c 3 3 (by decide) (j := 19) (by decide) rfl rfl rfl rfl) $$ [HO H3]
  · isplitr; · iexact HR
    isplitl [HO]; · iexact HO
    iexact H3
  iintro ⟨HO, H3⟩
  iapply (start_gather P K c 3 4 (by decide) (to_34 c) (j := 19) rfl rfl (gat_34 c) (gat_34 c) rfl rfl) $$ [HO H3]
  · isplitr; · iexact HR
    isplitl [HO]; · iexact HO
    iexact H3
  iintro ⟨HO, H3⟩
  iapply (wait_send P K c 0 4 (j := 20) (by decide) rfl rfl) $$ [HO H0]
  · isplitr; · iexact HR
    isplitl [HO]; · iexact HO
    iexact H0
  iintro ⟨HO, H0⟩
  rw [wp_ret]; imodintro
  iapply Hk
  isplitl [HO]; · iexact HO
  isplitl [H3]; · iexact H3
  iexact H0

theorem part37_run (c : Dev nD) (v7 : BitVec 32) (v9 : BitVec 32) (v10 : BitVec 32) (v11 : BitVec 32) (v12 : BitVec 32) (v1064 : BitVec 32) (v1084 : BitVec 32) (Kt : (PUnit) → sProp 𝕄) :
    iprop(records P K ∗ Ow (F := F) c 20 ∗ Sent P c 0 4 ∗ Fly P c 1 4)
      ⊢ iprop((∀ r, (Ow (F := F) c 21 ∗ Fly P c 0 5 ∗ Rdy P c 1 5) -∗ Kt r) -∗ wp frame (wpE (defs₀ (F := F)) 𝒱₀ (c : Thread nD τ) none) Set.univ (on (k0_part37 (F := F)) c v7 v9 v10 v11 v12 v1064 v1084) Kt) := by
  simp only [on, k0_part37_eq_skeleton, k0_part37_skel, Prog.lift, Prog.bind_op, Prog.bind_ret, Prog.pure_eq_ret]
  iintro ⟨#HR, HO, H0, H1⟩ Hk
  iapply (wait_recv_gather P K c 0 4 (by decide) (j := 20) (by decide) rfl rfl) $$ [HO H0]
  · isplitr; · iexact HR
    isplitl [HO]; · iexact HO
    iexact H0
  iintro ⟨HO, H0⟩
  iapply (start_gather P K c 0 5 (by decide) (to_05 c) (j := 20) rfl rfl (gat_05 c) (gat_05 c) rfl rfl) $$ [HO H0]
  · isplitr; · iexact HR
    isplitl [HO]; · iexact HO
    iexact H0
  iintro ⟨HO, H0⟩
  iapply (waits_gather P K c 1 4 (by decide) (j := 21) (by decide) rfl rfl rfl rfl) $$ [HO H1]
  · isplitr; · iexact HR
    isplitl [HO]; · iexact HO
    iexact H1
  iintro ⟨HO, H1⟩
  rw [wp_ret]; imodintro
  iapply Hk
  isplitl [HO]; · iexact HO
  isplitl [H0]; · iexact H0
  iexact H1

theorem part38_run (c : Dev nD) (v5 : BitVec 32) (v10 : BitVec 32) (v11 : BitVec 32) (v12 : BitVec 32) (v1104 : BitVec 32) (Kt : (PUnit) → sProp 𝕄) :
    iprop(records P K ∗ Ow (F := F) c 21 ∗ Rdy P c 1 5 ∗ Fly P c 2 4 ∗ Fly P c 3 4)
      ⊢ iprop((∀ r, (Ow (F := F) c 23 ∗ Fly P c 1 5 ∗ Fly P c 2 5 ∗ Sent P c 3 4) -∗ Kt r) -∗ wp frame (wpE (defs₀ (F := F)) 𝒱₀ (c : Thread nD τ) none) Set.univ (on (k0_part38 (F := F)) c v5 v10 v11 v12 v1104) Kt) := by
  simp only [on, k0_part38_eq_skeleton, k0_part38_skel, Prog.lift, Prog.bind_op, Prog.bind_ret, Prog.pure_eq_ret]
  iintro ⟨#HR, HO, H1, H2, H3⟩ Hk
  iapply (start_gather P K c 1 5 (by decide) (to_15 c) (j := 21) rfl rfl (gat_15 c) (gat_15 c) rfl rfl) $$ [HO H1]
  · isplitr; · iexact HR
    isplitl [HO]; · iexact HO
    iexact H1
  iintro ⟨HO, H1⟩
  iapply (waits_gather P K c 2 4 (by decide) (j := 22) (by decide) rfl rfl rfl rfl) $$ [HO H2]
  · isplitr; · iexact HR
    isplitl [HO]; · iexact HO
    iexact H2
  iintro ⟨HO, H2⟩
  iapply (start_gather P K c 2 5 (by decide) (to_25 c) (j := 22) rfl rfl (gat_25 c) (gat_25 c) rfl rfl) $$ [HO H2]
  · isplitr; · iexact HR
    isplitl [HO]; · iexact HO
    iexact H2
  iintro ⟨HO, H2⟩
  iapply (wait_send P K c 3 4 (j := 23) (by decide) rfl rfl) $$ [HO H3]
  · isplitr; · iexact HR
    isplitl [HO]; · iexact HO
    iexact H3
  iintro ⟨HO, H3⟩
  rw [wp_ret]; imodintro
  iapply Hk
  isplitl [HO]; · iexact HO
  isplitl [H1]; · iexact H1
  isplitl [H2]; · iexact H2
  iexact H3

theorem part39_run (c : Dev nD) (v7 : BitVec 32) (v10 : BitVec 32) (v1124 : BitVec 32) (Kt : (PUnit) → sProp 𝕄) :
    iprop(records P K ∗ Ow (F := F) c 23 ∗ Sent P c 3 4 ∗ Fly P c 0 5 ∗ Fly P c 1 5)
      ⊢ iprop((∀ r, (Ow (F := F) c 24 ∗ Fly P c 3 5 ∗ Rdy P c 0 6 ∗ Sent P c 1 5) -∗ Kt r) -∗ wp frame (wpE (defs₀ (F := F)) 𝒱₀ (c : Thread nD τ) none) Set.univ (on (k0_part39 (F := F)) c v7 v10 v1124) Kt) := by
  simp only [on, k0_part39_eq_skeleton, k0_part39_skel, Prog.lift, Prog.bind_op, Prog.bind_ret, Prog.pure_eq_ret]
  iintro ⟨#HR, HO, H3, H0, H1⟩ Hk
  iapply (wait_recv_gather P K c 3 4 (by decide) (j := 23) (by decide) rfl rfl) $$ [HO H3]
  · isplitr; · iexact HR
    isplitl [HO]; · iexact HO
    iexact H3
  iintro ⟨HO, H3⟩
  iapply (start_gather P K c 3 5 (by decide) (to_35 c) (j := 23) rfl rfl (gat_35 c) (gat_35 c) rfl rfl) $$ [HO H3]
  · isplitr; · iexact HR
    isplitl [HO]; · iexact HO
    iexact H3
  iintro ⟨HO, H3⟩
  iapply (waits_gather P K c 0 5 (by decide) (j := 24) (by decide) rfl rfl rfl rfl) $$ [HO H0]
  · isplitr; · iexact HR
    isplitl [HO]; · iexact HO
    iexact H0
  iintro ⟨HO, H0⟩
  iapply (wait_send P K c 1 5 (j := 24) (by decide) rfl rfl) $$ [HO H1]
  · isplitr; · iexact HR
    isplitl [HO]; · iexact HO
    iexact H1
  iintro ⟨HO, H1⟩
  rw [wp_ret]; imodintro
  iapply Hk
  isplitl [HO]; · iexact HO
  isplitl [H3]; · iexact H3
  isplitl [H0]; · iexact H0
  iexact H1

end Ops

end Cert.Fused

end
-- ==== Proof.Body.lean ====
/-
The whole body: its parts one after another.
-/
module

public import proofs.«01_k».proof.Proof.Share
public import proofs.«01_k».proof.Proof.Gather

@[expose] public section

noncomputable section

namespace Cert.Fused

open Cert.KernelIdeal Cert.KernelIdeal.Gen
open Idealize.ShloMosaic
open Idealize.ShloMosaic.TcCoe
open Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Ops

variable (P : Dev nD → CO F) (K : Dev nD × CIx → ℕ)

/-- What the body starts from and what it leaves. -/
def bodyIn (AB : Bool → AV F) (c : Dev nD) (x : Vec F S4x256x1024 .f32) (wq wo : Vec F S1024x1024 .f32) : sProp 𝕄 :=
  iprop(entry (F := F) c ∗ starting AB c 0 ∗ (((c : Thread nD τ).loc cc0_stg0_0) ↦{fullShare} x) ∗ (((c : Thread nD τ).loc cc0_stg1_0) ↦{fullShare} wq)
    ∗ (((c : Thread nD τ).loc cc0_stg2_0) ↦{fullShare} wo) ∗ ∃ f, ((c : Thread nD τ).loc cc0_stg3_0) ↦{fullShare} f)
def bodyOut (AB : Bool → AV F) (c : Dev nD) (x : Vec F S4x256x1024 .f32) (wq wo : Vec F S1024x1024 .f32) : sProp 𝕄 :=
  iprop(Ow (F := F) c 24 ∗ semVal (barCell c) 0 ∗ Full c (fun w => heads c (AB w)) ∗ (bigSep Finset.univ fun x : KvIx => semVal (kvCell c (kvJ x.1 x.2.1 x.2.2)) 0)
    ∗ (((c : Thread nD τ).loc cc0_stg0_0) ↦{fullShare} x) ∗ (((c : Thread nD τ).loc cc0_stg1_0) ↦{fullShare} wq)
    ∗ (((c : Thread nD τ).loc cc0_stg2_0) ↦{fullShare} wo) ∗ (((c : Thread nD τ).loc cc0_stg3_0) ↦{fullShare} fin P)
    ∗ (∃ f, ((c : Thread nD τ).loc cc0_scratch0) ↦{fullShare} f)
    ∗ bigSep Finset.univ fun p : Fin 4 => bigSep Finset.univ fun k : Fin 6 => iprop(semVal (sendCell c p k) 0 ∗ semVal (recvCell c p k) 0))

set_option maxHeartbeats 4000000 in
theorem body_run (AB : Bool → AV F) (c : Dev nD) (x : Vec F S4x256x1024 .f32) (wq wo : Vec F S1024x1024 .f32)
    (hP : P c = share (k0_pay1 x wq) (k0_pay2 wo) (fun w => heads c (AB w))) (Kt : PUnit → sProp 𝕄) :
    iprop(records P K ∗ bodyIn AB c x wq wo)
      ⊢ iprop((bodyOut P AB c x wq wo -∗ Kt ⟨⟩) -∗ wp frame (wpE (defs₀ (F := F)) 𝒱₀ (c : Thread nD τ) none) Set.univ (on (cc0__fused_body (F := F))) Kt) := by
  have h0 : RowsAt 0 (P c) (out0 (k0_pay1 x wq) (k0_pay2 wo) fun w => heads c (AB w)) := hP ▸ rows_share _ _ _ 0
  have h1 : RowsAt 256 (P c) (out1 (k0_pay1 x wq) (k0_pay2 wo) fun w => heads c (AB w)) := hP ▸ rows_share _ _ _ 1
  have h2 : RowsAt 512 (P c) (out2 (k0_pay1 x wq) (k0_pay2 wo) fun w => heads c (AB w)) := hP ▸ rows_share _ _ _ 2
  have h3 : RowsAt 768 (P c) (out3 (k0_pay1 x wq) (k0_pay2 wo) fun w => heads c (AB w)) := hP ▸ rows_share _ _ _ 3
  unfold bodyIn bodyOut
  simp only [on]
  unfold cc0__fused_body
  rw [k0_part40_eq_skeleton]
  unfold k0_part40_skel
  iintro ⟨#HR, HE, HS, Hx, Hq, Ho, Hout⟩ Hk
  rw [wp_bind, wp_bind]
  iapply (part1_run P K c _) $$ [HE]
  · isplitr; · iexact HR
    iexact HE
  iintro %v2 %v5 %v7 %v9 %v10 %v11 %v12 ⟨HO, Hbar, Hfut⟩
  dsimp only
  rw [wp_bind]
  iapply (part2_run AB c v2 _) $$ [HS]
  · iexact HS
  iintro HS
  rw [wp_bind]
  iapply (part3_run AB c v2 _) $$ [HS]
  · iexact HS
  iintro HS
  rw [wp_bind]
  iapply (part4_run AB c v2 _) $$ [HS]
  · iexact HS
  iintro HS
  rw [wp_bind]
  iapply (part5_run AB c v2 _) $$ [HS]
  · iexact HS
  iintro HS
  rw [wp_bind]
  iapply (part6_run P K AB c x wq _) $$ [HO HS Hx Hq]
  · isplitr; · iexact HR
    isplitl [HO]; · iexact HO
    isplitl [HS]; · iexact HS
    isplitl [Hx]; · iexact Hx
    iexact Hq
  iintro ⟨HO, HS, Hx, Hq⟩
  rw [wp_bind]
  iapply (part7_run P K AB c _) $$ [HO HS]
  · isplitr; · iexact HR
    isplitl [HO]; · iexact HO
    iexact HS
  iintro ⟨HO, HS⟩
  rw [wp_bind]
  iapply (part8_run P K AB c _) $$ [HO HS]
  · isplitr; · iexact HR
    isplitl [HO]; · iexact HO
    iexact HS
  iintro ⟨HO, HS⟩
  rw [wp_bind]
  iapply (part9_run P K AB c _) $$ [HO HS]
  · isplitr; · iexact HR
    isplitl [HO]; · iexact HO
    iexact HS
  iintro ⟨HO, HS⟩
  ihave Hraw := (out_raw c) $$ [Hout Hfut]
  · isplitl [Hout]; · iexact Hout
    iexact Hfut
  ihave ⟨Hr0, Hr1, Hr2, Hr3⟩ := (Entails.of_eq (bigSep_4 (fun p : Fin 4 => Raw (F := F) c p))) $$ Hraw
  rw [wp_bind]
  iapply (part10_run P K AB c v2 wo _) $$ [HO HS Ho]
  · isplitr; · iexact HR
    isplitl [HO]; · iexact HO
    isplitl [HS]; · iexact HS
    iexact Ho
  iintro %v242 %v244 %v246 %v248 ⟨HO, HS, Ho⟩
  dsimp only
  ihave ⟨HF, Hkv⟩ := (kv_full AB c) $$ HS
  rw [wp_bind]
  iapply (part11_run (fun w => heads c (AB w)) c _ _) $$ [HF]
  · iexact HF
  iintro HF
  dsimp only
  rw [wp_bind]
  iapply (part12_run (fun w => heads c (AB w)) c _ _ _ _ _) $$ [HF]
  · iexact HF
  iintro HF
  dsimp only
  rw [wp_bind]
  iapply (part13_run P K (fun w => heads c (AB w)) c _ _ _ _ _ _ _ _ _ _ _ _ _ _ _ h0 _) $$ [HO Hr0 HF]
  · isplitr; · iexact HR
    isplitl [HO]; · iexact HO
    isplitl [Hr0]; · iexact Hr0
    iexact HF
  iintro %v353 ⟨HO, H0, HF⟩
  dsimp only
  rw [wp_bind]
  iapply (part14_run c _ _ _ _)
  dsimp only
  rw [wp_bind]
  iapply (part15_run (fun w => heads c (AB w)) c _ _) $$ [HF]
  · iexact HF
  iintro HF
  dsimp only
  rw [wp_bind]
  iapply (part16_run P K (fun w => heads c (AB w)) c _ _ _ _ _ _ _ _ _ _ _ _ _ _ h1 _) $$ [HO Hr1 HF]
  · isplitr; · iexact HR
    isplitl [HO]; · iexact HO
    isplitl [Hr1]; · iexact Hr1
    iexact HF
  iintro %v469 ⟨HO, H1, HF⟩
  dsimp only
  rw [wp_bind]
  iapply (part17_run (fun w => heads c (AB w)) c _ _ _ _ _ _) $$ [HF]
  · iexact HF
  iintro HF
  dsimp only
  rw [wp_bind]
  iapply (part18_run (fun w => heads c (AB w)) c _ _ _ _ _ _ _) $$ [HF]
  · iexact HF
  iintro HF
  rw [wp_bind]
  iapply (part19_run P K (fun w => heads c (AB w)) c _ _ _ _ _ _ h2 _) $$ [HO Hr2 HF]
  · isplitr; · iexact HR
    isplitl [HO]; · iexact HO
    isplitl [Hr2]; · iexact Hr2
    iexact HF
  iintro %v585 ⟨HO, H2, HF⟩
  dsimp only
  rw [wp_bind]
  iapply (part20_run (fun w => heads c (AB w)) c _ _ _ _ _) $$ [HF]
  · iexact HF
  iintro HF
  dsimp only
  rw [wp_bind]
  iapply (part21_run P c _ _ _ _ _ _ _ _ _ _ _ h3 _) $$ [Hr3]
  · iexact Hr3
  iintro %v701 H3
  rw [wp_bind]
  iapply (part22_run P K c _ _ _ _ _ _) $$ [HO H3 H0]
  · isplitr; · iexact HR
    isplitl [HO]; · iexact HO
    isplitl [H3]; · iexact H3
    iexact H0
  iintro %r22 ⟨HO, H3, H0⟩
  rw [wp_bind]
  iapply (part23_run P K c _ _ _ _ _ _) $$ [HO H0 H1]
  · isplitr; · iexact HR
    isplitl [HO]; · iexact HO
    isplitl [H0]; · iexact H0
    iexact H1
  iintro %r23 ⟨HO, H0, H1⟩
  obtain ⟨v731, v733⟩ := r23
  dsimp only at *
  rw [wp_bind]
  iapply (part24_run P K c _ _ _ _ _ _) $$ [HO H1 H2]
  · isplitr; · iexact HR
    isplitl [HO]; · iexact HO
    isplitl [H1]; · iexact H1
    iexact H2
  iintro %r24 ⟨HO, H1, H2⟩
  rw [wp_bind]
  iapply (part25_run P K c _ _ _ _ _) $$ [HO H2 H3]
  · isplitr; · iexact HR
    isplitl [HO]; · iexact HO
    isplitl [H2]; · iexact H2
    iexact H3
  iintro %r25 ⟨%e250, HO, H2, H3⟩
  obtain ⟨v791, v817⟩ := r25
  dsimp only at *
  rw [wp_bind]
  iapply (part26_run P K c _ _ _ _ _ e250 _) $$ [HO H3 H0]
  · isplitr; · iexact HR
    isplitl [HO]; · iexact HO
    isplitl [H3]; · iexact H3
    iexact H0
  iintro %r26 ⟨%e260, HO, H3, H0⟩
  obtain ⟨v821, v847⟩ := r26
  dsimp only at *
  rw [wp_bind]
  iapply (part27_run P K c _ _ _ _ _ e260 _) $$ [HO H0 H1]
  · isplitr; · iexact HR
    isplitl [HO]; · iexact HO
    isplitl [H0]; · iexact H0
    iexact H1
  iintro %r27 ⟨%e270, HO, H0, H1⟩
  obtain ⟨v851, v877⟩ := r27
  dsimp only at *
  rw [wp_bind]
  iapply (part28_run P K c _ _ _ _ _ e270 _) $$ [HO H1 H2]
  · isplitr; · iexact HR
    isplitl [HO]; · iexact HO
    isplitl [H1]; · iexact H1
    iexact H2
  iintro %r28 ⟨%e280, HO, H1, H2⟩
  obtain ⟨v881, v907⟩ := r28
  dsimp only at *
  rw [wp_bind]
  iapply (part29_run P K c _ _ _ _ _ e280 _) $$ [HO H2 H3]
  · isplitr; · iexact HR
    isplitl [HO]; · iexact HO
    isplitl [H2]; · iexact H2
    iexact H3
  iintro %r29 ⟨%e290, %e291, HO, H2, H3⟩
  obtain ⟨v911, v935, v936⟩ := r29
  dsimp only at *
  rw [wp_bind]
  iapply (part30_run P K c _ _ _ _ _ _ e290 e291 _) $$ [HO H3 H0]
  · isplitr; · iexact HR
    isplitl [HO]; · iexact HO
    isplitl [H3]; · iexact H3
    iexact H0
  iintro %r30 ⟨%e300, HO, H3, H0⟩
  obtain ⟨v941, v965⟩ := r30
  dsimp only at *
  rw [wp_bind]
  iapply (part31_run P K c _ _ _ _ _ e300 _) $$ [HO H0 H1]
  · isplitr; · iexact HR
    isplitl [HO]; · iexact HO
    isplitl [H0]; · iexact H0
    iexact H1
  iintro %r31 ⟨HO, H0, H1⟩
  rw [wp_bind]
  iapply (part32_run P K c _ _ _ _) $$ [HO H1 H2]
  · isplitr; · iexact HR
    isplitl [HO]; · iexact HO
    isplitl [H1]; · iexact H1
    iexact H2
  iintro %r32 ⟨HO, H1, H2⟩
  rw [wp_bind]
  iapply (part33_run P K c _ _ _) $$ [HO H2 H3]
  · isplitr; · iexact HR
    isplitl [HO]; · iexact HO
    isplitl [H2]; · iexact H2
    iexact H3
  iintro %r33 ⟨HO, H2, H3⟩
  rw [wp_bind]
  iapply (part34_run P K c _ _ _ _ _ _) $$ [HO H0 H1]
  · isplitr; · iexact HR
    isplitl [HO]; · iexact HO
    isplitl [H0]; · iexact H0
    iexact H1
  iintro %r34 ⟨HO, H0, H1⟩
  rw [wp_bind]
  iapply (part35_run P K c _ _ _ _ _ _ _ _) $$ [HO H1 H2]
  · isplitr; · iexact HR
    isplitl [HO]; · iexact HO
    isplitl [H1]; · iexact H1
    iexact H2
  iintro %r35 ⟨HO, H1, H2⟩
  obtain ⟨v1084, v1104⟩ := r35
  dsimp only at *
  rw [wp_bind]
  iapply (part36_run P K c _ _ _ _ _) $$ [HO H3 H0]
  · isplitr; · iexact HR
    isplitl [HO]; · iexact HO
    isplitl [H3]; · iexact H3
    iexact H0
  iintro %r36 ⟨HO, H3, H0⟩
  rw [wp_bind]
  iapply (part37_run P K c _ _ _ _ _ _ _ _) $$ [HO H0 H1]
  · isplitr; · iexact HR
    isplitl [HO]; · iexact HO
    isplitl [H0]; · iexact H0
    iexact H1
  iintro %r37 ⟨HO, H0, H1⟩
  rw [wp_bind]
  iapply (part38_run P K c _ _ _ _ _ _) $$ [HO H1 H2 H3]
  · isplitr; · iexact HR
    isplitl [HO]; · iexact HO
    isplitl [H1]; · iexact H1
    isplitl [H2]; · iexact H2
    iexact H3
  iintro %r38 ⟨HO, H1, H2, H3⟩
  rw [wp_bind]
  iapply (part39_run P K c _ _ _ _) $$ [HO H3 H0 H1]
  · isplitr; · iexact HR
    isplitl [HO]; · iexact HO
    isplitl [H3]; · iexact H3
    isplitl [H0]; · iexact H0
    iexact H1
  iintro %r39 ⟨HO, H3, H0, H1⟩
  simp only [Prog.lift, Prog.bind_op, Prog.bind_ret, Prog.pure_eq_ret]
  iapply (wait_recv_gather P K c 1 5 (by decide) (j := 24) (by decide) rfl rfl) $$ [HO H1]
  · isplitr; · iexact HR
    isplitl [HO]; · iexact HO
    iexact H1
  iintro ⟨HO, H1⟩
  iapply (wait_send P K c 2 5 (j := 24) (by decide) rfl rfl) $$ [HO H2]
  · isplitr; · iexact HR
    isplitl [HO]; · iexact HO
    iexact H2
  iintro ⟨HO, H2⟩
  rw [wp_ret]; imodintro
  iapply (wait_recv_gather P K c 2 5 (by decide) (j := 24) (by decide) rfl rfl) $$ [HO H2]
  · isplitr; · iexact HR
    isplitl [HO]; · iexact HO
    iexact H2
  iintro ⟨HO, H2⟩
  iapply (waits_gather P K c 3 5 (by decide) (j := 24) (by decide) rfl rfl rfl rfl) $$ [HO H3]
  · isplitr; · iexact HR
    isplitl [HO]; · iexact HO
    iexact H3
  iintro ⟨HO, H3⟩
  rw [wp_ret]; imodintro
  iapply Hk
  ihave ⟨Hout, Hcomm, Hz⟩ := (out_done P c) $$ [H0 H1 H2 H3]
  · rw [bigSep_4]
    isplitl [H0]; · iexact H0
    isplitl [H1]; · iexact H1
    isplitl [H2]; · iexact H2
    iexact H3
  isplitl [HO]; · iexact HO
  isplitl [Hbar]; · iexact Hbar
  isplitl [HF]; · iexact HF
  isplitl [Hkv]; · iexact Hkv
  isplitl [Hx]; · iexact Hx
  isplitl [Hq]; · iexact Hq
  isplitl [Ho]; · iexact Ho
  isplitl [Hout]; · iexact Hout
  isplitl [Hcomm]; · iexact Hcomm
  iexact Hz

end Ops

end Cert.Fused

end
-- ==== Proof.Launch.lean ====
/-
The launch: what each device starts from, the body as the region's obligation, and the whole run.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Fused

open Cert.KernelIdeal Cert.KernelIdeal.Gen
open Idealize.ShloMosaic
open Idealize.ShloMosaic.TcCoe
open Idealize.ShloMosaic.Transfers
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Conj

theorem bigSep_opt {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext i; cases i <;> simp
  rw [h, bigSep_insert (by simp), bigSep_map]
  rfl

theorem by_side (Φ : Bool × Fin 4 × Fin 6 → sProp 𝕄) :
    bigSep Finset.univ Φ = iprop((bigSep Finset.univ fun p : Fin 4 => bigSep Finset.univ fun k : Fin 6 => Φ (false, p, k))
      ∗ bigSep Finset.univ fun p : Fin 4 => bigSep Finset.univ fun k : Fin 6 => Φ (true, p, k)) := by
  rw [bigSep_univ_prod, bigSep_bool, bigSep_univ_prod, bigSep_univ_prod]

/-- What is said of every cell: of the barrier, of the send cells, of the receive cells. -/
theorem by_cell (Φ : CIx → sProp 𝕄) :
    bigSep Finset.univ Φ = iprop(Φ none ∗ (bigSep Finset.univ fun p : Fin 4 => bigSep Finset.univ fun k : Fin 6 => Φ (some (false, p, k)))
      ∗ bigSep Finset.univ fun p : Fin 4 => bigSep Finset.univ fun k : Fin 6 => Φ (some (true, p, k))) := by
  rw [bigSep_opt, by_side]

theorem sepAll₂ (Φ Ψ : Fin 4 → Fin 6 → sProp 𝕄) :
    (bigSep Finset.univ fun p : Fin 4 => bigSep Finset.univ fun k : Fin 6 => iprop(Φ p k ∗ Ψ p k))
      = iprop((bigSep Finset.univ fun p : Fin 4 => bigSep Finset.univ fun k : Fin 6 => Φ p k)
        ∗ bigSep Finset.univ fun p : Fin 4 => bigSep Finset.univ fun k : Fin 6 => Ψ p k) := by
  rw [← sepAll]
  exact bigSep_congr fun p _ => sepAll _ _ _

end Conj

variable (m : (ℓ : Loc nD τ sig) → Buf (Elt F) ℓ) (ρ : Dev nD → PrngReg)

def s₀ : MemSt nD τ sig (Elt F) := ⟨m, fun _ => 0, ρ⟩

/-! ## Values -/

/-- The staged blocks of the activations and of the two weights. -/
def xs (c : Dev nD) : (cc0_stg0_0 : Ref sig .tc).ty.Contents (Elt F) := (win0_0.blk (0 : Fin 1)).view.read (Elt F) (m ((c : Thread nD τ).loc main_arg0))
def wqs (c : Dev nD) : (cc0_stg1_0 : Ref sig .tc).ty.Contents (Elt F) := (win0_1.blk (0 : Fin 1)).view.read (Elt F) (m ((c : Thread nD τ).loc main_arg1))
def wos (c : Dev nD) : (cc0_stg2_0 : Ref sig .tc).ty.Contents (Elt F) := (win0_2.blk (0 : Fin 1)).view.read (Elt F) (m ((c : Thread nD τ).loc main_arg4))
/-- Keys and values. -/
def kvs (c : Dev nD) : Bool → AV F
  | false => m ((c : Thread nD τ).loc main_arg2)
  | true => m ((c : Thread nD τ).loc main_arg3)

/-- What a device's own heads contribute to the result. -/
def part (c : Dev nD) : CO F := share (k0_pay1 (xs m c) (wqs m c)) (k0_pay2 (wos m c)) (fun w => heads c (kvs m c w))
/-- Every device's result. -/
def total : CO F := fin (part m)

/-! ## Semaphores -/

abbrev osem : KvIx ⊕ (Bool × Fin 4 × Fin 6) → SemLoc sig
  | .inl x => .dma (kvSem (kvJ x.1 x.2.1 x.2.2))
  | .inr x => csem (some x)

theorem ownSemFacts : Pipeline.OwnSemFacts cfg0.spec osem := by decide +kernel

def kvZero (c : Dev nD) : sProp 𝕄 := bigSep Finset.univ fun x : KvIx => semVal (kvCell c (kvJ x.1 x.2.1 x.2.2)) 0

theorem ownSems0_eq (c : Dev nD) : (Pipeline.ownSems0 (Ix := Unit) (Name := ℕ) (U := UU) (Lvl := ℕ) (Val := Elt F) (τ := τ) osem c : sProp 𝕄)
    = iprop(kvZero (F := F) c ∗ bigSep Finset.univ fun x : Bool × Fin 4 × Fin 6 => semVal (kcell (c, some x)) 0) := by
  unfold Pipeline.ownSems0 kvZero
  rw [bigSep_univ_sum]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (iprop(kvZero (F := F) c ∗ bigSep Finset.univ fun k : CIx => semVal (kcell (c, k)) 0) : sProp 𝕄) := by
  rw [ownSems0_eq, unscopedSems0_eq, bigSep_opt]
  refine eqOf ?_ ?_
  · iintro ⟨⟨HK, HS⟩, HB⟩
    isplitl [HK]; · iexact HK
    isplitl [HB]; · iexact HB
    iexact HS
  · iintro ⟨HK, HB, HS⟩
    isplitl [HK HS]
    · isplitl [HK]; · iexact HK
      iexact HS
    iexact HB

/-! ## What a device starts from -/

/-- The tokens of a device's own cells, and of the cells it pays. -/
def toks (c : Dev nD) : sProp 𝕄 :=
  iprop((bigSep Finset.univ fun d : Fin 3 => dutyTok ER (barCell c) 0 d)
    ∗ (bigSep Finset.univ fun p : Fin 4 => bigSep Finset.univ fun k : Fin 6 => dutyTok ER (sendCell c p k) 0 0)
    ∗ bigSep Finset.univ fun p : Fin 4 => bigSep Finset.univ fun k : Fin 6 => dutyTok ER (recvCell c p k) 0 0)
def payToks (c : Dev nD) : sProp 𝕄 :=
  iprop((bigSep Finset.univ fun d : Fin 3 => dutyTok ER (barCell (flip d c)) 0 d)
    ∗ (bigSep Finset.univ fun p : Fin 4 => bigSep Finset.univ fun k : Fin 6 => dutyTok ER (sendCell c p k) 0 0)
    ∗ bigSep Finset.univ fun p : Fin 4 => bigSep Finset.univ fun k : Fin 6 => dutyTok ER (recvCell (mate p (sOf k) c) p k) 0 0)
def spots (c : Dev nD) : sProp 𝕄 := bigSep Finset.univ fun k : CIx => atPos ER (kcell (c, k)) 0 ∅ 0
def creds (c : Dev nD) : sProp 𝕄 :=
  iprop(cred (tallyAt (barCell c) () 3)
    ∗ bigSep Finset.univ fun p : Fin 4 => bigSep Finset.univ fun k : Fin 6 => cred (tallyAt (recvCell c p k) () (crd (half (sOf k)))))
def linear (c : Dev nD) : sProp 𝕄 := iprop(kvZero (F := F) c ∗ spots (F := F) c ∗ payToks (F := F) c)

/-- Read shares of keys and values, one per copy, and what is left of the arrays. -/
def kvLent (c : Dev nD) : sProp 𝕄 :=
  bigSep Finset.univ fun x : KvIx => kvArr x.1 c (shareTokN fullShare (2 * x.2.1.val + x.2.2.val)) (kvs m c x.1)
def kvKept (c : Dev nD) : sProp 𝕄 := iprop(kvArr false c (shareDrop fullShare 8) (kvs m c false) ∗ kvArr true c (shareDrop fullShare 8) (kvs m c true))

/-- What the launch deals a device, and what the devices make of it together. -/
def G (c : Dev nD) : sProp 𝕄 :=
  iprop((bigSep Finset.univ fun k : CIx => roundState ER (sched (part m)) (kcell (c, k)) 0)
    ∗ spots (F := F) c ∗ (bigSep Finset.univ fun k : CIx => reached ER (kcell (c, k)) 0) ∗ toks (F := F) c)
def marks (K : Dev nD × CIx → ℕ) : sProp 𝕄 :=
  iprop((bigSep Finset.univ fun ck : Dev nD × CIx => cellInv ER (sched (part m)) (K ck) (kcell ck))
    ∗ bigSep Finset.univ fun ck : Dev nD × CIx => reached ER (kcell ck) 0)
instance marks_persistent (K : Dev nD × CIx → ℕ) : BI.Persistent (marks m K) := by unfold marks; infer_instance
def G' (c : Dev nD) : sProp 𝕄 := iprop((∃ K, marks m K) ∗ linear (F := F) c)

def start (c : Dev nD) : sProp 𝕄 := iprop((∃ K, records (part m) K) ∗ linear (F := F) c ∗ creds (F := F) c ∗ kvLent m c)

def anyOf (c : Dev nD) : sProp 𝕄 :=
  iprop((∃ f, ((c : Thread nD τ).loc cc0_scratch0) ↦{fullShare} f)
    ∗ (∃ f, ((c : Thread nD τ).loc cc0_scratch1) ↦{fullShare} f) ∗ (∃ f, ((c : Thread nD τ).loc cc0_scratch2) ↦{fullShare} f))

def Φ₀ (c : Dev nD) : sProp 𝕄 := iprop(start m c ∗ anyOf (F := F) c)
def Φ₁ (c : Dev nD) : sProp 𝕄 := iprop((kvZero (F := F) c ∗ bigSep Finset.univ fun k : CIx => semVal (kcell (c, k)) 0) ∗ anyOf (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => wqs m c
    | ⟨2, _⟩ => wos m c
    | ⟨3, _⟩ => total m
  Φ t := match t with
    | ⟨0, _⟩ => Φ₀ m c
    | ⟨_ + 1, _⟩ => Φ₁ (F := F) c
  q _ := fullShare
  owed t := match t with
    | ⟨0, _⟩ => owed0 c
    | ⟨_ + 1, _⟩ => 0

/-! ## The body -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A device's resources, sorted by part and step. -/
theorem sorted (c : Dev nD) :
    (iprop(spots (F := F) c ∗ payToks (F := F) c ∗ creds (F := F) c) : sProp 𝕄)
      ⊢ iprop(atPos ER (barCell c) 0 ∅ 0 ∗ cred (tallyAt (barCell c) () 3) ∗ (bigSep Finset.univ fun d : Fin 3 => dutyTok ER (barCell (flip d c)) 0 d)
        ∗ bigSep Finset.univ fun p : Fin 4 => bigSep Finset.univ fun k : Fin 6 => stepRes (F := F) c p k) := by
  unfold spots payToks creds stepRes
  rw [by_cell, sepAll₂, sepAll₂, sepAll₂, sepAll₂]
  iintro ⟨⟨HaB, HaS, HaR⟩, ⟨HtB, HtS, HtR⟩, HcB, HcR⟩
  isplitl [HaB]; · iexact HaB
  isplitl [HcB]; · iexact HcB
  isplitl [HtB]; · iexact HtB
  isplitl [HtS]; · iexact HtS
  isplitl [HtR]; · iexact HtR
  isplitl [HaS]; · iexact HaS
  isplitl [HaR]; · iexact HaR
  iexact HcR

/-- Both local buffers, cut into the copies' blocks. -/
theorem kvBuf_any (w : Bool) (c : Dev nD) (x : Fin 4 × Fin 2) (f : BV F) : (kvBuf w c (blkS x.1 x.2) f : sProp 𝕄) ⊢ iprop(∃ f, kvBuf (F := F) w c (blkS x.1 x.2) f) := by
  iintro H; iexists f; iexact H
theorem kv_any (w : Bool) (c : Dev nD) (f : BV F) :
    (kvBuf w c Finset.univ f : sProp 𝕄) ⊢ bigSep Finset.univ fun x : Fin 4 × Fin 2 => iprop(∃ f, kvBuf (F := F) w c (blkS x.1 x.2) f) := by
  rw [kvBuf_blocks]
  exact bigSep_mono fun x _ => kvBuf_any w c x f

theorem kv_start (c : Dev nD) :
    iprop(kvZero (F := F) c ∗ kvLent m c ∗ (∃ f, ((c : Thread nD τ).loc cc0_scratch1) ↦{fullShare} f) ∗ (∃ f, ((c : Thread nD τ).loc cc0_scratch2) ↦{fullShare} f))
      ⊢ (starting (kvs m c) c 0 : sProp 𝕄) := by
  have e : (bigSep Finset.univ fun x : KvIx => kvPre x.1 (kvs m c x.1) c x.2.1 x.2.2)
      = iprop(kvLent m c ∗ ((bigSep Finset.univ fun x : Fin 4 × Fin 2 => iprop(∃ f, kvBuf (F := F) false c (blkS x.1 x.2) f))
        ∗ bigSep Finset.univ fun x : Fin 4 × Fin 2 => iprop(∃ f, kvBuf (F := F) true c (blkS x.1 x.2) f)) ∗ kvZero (F := F) c) := by
    unfold kvPre kvZero kvLent
    rw [sepAll, sepAll, by_kind (fun x : KvIx => iprop(∃ f, kvBuf (F := F) x.1 c (blkS x.2.1 x.2.2) f))]
  iintro H
  iapply (starting_intro (kvs m c) c)
  iapply (Entails.of_eq e.symm)
  icases H with ⟨HZ, HL, ⟨%f, H1⟩, ⟨%g, H2⟩⟩
  isplitl [HL]; · iexact HL
  isplitl [H1 H2]
  · isplitl [H1]
    · iapply (kv_any false c f); iapply (Entails.of_eq (show (((c : Thread nD τ).loc cc0_scratch1) ↦{fullShare} f : sProp 𝕄) = kvBuf false c Finset.univ f from rfl)); iexact H1
    · iapply (kv_any true c g); iapply (Entails.of_eq (show (((c : Thread nD τ).loc cc0_scratch2) ↦{fullShare} g : sProp 𝕄) = kvBuf true c Finset.univ g from rfl)); iexact H2
  iexact HZ

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ (F := F) c ∗ (dats m ρ 0 c).owesAt () t₀.succ ∗ stg c cc0_stg0_0 (xs m c) ∗ stg c cc0_stg1_0 (wqs m c) ∗ stg c cc0_stg2_0 (wos m c) ∗ stg c cc0_stg3_0 (total m))

theorem body_in (c : Dev nD) :
    bodyPre m ρ c ⊢ iprop((∃ K, records (part m) K) ∗ bodyIn (kvs m c) c (xs m c) (wqs m c) (wos m c)) := by
  unfold bodyPre Φ₀ start anyOf linear
  iintro ⟨⟨⟨HR, ⟨HZ, Hsp, Hpt⟩, Hcr, Hkv⟩, Hs0, Hs1, Hs2⟩, Ho, ⟨%d0, %g0, %h0, Hx⟩, ⟨%d1, %g1, %h1, Hq⟩, ⟨%d2, %g2, %h2, Hw⟩, ⟨%d3, %g3, -, Hout⟩⟩
  have e0 : g0 = xs m c := by rw [h0]; unfold Dat.before; rw [if_pos (show (cfg0.win (0 : Fin 4)).fetch t₀ = true from rfl)]; rfl
  have e1 : g1 = wqs m c := by rw [h1]; unfold Dat.before; rw [if_pos (show (cfg0.win (1 : Fin 4)).fetch t₀ = true from rfl)]; rfl
  have e2 : g2 = wos m c := by rw [h2]; unfold Dat.before; rw [if_pos (show (cfg0.win (2 : Fin 4)).fetch t₀ = true from rfl)]; rfl
  subst e0 e1 e2
  unfold Dat.owesAt Pipeline.owesWithin
  icases Ho with ⟨%W, %hW, HO⟩
  rw [show (dats m ρ 0 c).owed t₀.castSucc = owed0 c from rfl]
  isplitl [HR]; · iexact HR
  ihave ⟨H1, H2, H3, H4⟩ := (sorted (F := F) c) $$ [Hsp Hpt Hcr]
  · isplitl [Hsp]; · iexact Hsp
    isplitl [Hpt]; · iexact Hpt
    iexact Hcr
  unfold bodyIn entry
  isplitl [HO H1 H2 H3 H4 Hs0]
  · isplitl [HO]; · iexists W; iexact HO
    isplitl [H1]; · iexact H1
    isplitl [H2]; · iexact H2
    isplitl [H3]; · iexact H3
    isplitl [Hs0]; · iexact Hs0
    iexact H4
  isplitl [HZ Hkv Hs1 Hs2]
  · iapply (kv_start m c)
    isplitl [HZ]; · iexact HZ
    isplitl [Hkv]; · iexact Hkv
    isplitl [Hs1]; · iexact Hs1
    iexact Hs2
  isplitl [Hx]; · iexact Hx
  isplitl [Hq]; · iexact Hq
  isplitl [Hw]; · iexact Hw
  iexists g3; iexact Hout

theorem full_any (c : Dev nD) (T : Bool → BV F) :
    Full c T ⊢ iprop((∃ f, ((c : Thread nD τ).loc cc0_scratch1) ↦{fullShare} f) ∗ (∃ f, ((c : Thread nD τ).loc cc0_scratch2) ↦{fullShare} f)) := by
  unfold Full kvBuf
  iintro ⟨H1, H2⟩
  isplitl [H1]; · iexists (T false); iexact H1
  iexists (T true); iexact H2
theorem part_eq (c : Dev nD) : part m c = share (k0_pay1 (xs m c) (wqs m c)) (k0_pay2 (wos m c)) (fun w => heads c (kvs m c w)) := by
  unfold part; rfl

theorem body_out (c : Dev nD) : bodyOut (part m) (kvs m c) c (xs m c) (wqs m c) (wos m c) ⊢ bodyPost m ρ c := by
  unfold bodyOut bodyPost Φ₁ anyOf Ow kvZero
  rw [by_cell, sepAll₂]
  iintro ⟨⟨%W, HO⟩, HB, HF, HZ, Hx, Hq, Hw, Hout, Hs0, ⟨HS, HV⟩⟩
  isplitl [HB HF HZ Hs0 HS HV]
  · isplitl [HB HZ HS HV]
    · isplitl [HZ]; · iexact HZ
      isplitl [HB]; · iexact HB
      isplitl [HS]; · iexact HS
      iexact HV
    isplitl [Hs0]; · iexact Hs0
    iapply (full_any c _); iexact HF
  isplitl [HO]
  · unfold Dat.owesAt Pipeline.owesWithin
    rw [show (dats m ρ 0 c).owed t₀.succ = 0 from rfl]
    iexists W
    isplitr; · ipureintro; exact fun _ _ => Or.inl trivial
    rw [rem_last]; iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

set_option maxRecDepth 100000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (on (cc0__fused_body (F := F))) (fun _ => bodyPost m ρ c)
  iintro H
  ihave ⟨⟨%K, #HR⟩, HI⟩ := (body_in m ρ c) $$ H
  iapply (body_run (part m) K (kvs m c) c (xs m c) (wqs m c) (wos m c) (part_eq m c) (fun _ => bodyPost m ρ c)) $$ [HI]
  · isplitr; · iexact HR
    iexact HI
  iintro H
  iapply (body_out m ρ c); iexact H

end Cert.Fused

end
-- ==== Proof.Start.lean ====
/-
The start of the run: the cells' records and tokens allocated for all devices at once, dealt to the
devices that use them, and the run of the whole program.
-/
module

public import proofs.«01_k».proof.Proof.Launch
public import Idealize.ShloMosaic.Lib.Pipeline.Quiescent

@[expose] public section

noncomputable section

namespace Cert.Fused

open Cert.KernelIdeal Cert.KernelIdeal.Gen
open Idealize.ShloMosaic
open Idealize.ShloMosaic.TcCoe
open Idealize.ShloMosaic.Transfers
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem csem_inj : ∀ x y : CIx, csem x = csem y → x = y := by decide +kernel
theorem kcell_inj : Function.Injective (kcell : Dev nD × CIx → GSem nD τ sig) := by
  rintro ⟨c, k⟩ ⟨c', k'⟩ h
  have h1 : c = c' := congrArg (fun g : GSem nD τ sig => g.1.1) h
  have h2 : k = k' := csem_inj _ _ (congrArg Prod.snd h)
  rw [h1, h2]
theorem kcell_eq_iff {c c' : Dev nD} {k k' : CIx} : kcell (c, k) = kcell (c', k') ↔ c = c' ∧ k = k' :=
  ⟨fun h => by have := kcell_inj h; exact ⟨congrArg Prod.fst this, congrArg Prod.snd this⟩, fun h => by rw [h.1, h.2]⟩

/-- A cell's tokens: the barrier's three, one of each send and receive cell. -/
abbrev tokOf (x : Dev nD × (Fin 3 ⊕ (Bool × Fin 4 × Fin 6))) : GSem nD τ sig × ℕ × Fin 3 := match x.2 with
  | .inl d => (kcell (x.1, none), 0, d)
  | .inr y => (kcell (x.1, some y), 0, 0)
theorem tokOf_inj : Function.Injective tokOf := by
  rintro ⟨c, x⟩ ⟨c', x'⟩ h
  rcases x with d | y <;> rcases x' with d' | y'
  · have h1 := kcell_inj (congrArg Prod.fst h)
    have h2 : d = d' := congrArg (fun t => t.2.2) h
    rw [show c = c' from congrArg Prod.fst h1, h2]
  · have h1 := kcell_inj (congrArg Prod.fst h)
    exact absurd (congrArg Prod.snd h1) (by simp)
  · have h1 := kcell_inj (congrArg Prod.fst h)
    exact absurd (congrArg Prod.snd h1) (by simp)
  · have h1 := kcell_inj (congrArg Prod.fst h)
    rw [show c = c' from congrArg Prod.fst h1, show y = y' from Option.some.inj (congrArg Prod.snd h1)]

def allCells : Finset (GSem nD τ sig) := Finset.univ.map ⟨kcell, kcell_inj⟩
def allToks : Finset (GSem nD τ sig × ℕ × Fin 3) := Finset.univ.map ⟨tokOf, tokOf_inj⟩
def u₀ : UU := (initOf (Pipeline.cells cfgs cellOf_inj) (Pipeline.launchToks cfgs cellOf_inj), (initOf allCells allToks, 1))

theorem own_parts (a : UR sig nD τ) (b : UB) :
    (ownU ((a, (b, 1)) : UU) : sProp 𝕄) ⊢ iprop(BI.own ((EP : Emb _ 𝕄) a) ∗ BI.own ((ER : Emb UB 𝕄) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem over_cells (Φ : GSem nD τ sig → sProp 𝕄) : bigSep allCells Φ = bigSep Finset.univ fun c : Dev nD => bigSep Finset.univ fun k : CIx => Φ (kcell (c, k)) := by
  unfold allCells; rw [bigSep_map, bigSep_univ_prod]; rfl
theorem over_toks : bigSep allToks (fun x => (dutyTok ER x.1 x.2.1 x.2.2 : sProp 𝕄)) = bigSep Finset.univ fun c : Dev nD => toks (F := F) c := by
  unfold allToks; rw [bigSep_map, bigSep_univ_prod]
  exact bigSep_congr fun c _ => by unfold toks; rw [bigSep_univ_sum, by_side]; rfl

theorem fund_all : BI.own ((ER : Emb UB 𝕄) (initOf allCells allToks)) ⊢ (|==> bigSep Finset.univ (G m) : sProp 𝕄) := by
  iintro HX
  imod (Rounds.fund ER (sched (part m)) allCells allToks) $$ HX with ⟨Hst, Hr, Hat, Htok⟩
  imodintro
  ihave Hst' := (Entails.of_eq (over_cells fun g => roundState ER (sched (part m)) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G spots; simp only [sepAll]
  isplitl [Hst']; · iexact Hst'
  isplitl [Hat']; · iexact Hat'
  isplitl [Hr']; · iexact Hr'
  iexact Htok'

/-! ## Records for every device -/

theorem cells_alloc (c : Dev nD) :
    iprop((bigSep Finset.univ fun k : CIx => semVal (kcell (c, k)) 0) ∗ bigSep Finset.univ fun k : CIx => roundState ER (sched (part m)) (kcell (c, k)) 0)
      ⊢ (|={Set.univ}=> bigSep Finset.univ fun k : CIx => iprop(∃ κ : ℕ, cellInv ER (sched (part m)) κ (kcell (c, k))) : sProp 𝕄) := by
  rw [← sepAll]
  exact (bigSep_mono fun k _ => (Rounds.body_intro ER (sched (part m)) (kcell (c, k))).trans inv_alloc).trans (bigSep_fupd _ _)

def dealt (c : Dev nD) : sProp 𝕄 :=
  iprop((bigSep Finset.univ fun k : CIx => iprop(∃ κ : ℕ, cellInv ER (sched (part m)) κ (kcell (c, k))))
    ∗ kvZero (F := F) c ∗ spots (F := F) c ∗ (bigSep Finset.univ fun k : CIx => reached ER (kcell (c, k)) 0) ∗ toks (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  unfold G dealt
  iintro ⟨Hos, Hus, Hst, Hat, Hr, Htok⟩
  ihave ⟨HZ, Hv⟩ := (Entails.of_eq (sems0_eq (F := F) c)) $$ [Hos Hus]
  · isplitl [Hos]; · iexact Hos
    iexact Hus
  imod (cells_alloc m c) $$ [Hv Hst] with Hinv
  · isplitl [Hv]; · iexact Hv
    iexact Hst
  imodintro
  isplitl [Hinv]; · iexact Hinv
  isplitl [HZ]; · iexact HZ
  isplitl [Hat]; · iexact Hat
  isplitl [Hr]; · iexact Hr
  iexact Htok

/-- A family over devices and cells of one part and step, re-addressed by the mates. -/
theorem to_mates (Φ : Dev nD → Fin 4 → Fin 6 → sProp 𝕄) :
    (bigSep Finset.univ fun c : Dev nD => bigSep Finset.univ fun p : Fin 4 => bigSep Finset.univ fun k : Fin 6 => Φ c p k)
      = bigSep Finset.univ fun c : Dev nD => bigSep Finset.univ fun p : Fin 4 => bigSep Finset.univ fun k : Fin 6 => Φ (mate p (sOf k) c) p k := by
  rw [bigSep_univ_comm, bigSep_univ_comm (fun (c : Dev nD) (p : Fin 4) => bigSep Finset.univ fun k : Fin 6 => Φ (mate p (sOf k) c) p k)]
  refine bigSep_congr fun p _ => ?_
  rw [bigSep_univ_comm, bigSep_univ_comm (fun (c : Dev nD) (k : Fin 6) => Φ (mate p (sOf k) c) p k)]
  exact bigSep_congr fun k _ => bigSep_univ_equiv (mateE p (sOf k)) fun c => Φ c p k
theorem to_flips (Φ : Dev nD → Fin 3 → sProp 𝕄) :
    (bigSep Finset.univ fun c : Dev nD => bigSep Finset.univ fun d : Fin 3 => Φ c d)
      = bigSep Finset.univ fun c : Dev nD => bigSep Finset.univ fun d : Fin 3 => Φ (flip d c) d := by
  rw [bigSep_univ_comm, bigSep_univ_comm (fun (c : Dev nD) (d : Fin 3) => Φ (flip d c) d)]
  exact bigSep_congr fun d _ => bigSep_univ_equiv (flipE d) fun c => Φ c d

/-- The tokens dealt to the devices that pay with them. -/
theorem toks_dealt : (bigSep Finset.univ fun c : Dev nD => (toks (F := F) c : sProp 𝕄)) = bigSep Finset.univ fun c : Dev nD => payToks (F := F) c := by
  unfold toks payToks
  rw [sepAll, sepAll, sepAll, sepAll, to_flips fun c d => dutyTok ER (barCell c) 0 d, to_mates fun c p k => dutyTok ER (recvCell c p k) 0 0]

theorem with_marks (K : Dev nD × CIx → ℕ) (c : Dev nD) : iprop(marks m K ∗ linear (F := F) c) ⊢ G' m c := by
  unfold G'
  iintro ⟨H, HL⟩
  isplitl [H]; · iexists K; iexact H
  iexact HL
theorem all_marks (K : Dev nD × CIx → ℕ) : iprop(marks m K ∗ bigSep Finset.univ fun c : Dev nD => linear (F := F) c) ⊢ bigSep Finset.univ (G' m) := by
  refine (sep_mono_left (BI.bigSep_of_persistent (Finset.univ : Finset (Dev nD)) (marks m K))).trans ?_
  rw [← sepAll]
  exact bigSep_mono fun c _ => with_marks m K c

theorem regroup : (bigSep Finset.univ fun c : Dev nD => dealt m c) ⊢ bigSep Finset.univ (G' m) := by
  unfold dealt
  rw [sepAll, sepAll, sepAll, sepAll, toks_dealt, ← bigSep_univ_prod (fun ck : Dev nD × CIx => iprop(∃ κ : ℕ, cellInv ER (sched (part m)) κ (kcell ck))),
    ← bigSep_univ_prod (fun ck : Dev nD × CIx => (reached ER (kcell ck) 0 : sProp 𝕄))]
  iintro ⟨HI, HZ, Hat, #HR, Htok⟩
  ihave HK := (BI.bigSep_exists_pi Finset.univ (fun (ck : Dev nD × CIx) (κ : ℕ) => (cellInv ER (sched (part m)) κ (kcell ck) : sProp 𝕄))) $$ HI
  icases HK with ⟨%K, #HI⟩
  iapply (all_marks m K)
  isplitr
  · unfold marks; isplitl; · iexact HI
    iexact HR
  unfold linear
  rw [sepAll, sepAll]
  isplitl [HZ]; · iexact HZ
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits -/

theorem pay_at (d c : Dev nD) (p : Fin 4) (k : Fin 6) (i : ℕ) (hi : i ∈ Finset.Ico 0 24) :
    pay d i (recvCell c p k) () = if i = 4 * k.val + p.val then (if d = mate p (sOf k) c then crd (half (sOf k)) else 0) else 0 := by
  have h24 : i < 24 := (Finset.mem_Ico.mp hi).2
  by_cases h : i = 4 * k.val + p.val
  · subst h
    rw [pay_eq, tallyAt_apply, if_pos rfl]
    by_cases hd : d = mate p (sOf k) c
    · subst hd; rw [mate_mate, if_pos ⟨rfl, rfl⟩, if_pos rfl]
    · rw [if_neg hd, if_neg]
      rintro ⟨h1, -⟩
      have h2 : c = mate p (sOf k) d := congrArg (fun g : GSem nD τ sig => g.1.1) h1
      exact hd (by rw [h2, mate_mate])
  · rw [if_neg h]
    unfold pay
    rw [tallyAt_apply, if_neg]
    rintro ⟨h1, -⟩
    have h2 := (kcell_eq_iff (k := some (true, p, k)) (k' := some (true, _, _))).mp h1
    have h3 := Option.some.inj h2.2
    have hp : p.val = i % 4 := congrArg (fun t : Bool × Fin 4 × Fin 6 => t.2.1.val) h3
    have hk : k.val = i / 4 % 6 := congrArg (fun t : Bool × Fin 4 × Fin 6 => t.2.2.val) h3
    omega

theorem rem_at (d c : Dev nD) (p : Fin 4) (k : Fin 6) : rem d 0 (recvCell c p k) () = if d = mate p (sOf k) c then crd (half (sOf k)) else 0 := by
  unfold rem
  rw [Finset.sum_apply, Finsupp.finset_sum_apply, Finset.sum_congr rfl (pay_at d c p k), Finset.sum_ite_eq' (Finset.Ico 0 24), if_pos]
  rw [Finset.mem_Ico]; omega

theorem bar_ne_recv (c c' : Dev nD) (p : Fin 4) (k : Fin 6) : recvCell c p k ≠ barCell c' := fun h => by
  have := (kcell_eq_iff (k := some (true, p, k)) (k' := none)).mp h
  exact absurd this.2 (by simp)

theorem owed_recv (d c : Dev nD) (p : Fin 4) (k : Fin 6) : owed0 d (recvCell c p k) () = if d = mate p (sOf k) c then crd (half (sOf k)) else 0 := by
  unfold owed0 owed1 owed2
  simp only [Pi.add_apply, Finsupp.add_apply]
  rw [tallyAt_ne_cell (bar_ne_recv c _ p k), tallyAt_ne_cell (bar_ne_recv c _ p k), tallyAt_ne_cell (bar_ne_recv c _ p k), rem_at]
  simp only [Finsupp.zero_apply, Nat.add_zero]

theorem rem_bar (d c : Dev nD) : rem d 0 (barCell c) () = 0 := by
  by_contra h
  obtain ⟨_, c', p, k, -, -, hg⟩ := rem_pos (Nat.pos_of_ne_zero h)
  exact bar_ne_recv c' c p k hg.symm

theorem signal_at (e : Fin 3) (d c : Dev nD) : (tallyAt (barCell (flip e d)) () 1 : CellTallies nD τ sig Unit) (barCell c) () = if d = flip e c then 1 else 0 := by
  rw [tallyAt_apply]
  by_cases h : d = flip e c
  · subst h; rw [flip_flip, if_pos ⟨rfl, rfl⟩, if_pos rfl]
  · rw [if_neg h, if_neg]
    rintro ⟨h1, -⟩
    have h2 : c = flip e d := congrArg (fun g : GSem nD τ sig => g.1.1) h1
    exact h (by rw [h2, flip_flip])

theorem owed_bar (d c : Dev nD) : owed0 d (barCell c) () = (if d = flip 2 c then 1 else 0) + (if d = flip 1 c then 1 else 0) + (if d = flip 0 c then 1 else 0) := by
  unfold owed0 owed1 owed2
  simp only [Pi.add_apply, Finsupp.add_apply]
  rw [signal_at, signal_at, signal_at, rem_bar, Nat.zero_add]

theorem launch_bar (c : Dev nD) :
    tallyOn (barCell c) (launchCredit (Pipeline.owing owed0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (flip 2 c), Finset.sum_ite_eq' Finset.univ (flip 1 c), Finset.sum_ite_eq' Finset.univ (flip 0 c),
    if_pos (Finset.mem_univ _), if_pos (Finset.mem_univ _), if_pos (Finset.mem_univ _)]

theorem launch_recv (c : Dev nD) (p : Fin 4) (k : Fin 6) :
    tallyOn (recvCell c p k) (launchCredit (Pipeline.owing owed0) 0 (recvCell c p k)) = (tallyAt (recvCell c p k) () (crd (half (sOf k))) : CellTallies nD τ sig Unit) := by
  unfold tallyAt; refine congrArg _ (Finsupp.ext fun u => ?_); cases u
  rw [Pipeline.launchCredit_owing, Finsupp.single_eq_same, Finset.sum_congr rfl fun d _ => owed_recv d c p k,
    Finset.sum_ite_eq' Finset.univ (mate p (sOf k) c), if_pos (Finset.mem_univ _)]

theorem creds_intro (c : Dev nD) : (Pipeline.launchCred owed0 c : sProp 𝕄) ⊢ creds (F := F) c := by
  unfold Pipeline.launchCred
  have h : (bigSep Finset.univ fun sm : SemLoc sig => (cred (tallyOn ((c : Thread nD τ), sm) (launchCredit (Pipeline.owing owed0) 0 ((c : Thread nD τ), sm))) : sProp 𝕄))
      ⊢ bigSep (Finset.univ.map ⟨csem, fun x y h => csem_inj x y h⟩)
        fun sm : SemLoc sig => (cred (tallyOn ((c : Thread nD τ), sm) (launchCredit (Pipeline.owing owed0) 0 ((c : Thread nD τ), sm))) : sProp 𝕄) :=
    bigSep_subset (Finset.subset_univ _)
  have e := (bigSep_map (s := Finset.univ) (⟨csem, fun x y h => csem_inj x y h⟩ : CIx ↪ SemLoc sig)
    (Φ := fun sm : SemLoc sig => (cred (tallyOn ((c : Thread nD τ), sm) (launchCredit (Pipeline.owing owed0) 0 ((c : Thread nD τ), sm))) : sProp 𝕄))).trans
    (by_cell fun x => (cred (tallyOn (kcell (c, x)) (launchCredit (Pipeline.owing owed0) 0 (kcell (c, x)))) : sProp 𝕄))
  have er : (bigSep Finset.univ fun p : Fin 4 => bigSep Finset.univ fun k : Fin 6 => (cred (tallyOn (recvCell c p k) (launchCredit (Pipeline.owing owed0) 0 (recvCell c p k))) : sProp 𝕄))
      = bigSep Finset.univ fun p : Fin 4 => bigSep Finset.univ fun k : Fin 6 => cred (tallyAt (recvCell c p k) () (crd (half (sOf k)))) :=
    bigSep_congr fun p _ => bigSep_congr fun k _ => by rw [launch_recv]
  unfold creds
  rw [← er, ← launch_bar c]
  iintro H
  ihave H := h $$ H
  ihave ⟨HB, -, HR⟩ := (Entails.of_eq e) $$ H
  isplitl [HB]; · iexact HB
  iexact HR

/-! ## Keys and values, lent to the copies -/

theorem kv_deal (w : Bool) (c : Dev nD) (A : AV F) :
    (kvArr w c fullShare A : sProp 𝕄) ⊢ iprop(kvArr w c (shareDrop fullShare 8) A
      ∗ bigSep Finset.univ fun x : Fin 4 × Fin 2 => kvArr w c (shareTokN fullShare (2 * x.1.val + x.2.val)) A) := by
  have e : (bigSep Finset.univ fun i : Fin (4 * 2) => (kvArr w c (shareTok fullShare 8 i) A : sProp 𝕄))
      = bigSep Finset.univ fun x : Fin 4 × Fin 2 => kvArr w c (shareTokN fullShare (2 * x.1.val + x.2.val)) A := by
    rw [bigSep_univ_equiv (finProdFinEquiv : Fin 4 × Fin 2 ≃ Fin (4 * 2))]
    refine bigSep_congr fun x _ => ?_
    show kvArr w c (shareTokN fullShare (finProdFinEquiv x).val) A = _
    rw [finProdFinEquiv_apply_val, Nat.add_comm]
  rw [← e]
  cases w
  · exact pointsTo_toks_split fullShare 8
  · exact pointsTo_toks_split fullShare 8

theorem kv_dealt (c : Dev nD) :
    iprop(kvArr false c fullShare (kvs m c false) ∗ kvArr true c fullShare (kvs m c true)) ⊢ iprop(kvLent m c ∗ kvKept m c) := by
  unfold kvLent kvKept
  rw [by_kind]
  iintro ⟨HK, HV⟩
  ihave ⟨HK, HKs⟩ := (kv_deal false c (kvs m c false)) $$ HK
  ihave ⟨HV, HVs⟩ := (kv_deal true c (kvs m c true)) $$ HV
  isplitl [HKs HVs]
  · isplitl [HKs]; · iexact HKs
    iexact HVs
  isplitl [HK]; · iexact HK
  iexact HV

/-! ## The run -/

theorem rest_eq (c : Dev nD) :
    (Pipeline.unscopedRestP Pipeline.Prefetch.none cfg0.spec c (fun b => m ((c : Thread nD τ).loc b)) : sProp 𝕄)
      = iprop(kvArr false c fullShare (kvs m c false) ∗ kvArr true c fullShare (kvs m c true)) := by
  rw [Pipeline.unscopedRestP_none]
  exact unscopedRest0_eq c _

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ kvKept m c) := by
  rw [rest_eq]
  unfold G' start records marks
  iintro ⟨Hkv, #Hlev, Hcr, -, ⟨%K, HI, HR⟩, HL⟩
  ihave ⟨HLt, HKp⟩ := (kv_dealt m c) $$ Hkv
  ihave Hc := (creds_intro (F := F) c) $$ Hcr
  imodintro
  isplitr [HKp]
  · isplitl [HI HR]
    · iexists K
      isplitl [HI]; · iexact HI
      isplitl [HR]; · iexact HR
      iexact Hlev
    isplitl [HL]; · iexact HL
    isplitl [Hc]; · iexact Hc
    iexact HLt
  iexact HKp

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ anyOf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ anyOf
  iintro ⟨HZ, Hr⟩
  ihave ⟨Ho, Hu⟩ := (Entails.of_eq (sems0_eq (F := F) c).symm) $$ HZ
  isplitl [Hu]; · iexact Hu
  isplitl [Ho]; · iexact Ho
  iexact Hr

theorem lv_stage : ∀ (w : Fin 4) (s : Fin (spec0 w).nbuf), ((spec0 w).sem s).val < 44 := by decide

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((spec0 w).sem s)) () ≤ 0 := by
      show (if 44 ≤ ((spec0 w).sem s).val then _ else 0) ≤ 0
      rw [if_neg (by have := lv_stage w s; omega)]
    rcases t with ⟨_ | _, ht⟩
    · refine mayWait_of 0 h0 fun g u hg => ?_
      rcases owed0_pos hg with ⟨c', p, k, rfl⟩ | ⟨c', rfl⟩
      · exact ⟨rfl, by rw [lv_recv]; omega⟩
      · exact ⟨rfl, Nat.one_pos⟩
    · exact mayWait_of 0 h0 fun g u hg => absurd hg (Nat.lt_irrefl 0)

def finalA (c : Dev nD) (w : Fin cfg0.W) : Buf (Elt F) ((cfg0.win w).arr.view.loc (c : Thread nD τ)) := (dats m ρ 0 c).arrAt w cfg0.N

/-- Every window's array as the run leaves it, and keys and values unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem kept_read (c : Dev nD) (s' : Phys nD τ sig (Elt F)) :
    iprop(kvKept m c ∗ SI s') ⊢ (⌜s'.mem.mem ((c : Thread nD τ).loc main_arg2) = m ((c : Thread nD τ).loc main_arg2)
      ∧ s'.mem.mem ((c : Thread nD τ).loc main_arg3) = m ((c : Thread nD τ).loc main_arg3)⌝ : sProp 𝕄) := by
  unfold kvKept kvArr
  iintro ⟨⟨HK, HV⟩, HSI⟩
  ihave %h2 := (SI_pointsTo_agree (st := s') (ℓ := (c : Thread nD τ).loc main_arg2) (f := kvs m c false)) $$ [HK HSI]
  · isplitl [HSI]; · iexact HSI
    iexact HK
  ihave %h3 := (SI_pointsTo_agree (st := s') (ℓ := (c : Thread nD τ).loc main_arg3) (f := kvs m c true)) $$ [HV HSI]
  · isplitl [HSI]; · iexact HSI
    iexact HV
  ipureintro
  exact ⟨funext fun i => h2 i (Finset.mem_univ _), funext fun i => h3 i (Finset.mem_univ _)⟩

theorem end_read (c : Dev nD) (s' : Phys nD τ sig (Elt F)) :
    iprop(unscopedSems0 c ∗ kvKept m c ∗ SI s') ⊢ (|={Set.univ}=> iprop(⌜(s'.mem.mem ((c : Thread nD τ).loc main_arg2) = m ((c : Thread nD τ).loc main_arg2)
        ∧ s'.mem.mem ((c : Thread nD τ).loc main_arg3) = m ((c : Thread nD τ).loc main_arg3))
      ∧ ∀ sm : SemLoc sig, sm.isScoped .tc = false → s'.mem.sem ((c.tc : Thread nD τ), sm) = 0⌝ ∗ SI s') : sProp 𝕄) := by
  iintro ⟨Hu, Hk, HSI⟩
  ihave %h := (kept_read m c s') $$ [Hk HSI]
  · isplitl [Hk]; · iexact Hk
    iexact HSI
  ihave %hz := (tcUnscoped_read c s') $$ [Hu HSI]
  · isplitl [Hu]; · iexact Hu
    iexact HSI
  imodintro
  isplitr; · ipureintro; exact ⟨h, hz⟩
  iexact HSI

set_option maxRecDepth 100000 in
/-- From any memory, at any values, every execution ends: each device's result array holds the
    all-reduced sum, the arguments are unchanged and every counter is zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := fun c w => by unfold Dat.share; split <;> rfl)
    (hdistinct := winFacts0.arr_inj)
    (O₀ := owed0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (own_parts _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := kvKept m)
    (hX := start_intro m ρ) (hin := phi0_intro m ρ) (hout := phi1_exit m ρ)
    (QY := fun c s => (s.mem ((c : Thread nD τ).loc main_arg2) = m ((c : Thread nD τ).loc main_arg2)
        ∧ s.mem ((c : Thread nD τ).loc main_arg3) = m ((c : Thread nD τ).loc main_arg3))
      ∧ ∀ sm : SemLoc sig, sm.isScoped .tc = false → s.sem ((c.tc : Thread nD τ), sm) = 0)
    (hY := end_read m)
    (hQ := fun _ h hs => ⟨fun c => ⟨(h c).1, (h c).2.2.1⟩, sem_eq_zero hs fun c => (h c).2.2.2⟩)

theorem final_x (c : Dev nD) : finalA m ρ c (0 : Fin 4) = m ((c : Thread nD τ).loc main_arg0) := (dats m ρ 0 c).arrAt_in (0 : Fin 4) rfl _
theorem final_wq (c : Dev nD) : finalA m ρ c (1 : Fin 4) = m ((c : Thread nD τ).loc main_arg1) := (dats m ρ 0 c).arrAt_in (1 : Fin 4) rfl _
theorem final_wo (c : Dev nD) : finalA m ρ c (2 : Fin 4) = m ((c : Thread nD τ).loc main_arg4) := (dats m ρ 0 c).arrAt_in (2 : Fin 4) rfl _

end Cert.Fused

end
-- ==== Proof.Run.lean ====
/-
The run, said of the arguments and the result alone.
-/
module

public import proofs.«01_k».proof.Proof.Start

@[expose] public section

noncomputable section

namespace Cert.Fused

open Cert.KernelIdeal Cert.KernelIdeal.Gen
open Idealize.ShloMosaic
open Idealize.ShloMosaic.TcCoe
open Idealize.ShloMosaic.Pipeline (Dat Cfg Window BodyObligation cellOf)
open Idealize.SL Idealize.SL.Sem

variable {F : FTy → Type} [FloatOps F]

variable (m : (ℓ : Loc nD τ sig) → Buf (Elt F) ℓ) (ρ : Dev nD → PrngReg)

/-! ## Every window's block is its whole array -/

theorem emb_x (i : S4x256x1024.Idx) : (win0_0.blk (0 : Fin 1)).view.emb i = i := by
  funext a; fin_cases a <;> exact Fin.ext (by show 0 + 1 * (i _).val = _; omega)
theorem emb_wq (i : S1024x1024.Idx) : (win0_1.blk (0 : Fin 1)).view.emb i = i := by
  funext a; fin_cases a <;> exact Fin.ext (by show 0 + 1 * (i _).val = _; omega)
theorem emb_wo (i : S1024x1024.Idx) : (win0_2.blk (0 : Fin 1)).view.emb i = i := by
  funext a; fin_cases a <;> exact Fin.ext (by show 0 + 1 * (i _).val = _; omega)
theorem emb_out (i : S1024x1024.Idx) : (win0_3.blk (0 : Fin 1)).view.emb i = i := by
  funext a; fin_cases a <;> exact Fin.ext (by show 0 + 1 * (i _).val = _; omega)

theorem xs_eq (c : Dev nD) : xs m c = m ((c : Thread nD τ).loc main_arg0) := funext fun i => by
  unfold xs; exact congrArg (m ((c : Thread nD τ).loc main_arg0)) (emb_x i)
theorem wqs_eq (c : Dev nD) : wqs m c = m ((c : Thread nD τ).loc main_arg1) := funext fun i => by
  unfold wqs; exact congrArg (m ((c : Thread nD τ).loc main_arg1)) (emb_wq i)
theorem wos_eq (c : Dev nD) : wos m c = m ((c : Thread nD τ).loc main_arg4) := funext fun i => by
  unfold wos; exact congrArg (m ((c : Thread nD τ).loc main_arg4)) (emb_wo i)

theorem final_out (c : Dev nD) : finalA m ρ c (3 : Fin 4) = total m :=
  (dats m ρ 0 c).arrAt_eq_of_cover (3 : Fin 4) (total m)
    (fun t _ => funext fun i => (congrArg (total m) (emb_out i)).symm)
    fun i => ⟨t₀, rfl, by
      have h := (win0_3.blk (0 : Fin 1)).view.emb_mem_set i
      rw [emb_out i] at h
      exact h⟩

/-- Every execution ends with the all-reduced sum in every device's result, the arguments
    unchanged and every counter at zero. -/
theorem run_main : θ_run defs (onTc (τ := τ) (main (F := F))) (s₀ m ρ) (fun r =>
    (∀ c : Dev nD, r.2.mem ((c : Thread nD τ).loc main_v1) = total m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨((h.1 c).1 (3 : Fin 4)).trans (final_out m ρ c), ((h.1 c).1 (0 : Fin 4)).trans (final_x m ρ c), ((h.1 c).1 (1 : Fin 4)).trans (final_wq m ρ c),
      (h.1 c).2.1, (h.1 c).2.2, ((h.1 c).1 (2 : Fin 4)).trans (final_wo m ρ c)⟩, h.2⟩) (run_arrays m ρ)

end Cert.Fused

end
-- ==== Proof.Frames.lean ====
/-
The three programs' frames: the kernel's two from its one run, the reference's from its list of host operations.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.Quiescent
public import Idealize.ShloMosaic.Lib.StableHlo.RunHlo

@[expose] public section

noncomputable section

namespace Cert.Fused

open Idealize.ShloMosaic
open Idealize.ShloMosaic.TcCoe
open Idealize.SL Idealize.SL.Sem

/-- The idealized kernel's frame, from the run at the extended reals. -/
theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- The two programs' tables of kernel bodies are one: the two bodies have one text. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits)
    (Λ := Cert.Kernel.Λ₀)) (funext fun ℓ => funext fun a => ?_)
  match ℓ, a with
  | 0, (_, _) => rfl
  | ⟨_ + 1, h⟩, _ => exact absurd h (Nat.not_lt.2 (Nat.le_add_left _ _))

/-- So the two programs' tables are one. -/
theorem defs_eq : Cert.Kernel.defs (F := Bits) = Cert.KernelIdeal.defs (F := Bits) :=
  congrArg (Pipeline.defs (Cert.Kernel.pcfgs (F := Bits))) defs₀_eq

/-- The kernel's frame, from the same run at bit patterns. -/
theorem frame_kernel : Cert.quiescent_Kernel := fun m ρ _ => by
  rw [defs_eq]
  exact (θ_run (Cert.KernelIdeal.defs (F := Bits)) _ _).mono
    (fun r h => (⟨fun c => (h.1 c).2, h.2⟩ : _ ∧ r.2.sem = fun _ => 0)) (run_main (F := Bits) m ρ)

/-- The reference's frame: it is host operations only, and declares no semaphore. -/
theorem frame_ref : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

end Cert.Fused

end
-- ==== Proof.Heads.lean ====
/-
One head of one batch, written once: what each of the kernel's thirty-two heads computes, and a batch's rows from its eight.
-/
module

public import proofs.«01_k».proof.Proof.Share

@[expose] public section

noncomputable section

namespace Cert.Fused

open Cert.KernelIdeal Cert.KernelIdeal.Gen
open Idealize.ShloMosaic
open Idealize.ShloMosaic.TcCoe
open Idealize.ShloMosaic.ValueIdx

variable {F : FTy → Type} [FloatOps F]

/-- The weights of a head's keys: the exponentials of the scores. -/
def wts (q : FVec F S1024x1024 .f32) (kb : Vec F S1x1x1024x128 .f32) (off : Fin 2 → ℕ) (h : S1024x1024.Slices off S256x128) : FVec F S256x1024 .f32 :=
  exp (matmul dot_S256x128_S1024x128_S256x1024_1_1_0_0_n_n none (truncf .bf16 (extractStridedSlice S256x128 off q h) bitsLt_bf16_f32)
    (truncf .bf16 (shapeCast S1024x128 kb shapeCasts_S1x1x1024x128_S1024x128) bitsLt_bf16_f32) (constant S256x1024 .f32 0x00000000#32))

/-- A head's rows: the weighted values over the sum of the weights. -/
def hd (e : FVec F S256x1024 .f32) (vb : Vec F S1x1x1024x128 .f32) : FVec F S256x128 .bf16 :=
  truncf .bf16 (divf (matmul dot_S256x1024_S1024x128_S256x128_1_0_0_1_n_n none (truncf .bf16 e bitsLt_bf16_f32)
      (truncf .bf16 (shapeCast S1024x128 vb shapeCasts_S1x1x1024x128_S1024x128) bitsLt_bf16_f32) (constant S256x128 .f32 0x00000000#32))
    (broadcastTo S256x128 (shapeCast S256x1 (multiReduction .add [1] S256 e 0x00000000#32 reduces_S256x1024_S256 (.inl rfl) rfl) shapeCasts_S256_S256x1)
      broadcasts_S256x1_S256x128)) bitsLt_bf16_f32

theorem slices_head : ∀ (b : Fin 4) (t : Fin 8), S1024x1024.Slices ![256 * b.val, 128 * t.val] S256x128 := by decide

/-- Which of the device's two key heads query head `t` attends to. -/
def grp (t : Fin 8) : Fin 2 := ⟨t.val / 4, by omega⟩

/-- Head `t` of batch `b`. -/
def hdB (q : FVec F S1024x1024 .f32) (T : Bool → BV F) (b : Fin 4) (t : Fin 8) : FVec F S256x128 .bf16 :=
  hd (wts q (blk (T false) b (grp t)) ![256 * b.val, 128 * t.val] (slices_head b t)) (blk (T true) b (grp t))

/-- A batch's rows: its eight heads side by side, times the device's rows of the last matrix. -/
def rowsB (q : FVec F S1024x1024 .f32) (w : FVec F S1024x1024 .bf16) (T : Bool → BV F) (b : Fin 4) : FVec F S256x1024 .f32 :=
  matmul dot_S256x1024_S1024x1024_S256x1024_1_0_0_1_n_n none
    (concatenate S256x1024 1 [⟨S256x128, hdB q T b 0⟩, ⟨S256x128, hdB q T b 1⟩, ⟨S256x128, hdB q T b 2⟩, ⟨S256x128, hdB q T b 3⟩,
      ⟨S256x128, hdB q T b 4⟩, ⟨S256x128, hdB q T b 5⟩, ⟨S256x128, hdB q T b 6⟩, ⟨S256x128, hdB q T b 7⟩] concatenates_S256x128_S256x128_S256x128_S256x128_S256x128_S256x128_S256x128_S256x128_S256x1024_d1) w
    (constant S256x1024 .f32 0x00000000#32)

/-- Every batch's rows are that: the text of the four differs in the cuts and the names only. -/
theorem outB_eq (q : FVec F S1024x1024 .f32) (w : FVec F S1024x1024 .bf16) (T : Bool → BV F) (b : Fin 4) : outB q w T b = rowsB q w T b := by
  match b with
  | 0 => rfl
  | 1 => rfl
  | 2 => rfl
  | 3 => rfl

end Cert.Fused

end
-- ==== Proof.Total.lean ====
/-
The kernel's result over the extended reals: every entry the sum, over the devices, of their own heads' products.
-/
module

public import proofs.«01_k».proof.Proof.Heads
public import proofs.«01_k».proof.Proof.Run
public import Idealize.ShloMosaic.Lib.Pointwise

@[expose] public section

set_option maxRecDepth 16384

noncomputable section

namespace Cert.Fused

open Cert.KernelIdeal Cert.KernelIdeal.Gen
open Idealize.ShloMosaic
open Idealize.ShloMosaic.TcCoe

/-! ## The sum over the devices -/

/-- The device reached from `c` by the partners of the three steps that `k`'s bits name. -/
def reach (p : Fin 4) (c : Dev nD) (k : Fin 8) : Dev nD :=
  let c2 := if k.val / 4 % 2 = 1 then mate p 2 c else c
  let c1 := if k.val / 2 % 2 = 1 then mate p 1 c2 else c2
  if k.val % 2 = 1 then mate p 0 c1 else c1

theorem reach_bij (p : Fin 4) (c : Dev nD) : Function.Bijective (reach p c) :=
  (Finite.injective_iff_bijective (f := (reach p c : Fin 8 → Fin 8))).mp (by revert p c; decide +kernel)

/-- An entry of a device's operand, as an extended real. -/
def ent (P : Dev nD → CO Ideal) (i : S1024x1024.Idx) (e : Dev nD) : EReal := P e i

theorem acc_sum (P : Dev nD → CO Ideal) (p : Fin 4) (c : Dev nD) (i : S1024x1024.Idx) : acc P p 3 c i = ∑ e : Dev nD, ent P i e := by
  let a (n : ℕ) (e : Dev nD) : EReal := acc P p n e i
  have h1 : ∀ e, a 1 e = ent P i e + ent P i (mate p 0 e) := fun e => by
    have h0 : ∀ e, a 0 e = ent P i e := fun e => congrFun (acc_zero P p e) i
    rw [← h0, ← h0]
    exact acc_succ P p 0 e i
  have h2 : ∀ e, a 2 e = a 1 e + a 1 (mate p 1 e) := fun e => acc_succ P p 1 e i
  have h3 : a 3 c = a 2 c + a 2 (mate p 2 c) := acc_succ P p 2 c i
  show a 3 c = _
  rw [← (reach_bij p c).sum_comp (ent P i), Fin.sum_univ_eight, h3, h2, h2, h1, h1, h1, h1]
  show _ = ent P i c + ent P i (mate p 0 c) + ent P i (mate p 1 c) + ent P i (mate p 0 (mate p 1 c)) + ent P i (mate p 2 c)
    + ent P i (mate p 0 (mate p 2 c)) + ent P i (mate p 1 (mate p 2 c)) + ent P i (mate p 0 (mate p 1 (mate p 2 c)))
  simp only [add_assoc]

theorem fin_sum_devices (P : Dev nD → CO Ideal) (i : S1024x1024.Idx) : fin P i = ∑ e : Dev nD, ent P i e := acc_sum P _ _ i

/-! ## One head at an entry -/

theorem wts_apply (q : FVec Ideal S1024x1024 .f32) (kb : Vec Ideal S1x1x1024x128 .f32) (b : Fin 4) (t : Fin 8) (r : Fin 256) (s : Fin 1024) :
    wts q kb ![256 * b.val, 128 * t.val] (slices_head b t) (ix2 r s)
      = Ideal.exp (∑ d : Fin 128, q (ix2 ⟨256 * b.val + r.val, by omega⟩ ⟨128 * t.val + d.val, by omega⟩) * kb (ix4 0 0 s d)) := by
  pointwise [wts]

theorem hd_apply (e : FVec Ideal S256x1024 .f32) (vb : Vec Ideal S1x1x1024x128 .f32) (r : Fin 256) (d : Fin 128) :
    hd e vb (ix2 r d) = Ideal.div (∑ s : Fin 1024, e (ix2 r s) * vb (ix4 0 0 s d)) (∑ s : Fin 1024, e (ix2 r s)) := by
  pointwise [hd]

theorem qry_apply (x : Vec Ideal S4x256x1024 .f32) (w : Vec Ideal S1024x1024 .f32) (b : Fin 4) (r : Fin 256) (j : Fin 1024) :
    k0_pay1 x w (ix2 ⟨256 * b.val + r.val, by omega⟩ j) = (∑ n : Fin 1024, x (ix3 b r n) * w (ix2 n j)) * Ideal.ofBits .f32 0x3DB504F3#32 := by
  pointwise [k0_pay1]

theorem last_apply (w : Vec Ideal S1024x1024 .f32) (i j : Fin 1024) : k0_pay2 w (ix2 i j) = w (ix2 i j) := by
  pointwise [k0_pay2]

theorem blk_heads (c : Dev nD) (A : AV Ideal) (b : Fin 4) (g : Fin 2) (s : Fin 1024) (d : Fin 128) :
    blk (heads c A) b g (ix4 0 0 s d) = A (ix4 b s ⟨2 * c.val + g.val, head_lt c g⟩ d) := by
  rw [ix4_eq_valueIdx, ix4_eq_valueIdx]; rfl

/-- The score of a query row and a key row, the query scaled first. -/
def score (x : Vec Ideal S4x256x1024 .f32) (w : Fin 1024 → Fin 128 → EReal) (K : AV Ideal) (b : Fin 4) (r : Fin 256) (g : Fin 16) (s : Fin 1024) : EReal :=
  ∑ d : Fin 128, ((∑ n : Fin 1024, x (ix3 b r n) * w n d) * Ideal.ofBits .f32 0x3DB504F3#32) * K (ix4 b s g d)

/-- An entry of a head: the values weighted by the exponentials of the scores, over the sum of the weights. -/
def headAt (x : Vec Ideal S4x256x1024 .f32) (w : Fin 1024 → Fin 128 → EReal) (K V : AV Ideal) (b : Fin 4) (r : Fin 256) (g : Fin 16) (d : Fin 128) : EReal :=
  Ideal.div (∑ s : Fin 1024, Ideal.exp (score x w K b r g s) * V (ix4 b s g d)) (∑ s : Fin 1024, Ideal.exp (score x w K b r g s))

theorem hdB_apply (x : Vec Ideal S4x256x1024 .f32) (w : Vec Ideal S1024x1024 .f32) (kv : Bool → AV Ideal) (c : Dev nD) (b : Fin 4) (t : Fin 8) (r : Fin 256) (d : Fin 128) :
    hdB (k0_pay1 x w) (fun u => heads c (kv u)) b t (ix2 r d)
      = headAt x (fun n e => w (ix2 n ⟨128 * t.val + e.val, by omega⟩)) (kv false) (kv true) b r ⟨2 * c.val + (grp t).val, head_lt c (grp t)⟩ d := by
  have hs : ∀ s : Fin 1024, wts (k0_pay1 x w) (blk (heads c (kv false)) b (grp t)) ![256 * b.val, 128 * t.val] (slices_head b t) (ix2 r s)
      = Ideal.exp (score x (fun n e => w (ix2 n ⟨128 * t.val + e.val, by omega⟩)) (kv false) b r ⟨2 * c.val + (grp t).val, head_lt c (grp t)⟩ s) := fun s => by
    rw [wts_apply]
    unfold score
    exact congrArg Ideal.exp (Finset.sum_congr rfl fun e _ => by rw [qry_apply, blk_heads])
  unfold hdB headAt
  rw [hd_apply]
  simp only [hs, blk_heads]

/-! ## A batch's rows, the share, the result -/

theorem hdB_at (q : FVec Ideal S1024x1024 .f32) (T : Bool → BV Ideal) (b : Fin 4) (r : Fin 256) {t t' : Fin 8} {d d' : Fin 128}
    (ht : t.val = t'.val) (hd : d.val = d'.val) : hdB q T b t (ix2 r d) = hdB q T b t' (ix2 r d') := by
  rw [Fin.ext ht, Fin.ext hd]

theorem rowsB_apply (q : FVec Ideal S1024x1024 .f32) (w : FVec Ideal S1024x1024 .bf16) (T : Bool → BV Ideal) (b : Fin 4) (r : Fin 256) (j : Fin 1024) :
    rowsB q w T b (ix2 r j) = ∑ k : Fin 1024, hdB q T b ⟨k.val / 128, by omega⟩ (ix2 r ⟨k.val % 128, by omega⟩) * w (ix2 k j) := by
  pointwise [rowsB]
  refine Finset.sum_congr rfl fun k _ => congrArg (· * w (ix2 k j)) ?_
  split_ifs <;> exact hdB_at q T b r (by simp; omega) (by simp; omega)

theorem share_apply (x : Vec Ideal S4x256x1024 .f32) (w wo : Vec Ideal S1024x1024 .f32) (kv : Bool → AV Ideal) (c : Dev nD) (i j : Fin 1024) :
    share (k0_pay1 x w) (k0_pay2 wo) (fun u => heads c (kv u)) (ix2 i j)
      = ∑ k : Fin 1024, headAt x (fun n e => w (ix2 n ⟨128 * (k.val / 128) + e.val, by omega⟩)) (kv false) (kv true) ⟨i.val / 256, by omega⟩ ⟨i.val % 256, by omega⟩
          ⟨2 * c.val + k.val / 128 / 4, head_lt c ⟨k.val / 128 / 4, by omega⟩⟩ ⟨k.val % 128, by omega⟩ * wo (ix2 k j) := by
  unfold share
  rw [outB_eq, ← ix2_eq_valueIdx]
  refine (rowsB_apply _ _ _ _ _ _).trans (Finset.sum_congr rfl fun k _ => ?_)
  rw [hdB_apply, last_apply]
  rfl

end Cert.Fused

end
-- ==== Proof.Softmax.lean ====
/-
The mathematics of one head over the extended reals: of finite scores, the weights taken relative to any finite shift give
the quotient of the weights taken as they are, whatever the values are; and finite operands have finite scores.
-/
module

public import Idealize.ShloMosaic.Lib.Pointwise

@[expose] public section

noncomputable section

namespace Cert.Fused

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- A finite nonnegative factor moves into a sum of any terms. -/
theorem mul_sum_coe {ι : Type} (s : Finset ι) {c : ℝ} (hc : 0 ≤ c) (f : ι → EReal) : (c : EReal) * (∑ i ∈ s, f i) = ∑ i ∈ s, (c : EReal) * f i := by
  classical
  induction s using Finset.induction_on with
  | empty => rw [Finset.sum_empty, Finset.sum_empty, mul_zero]
  | insert a s ha ih =>
    rw [Finset.sum_insert ha, Finset.sum_insert ha,
      EReal.left_distrib_of_nonneg_of_ne_top (EReal.coe_nonneg.mpr hc) (EReal.coe_ne_top c), ih]

theorem exp_coe (r : ℝ) : Ideal.exp (r : EReal) = (Real.exp r : EReal) := rfl

/-- Shifted weights over their sum, with what is scaled to nothing beside, are the weights over theirs. -/
theorem weights_shift {n : ℕ} [NeZero n] (S : Fin n → ℝ) (V : Fin n → EReal) (a a' : EReal) (r : ℝ) :
    Ideal.div (0 * a + ∑ s, V s * Ideal.exp ((S s : EReal) - (r : EReal))) (0 * a' + ∑ s, Ideal.exp ((S s : EReal) - (r : EReal)))
      = Ideal.div (∑ s, Ideal.exp (S s : EReal) * V s) (∑ s, Ideal.exp (S s : EReal)) := by
  have hc : 0 < Real.exp (-r) := Real.exp_pos _
  have hL : 0 < ∑ s, Real.exp (S s) := Finset.sum_pos (fun s _ => Real.exp_pos _) ⟨⟨0, Nat.pos_of_ne_zero (NeZero.ne n)⟩, Finset.mem_univ _⟩
  have he : ∀ s, Ideal.exp ((S s : EReal) - (r : EReal)) = ((Real.exp (-r) * Real.exp (S s) : ℝ) : EReal) := fun s => by
    rw [← EReal.coe_sub, exp_coe, ← Real.exp_add]; congr 2; ring
  have hn : ∑ s, V s * Ideal.exp ((S s : EReal) - (r : EReal)) = (Real.exp (-r) : EReal) * ∑ s, Ideal.exp (S s : EReal) * V s := by
    rw [mul_sum_coe _ hc.le]
    refine Finset.sum_congr rfl fun s _ => ?_
    rw [he, exp_coe, EReal.coe_mul, mul_comm, mul_assoc]
  have hd : ∑ s, Ideal.exp ((S s : EReal) - (r : EReal)) = ((Real.exp (-r) * ∑ s, Real.exp (S s) : ℝ) : EReal) := by
    rw [Finset.mul_sum, coe_sum]
    exact Finset.sum_congr rfl fun s _ => he s
  have hd' : ∑ s, Ideal.exp (S s : EReal) = ((∑ s, Real.exp (S s) : ℝ) : EReal) := by
    rw [coe_sum]; exact Finset.sum_congr rfl fun s _ => exp_coe _
  rw [zero_mul, zero_mul, zero_add, zero_add, hn, hd, hd']
  unfold Ideal.div
  rw [if_neg (by rw [EReal.coe_eq_zero]; exact (mul_pos hc hL).ne'), if_neg (by rw [EReal.coe_eq_zero]; exact hL.ne'),
    ← EReal.coe_inv, ← EReal.coe_inv, mul_comm (Real.exp (-r) : EReal), mul_assoc, ← EReal.coe_mul]
  congr 2
  rw [mul_inv, ← mul_assoc, mul_inv_cancel₀ hc.ne', one_mul]

/-- A value that is neither infinity. -/
def Fin' (a : EReal) : Prop := ∃ r : ℝ, a = r

theorem fin_mul {a b : EReal} (ha : Fin' a) (hb : Fin' b) : Fin' (a * b) := by
  obtain ⟨r, rfl⟩ := ha; obtain ⟨s, rfl⟩ := hb; exact ⟨r * s, (EReal.coe_mul r s).symm⟩

theorem fin_sum {ι : Type} [Fintype ι] {f : ι → EReal} (h : ∀ i, Fin' (f i)) : Fin' (∑ i, f i) := by
  choose g hg using h
  exact ⟨∑ i, g i, by rw [coe_sum]; exact Finset.sum_congr rfl fun i _ => hg i⟩

/-- A finite factor moves into a sum of finite terms, and between the two factors of each. -/
theorem scaled_sum {n : ℕ} {q k : Fin n → EReal} {c : EReal} (hc : Fin' c) (hq : ∀ d, Fin' (q d)) (hk : ∀ d, Fin' (k d)) :
    (∑ d, q d * k d) * c = ∑ d, (q d * c) * k d := by
  obtain ⟨c, rfl⟩ := hc
  choose q' hq using hq
  choose k' hk using hk
  have e1 : ∑ d, q d * k d = ((∑ d, q' d * k' d : ℝ) : EReal) := by
    rw [coe_sum]; exact Finset.sum_congr rfl fun d _ => by rw [hq, hk, EReal.coe_mul]
  have e2 : ∑ d, (q d * (c : EReal)) * k d = ((∑ d, (q' d * c) * k' d : ℝ) : EReal) := by
    rw [coe_sum]; exact Finset.sum_congr rfl fun d _ => by rw [hq, hk, EReal.coe_mul, EReal.coe_mul]
  rw [e1, e2, ← EReal.coe_mul, Finset.sum_mul]
  congr 1
  exact Finset.sum_congr rfl fun d _ => by ring

theorem fin_max {a b : EReal} (ha : Fin' a) (hb : Fin' b) : Fin' (max a b) := by
  rcases max_choice a b with h | h <;> rw [h] <;> assumption

/-- The greatest of finitely many finite values, at least one of them, is finite. -/
theorem fin_fold {n : ℕ} [NeZero n] {f : Fin n → EReal} (h : ∀ i, Fin' (f i)) : Fin' (Finset.fold max ⊥ f Finset.univ) := by
  have key : ∀ s : Finset (Fin n), Finset.fold max ⊥ f s = ⊥ ∧ s = ∅ ∨ Fin' (Finset.fold max ⊥ f s) := fun s => by
    induction s using Finset.induction_on with
    | empty => exact .inl ⟨Finset.fold_empty, rfl⟩
    | insert a s ha ih =>
      rw [Finset.fold_insert ha]
      rcases ih with ⟨e, -⟩ | ih
      · exact .inr (by rw [e, max_eq_left bot_le]; exact h a)
      · exact .inr (fin_max (h a) ih)
  rcases key Finset.univ with ⟨-, e⟩ | h
  · exact absurd e (Finset.univ_nonempty_iff.mpr ⟨⟨0, Nat.pos_of_ne_zero (NeZero.ne n)⟩⟩).ne_empty
  · exact h

/-- The scale is a finite number. -/
theorem fin_scale : Fin' (Ideal.ofBits .f32 0x3DB504F3#32) := by
  show Fin' (Ideal.ieee 8 23 (0x3DB504F3#32))
  unfold Ideal.ieee
  dsimp only
  rw [if_neg (by decide), if_neg (by decide)]
  exact ⟨_, rfl⟩

/-- The pattern of minus infinity. -/
theorem bits_bot : Ideal.ofBits .f32 0xFF800000#32 = ⊥ := by
  show Ideal.ieee 8 23 (0xFF800000#32) = ⊥
  unfold Ideal.ieee
  dsimp only
  rw [if_pos (by decide), if_pos (by decide), if_pos (by decide)]

/-- The pattern of plus infinity. -/
theorem bits_top : Ideal.ofBits .f32 0x7F800000#32 = ⊤ := by
  show Ideal.ieee 8 23 (0x7F800000#32) = ⊤
  unfold Ideal.ieee
  dsimp only
  rw [if_pos (by decide), if_pos (by decide), if_neg (by decide)]

/-- Below plus infinity in magnitude is neither infinity. -/
theorem fin_of_abs {a : EReal} (h : max a (-a) < ⊤) : Fin' a := by
  induction a using EReal.rec with
  | bot => exact absurd h (by rw [EReal.neg_bot, max_eq_right bot_le]; exact lt_irrefl _)
  | coe r => exact ⟨r, rfl⟩
  | top => exact absurd h (by rw [max_eq_left le_top]; exact lt_irrefl _)

end Cert.Fused

end
-- ==== Proof.RefVal.lean ====
/-
The reference over the extended reals, read at indices: scores, shift, weights, heads and the result; and, of finite inputs, every head
as the quotient of the weights taken without the shift.
-/
module

public import proofs.«01_k».proof.Proof.Total
public import proofs.«01_k».proof.Proof.Softmax
public import proofs.«01_k».proof.Proof.Gen.ReferenceIdeal.Read

@[expose] public section

set_option maxRecDepth 16384

noncomputable section

namespace Cert.Fused

open Cert.ReferenceIdeal Cert.ReferenceIdeal.Gen Cert.ReferenceIdeal.Read
open Idealize.ShloMosaic
open Idealize.ShloMosaic.TcCoe

variable (x : Vec Ideal S4x256x1024 .f32) (wq : Vec Ideal S1024x8192 .f32) (k v : Vec Ideal S4x1024x16x128 .f32) (wo : Vec Ideal S8192x1024 .f32)

/-- The scores, scaled after the product. -/
theorem ref_scores (b : Fin 4) (h : Fin 64) (r : Fin 256) (s : Fin 1024) : val_main_v11 (F := Ideal) x wq k (ix4 b h r s)
    = (∑ d : Fin 128, (∑ n : Fin 1024, x (ix3 b r n) * wq (ix2 n ⟨h.val * 128 + d.val, by omega⟩)) * k (ix4 b s ⟨h.val / 4, by omega⟩ d)) * Ideal.ofBits .f32 0x3DB504F3#32 := by
  pointwise [val_main_v11, val_main_v10, val_main_v9, val_main_v3, val_main_v2, val_main_v1, val_main_v0, val_main_cst_2]

/-- The greatest score of a row. -/
theorem ref_max (b : Fin 4) (h : Fin 64) (r : Fin 256) : val_main_v12 (F := Ideal) x wq k (ix3 b h r)
    = Finset.fold max (Ideal.ofBits .f32 0xFF800000#32) (fun s => val_main_v11 x wq k (ix4 b h r s)) Finset.univ := by
  pointwise [val_main_v12, val_main_cst_3]

/-- The shift: the greatest score, or the least value there is. -/
theorem ref_shift (b : Fin 4) (h : Fin 64) (r : Fin 256) (z : Fin 1) : val_main_v14 (F := Ideal) x wq k (ix4 b h r z)
    = max (Ideal.ofBits FTy.f32 0xFF800000#32) (val_main_v12 x wq k (ix3 b h r)) := by
  have e : idx_main_v13 (ix4 b h r z) = ix3 b h r := funext fun a => match a with
    | ⟨0, _⟩ => rfl
    | ⟨1, _⟩ => rfl
    | ⟨2, _⟩ => rfl
  rw [val_main_v14_apply, val_main_v13_apply, val_main_v7_apply, val_main_cst_0_apply, e]
  rfl

/-- The weights: exponentials of the shifted scores. -/
theorem ref_weights (b : Fin 4) (h : Fin 64) (r : Fin 256) (s : Fin 1024) : val_main_v19 (F := Ideal) x wq k (ix4 b h r s)
    = Ideal.exp (val_main_v11 x wq k (ix4 b h r s) - val_main_v14 x wq k (ix4 b h r 0)) := by
  pointwise [val_main_v19, val_main_v18, val_main_v17]

/-- The sum of a row's weights, on top of a start at nothing. -/
theorem ref_den (b : Fin 4) (h : Fin 64) (r : Fin 256) (z : Fin 1) : val_main_v23 (F := Ideal) x wq k (ix4 b h r z)
    = 0 * val_main_v16 x wq k (ix4 b h r z) + ∑ s : Fin 1024, val_main_v19 x wq k (ix4 b h r s) := by
  pointwise [val_main_v23, val_main_v22, val_main_v21, val_main_v20, val_main_v8, val_main_cst_1, val_main_cst_4]

/-- The values, weighted. -/
theorem ref_num (b : Fin 4) (r : Fin 256) (h : Fin 64) (d : Fin 128) : val_main_v28 (F := Ideal) x wq k v (ix4 b r h d)
    = ∑ s : Fin 1024, v (ix4 b s ⟨h.val / 4, by omega⟩ d) * val_main_v19 x wq k (ix4 b h r s) := by
  pointwise [val_main_v28, val_main_v27, val_main_v5, val_main_v4]

/-- The start of the weighted values: nothing, scaled. -/
theorem ref_start (b : Fin 4) (r : Fin 256) (h : Fin 64) (d : Fin 128) : val_main_v26 (F := Ideal) x wq k (ix4 b r h d)
    = 0 * val_main_v16 x wq k (ix4 b h r 0) := by
  pointwise [val_main_v26, val_main_v25, val_main_v24, val_main_v6, val_main_cst]

/-- An entry of a head. -/
theorem ref_head (b : Fin 4) (r : Fin 256) (h : Fin 64) (d : Fin 128) : val_main_v32 (F := Ideal) x wq k v (ix4 b r h d)
    = Ideal.div (val_main_v26 x wq k (ix4 b r h d) + val_main_v28 x wq k v (ix4 b r h d)) (val_main_v23 x wq k (ix4 b h r 0)) := by
  pointwise [val_main_v32, val_main_v31, val_main_v30, val_main_v29]

/-- An entry of the result. -/
theorem ref_out (i : Fin 1024) (j : Fin 1024) : val_main_v35 (F := Ideal) x wq k v wo (ix2 i j)
    = ∑ n : Fin 8192, val_main_v32 x wq k v (ix4 ⟨i.val / 256, by omega⟩ ⟨i.val % 256, by omega⟩ ⟨n.val / 128, by omega⟩ ⟨n.val % 128, by omega⟩) * wo (ix2 n j) := by
  pointwise [val_main_v35, val_main_v34, val_main_v33]

/-! ## Of finite inputs -/

/-- Of finite inputs a head of the reference is the quotient of the weights taken without the shift. -/
theorem ref_headAt (hx : ∀ b r n, Fin' (x (ix3 b r n))) (hw : ∀ n j, Fin' (wq (ix2 n j))) (hk : ∀ b s g d, Fin' (k (ix4 b s g d)))
    (b : Fin 4) (r : Fin 256) (h : Fin 64) (d : Fin 128) : val_main_v32 (F := Ideal) x wq k v (ix4 b r h d)
      = headAt x (fun n e => wq (ix2 n ⟨h.val * 128 + e.val, by omega⟩)) k v b r ⟨h.val / 4, by omega⟩ d := by
  have hq : ∀ e : Fin 128, Fin' (∑ n : Fin 1024, x (ix3 b r n) * wq (ix2 n ⟨h.val * 128 + e.val, by omega⟩)) := fun e =>
    fin_sum fun n => fin_mul (hx _ _ _) (hw _ _)
  have hs : ∀ s : Fin 1024, val_main_v11 (F := Ideal) x wq k (ix4 b h r s)
      = score x (fun n e => wq (ix2 n ⟨h.val * 128 + e.val, by omega⟩)) k b r ⟨h.val / 4, by omega⟩ s := fun s => by
    rw [ref_scores]
    exact scaled_sum fin_scale hq fun e => hk _ _ _ _
  have hf : ∀ s : Fin 1024, Fin' (score x (fun n e => wq (ix2 n ⟨h.val * 128 + e.val, by omega⟩)) k b r ⟨h.val / 4, by omega⟩ s) := fun s =>
    fin_sum fun e => fin_mul (fin_mul (hq e) fin_scale) (hk _ _ _ _)
  have hm : Fin' (val_main_v14 (F := Ideal) x wq k (ix4 b h r 0)) := by
    rw [ref_shift, ref_max, bits_bot, max_eq_right bot_le]
    simp only [hs]
    exact fin_fold hf
  obtain ⟨M, hM⟩ := hm
  choose S hS using hf
  rw [ref_head, ref_start, ref_num, ref_den]
  unfold headAt
  simp only [ref_weights, hs, hM, hS]
  exact weights_shift S _ _ _ M

end Cert.Fused

end
-- ==== Proof.Finite.lean ====
/-
What the precondition says: every element of the activations, of the query weights' block and of the keys is finite.
-/
module

public import proofs.«01_k».proof.Defs
public import proofs.«01_k».proof.Proof.Softmax
public import Idealize.ShloMosaic.Lib.Pointwise

@[expose] public section

set_option maxRecDepth 16384

noncomputable section

namespace Cert.Fused

open Idealize.ShloMosaic

instance pre_kernel : Cert.Pre_finite_KernelIdeal.Facts where
  bcast_S_S4x256x1024 := by decide
  reducesTo_S4x256x1024_S_d0_1_2 := by decide
  h_S_ := by decide
  bcast_S_S1024x1024 := by decide
  reducesTo_S1024x1024_S_d0_1 := by decide
  bcast_S_S4x1024x16x128 := by decide
  reducesTo_S4x1024x16x128_S_d0_1_2_3 := by decide

instance pre_ref : Cert.Pre_finite_ReferenceIdeal.Facts where
  bcast_S_S4x256x1024 := by decide
  reducesTo_S4x256x1024_S_d0_1_2 := by decide
  h_S_ := by decide
  bcast_S_S1024x8192 := by decide
  reducesTo_S1024x8192_S_d0_1 := by decide
  bcast_S_S4x1024x16x128 := by decide
  reducesTo_S4x1024x16x128_S_d0_1_2_3 := by decide

theorem andi_one : ∀ a b : BitVec 1, IntOp.andi a b = 1#1 → a = 1#1 ∧ b = 1#1 := by decide

/-- A conjunction of bits that holds holds of each of them, and of its start. -/
theorem foldl_andi {ι : Type} (x : ι → BitVec 1) (l : List ι) (r : BitVec 1) (h : l.foldl (fun r i => IntOp.andi r (x i)) r = 1#1) :
    r = 1#1 ∧ ∀ i ∈ l, x i = 1#1 := by
  induction l generalizing r with
  | nil => exact ⟨h, fun _ hi => absurd hi List.not_mem_nil⟩
  | cons a l ih =>
    obtain ⟨h1, h2⟩ := ih _ h
    obtain ⟨h3, h4⟩ := andi_one _ _ h1
    exact ⟨h3, fun i hi => (List.mem_cons.mp hi).elim (fun e => e ▸ h4) (h2 i)⟩

/-- An array whose magnitudes are all below plus infinity has finite elements. -/
theorem fin_of_reduce {s : Shape} {axes : List (Fin s.rank)} (a : FVec Ideal s .f32) (hb : (⟨0, ![]⟩ : Shape).BroadcastsInDim s (![] : Fin 0 → Fin s.rank))
    (hr : s.ReducesTo axes ⟨0, ![]⟩) (h0 : 0 < (⟨0, ![]⟩ : Shape).numel) (j : (⟨0, ![]⟩ : Shape).Idx)
    (h : Host.reduce IntOp.andi (cmpf .olt (Host.absf a) (broadcastInDim s ![] hb (constant (F := Ideal) ⟨0, ![]⟩ .f32 0x7F800000#32))) (constantI ⟨0, ![]⟩ 1 1#1) hr h0 j = 1#1)
    (i : s.Idx) : Fin' (a i) := by
  rw [Host.reduce_eq_foldl] at h
  have h1 := (foldl_andi _ _ _ h).2 i (List.mem_filter.mpr ⟨List.mem_map.mpr ⟨s.rowMajor i, List.mem_finRange _, Equiv.symm_apply_apply _ _⟩,
    decide_eq_true (funext fun x : Fin 0 => x.elim0)⟩)
  refine fin_of_abs ?_
  have h2 : max (a i : EReal) (-(a i : EReal)) < Ideal.ofBits .f32 0x7F800000#32 := by
    by_contra hn
    have h3 : BitVec.ofBool (decide (max (a i : EReal) (-(a i : EReal)) < Ideal.ofBits .f32 0x7F800000#32)) = 1#1 := h1
    rw [decide_eq_false hn] at h3
    exact absurd h3 (by decide)
  rwa [bits_top] at h2

open Cert.Pre_finite_KernelIdeal.Facts in
/-- Of arrays the precondition holds of: the first three are finite. -/
theorem fin_of_pre (x : FVec Ideal ⟨3, ![4, 256, 1024]⟩ .f32) (w : FVec Ideal ⟨2, ![1024, 1024]⟩ .f32) (k v : FVec Ideal ⟨4, ![4, 1024, 16, 128]⟩ .f32)
    (o : FVec Ideal ⟨2, ![1024, 1024]⟩ .f32) (h : Cert.Pre_finite_KernelIdeal.fn (F := Ideal) x w k v o = fun _ => 1#1) :
    (∀ i, Fin' (x i)) ∧ (∀ i, Fin' (w i)) ∧ (∀ i, Fin' (k i)) := by
  let h0 : (⟨0, ![]⟩ : Shape).Idx := fun a : Fin 0 => a.elim0
  have h' := congrFun h h0
  obtain ⟨h12, h3⟩ := andi_one _ _ h'
  obtain ⟨h1, h2⟩ := andi_one _ _ h12
  exact ⟨fin_of_reduce x bcast_S_S4x256x1024 reducesTo_S4x256x1024_S_d0_1_2 h_S_ h0 h1,
    fin_of_reduce w bcast_S_S1024x1024 reducesTo_S1024x1024_S_d0_1 h_S_ h0 h2,
    fin_of_reduce k bcast_S_S4x1024x16x128 reducesTo_S4x1024x16x128_S_d0_1_2_3 h_S_ h0 h3⟩

end Cert.Fused

end
-- ==== Proof.Final.lean ====
/-
The value claim: what the kernel leaves on every device is what the reference leaves, entry for entry.
-/
module

public import proofs.«01_k».proof.Proof.RefVal
public import proofs.«01_k».proof.Proof.Finite
public import proofs.«01_k».proof.Proof.Gen.ReferenceIdeal.Run

@[expose] public section

set_option maxRecDepth 16384

noncomputable section

namespace Cert.Fused

open Idealize.ShloMosaic
open Idealize.ShloMosaic.TcCoe

theorem headAt_congr {x : Vec Ideal KernelIdeal.S4x256x1024 .f32} {w w' : Fin 1024 → Fin 128 → EReal} {K V : AV Ideal} {b : Fin 4} {r : Fin 256}
    {g g' : Fin 16} {d d' : Fin 128} (hw : w = w') (hg : g.val = g'.val) (hd : d.val = d'.val) : headAt x w K V b r g d = headAt x w' K V b r g' d' := by
  rw [hw, Fin.ext hg, Fin.ext hd]

/-- A block of the query weights: the columns of the device's own heads. -/
theorem wq_block (c : Fin 8) (W : Vec Ideal ReferenceIdeal.S1024x8192 .f32) (n j : Fin 1024) :
    (Layout.block ⟨2, ![1024, 1024]⟩ ⟨2, ![1024, 8192]⟩ 1 8 c W : Vec Ideal KernelIdeal.S1024x1024 .f32) (ix2 n j) = W (ix2 n ⟨c.val * 1024 + j.val, by omega⟩) :=
  congrArg W (funext fun a => match a with
    | ⟨0, _⟩ => Fin.ext rfl
    | ⟨1, _⟩ => Fin.ext rfl)

/-- A block of the last weights: the rows of the device's own heads. -/
theorem wo_block (c : Fin 8) (W : Vec Ideal ReferenceIdeal.S8192x1024 .f32) (k j : Fin 1024) :
    (Layout.block ⟨2, ![1024, 1024]⟩ ⟨2, ![8192, 1024]⟩ 0 8 c W : Vec Ideal KernelIdeal.S1024x1024 .f32) (ix2 k j) = W (ix2 ⟨c.val * 1024 + k.val, by omega⟩ j) :=
  congrArg W (funext fun a => match a with
    | ⟨0, _⟩ => Fin.ext rfl
    | ⟨1, _⟩ => Fin.ext rfl)

/-- A sum over the reference's columns, device by device. -/
theorem sum_devices (f : Fin 8192 → EReal) : ∑ n, f n = ∑ c : Fin 8, ∑ t : Fin 1024, f ⟨c.val * 1024 + t.val, by omega⟩ :=
  Fin.sum_univ_tiles 8 1024 rfl f

section
variable (x : Vec Ideal KernelIdeal.S4x256x1024 .f32) (wq : Vec Ideal ReferenceIdeal.S1024x8192 .f32) (k v : AV Ideal) (wo : Vec Ideal ReferenceIdeal.S8192x1024 .f32)

/-- The two values agree, of finite inputs: the reference's sum over all heads' columns is the devices' sums over their own. -/
theorem values (hx : ∀ i, Fin' (x i)) (hw : ∀ i, Fin' (wq i)) (hk : ∀ i, Fin' (k i)) (P : Dev KernelIdeal.nD → CO Ideal)
    (hP : ∀ c : Dev KernelIdeal.nD, P c = share (KernelIdeal.Gen.k0_pay1 x (Layout.block ⟨2, ![1024, 1024]⟩ ⟨2, ![1024, 8192]⟩ 1 8 c wq))
      (KernelIdeal.Gen.k0_pay2 (Layout.block ⟨2, ![1024, 1024]⟩ ⟨2, ![8192, 1024]⟩ 0 8 c wo))
      (fun u => heads c (match u with | false => k | true => v))) (i j : Fin 1024) :
    fin P (ix2 i j) = ReferenceIdeal.Read.val_main_v35 (F := Ideal) x wq k v wo (ix2 i j) := by
  have ho : @Eq EReal _ _ := (ref_out x wq k v wo i j).trans (sum_devices _)
  refine (fin_sum_devices P _).trans (Eq.trans (α := EReal) ?_ ho.symm)
  refine Finset.sum_congr rfl fun c _ => ?_
  unfold ent
  rw [hP c, share_apply]
  refine Finset.sum_congr rfl fun t _ => ?_
  rw [ref_headAt x wq k v (fun _ _ _ => hx _) (fun _ _ => hw _) (fun _ _ _ _ => hk _), wo_block]
  refine congrArg (· * _) (headAt_congr (funext fun n => funext fun e => ?_) ?_ ?_)
  · rw [wq_block]
    exact congrArg (fun z => wq (ix2 n z)) (Fin.ext (by dsimp only; omega))
  · dsimp only; omega
  · dsimp only; omega
end

/-- The index of an entry, from its row and column. -/
theorem ix2_eta (i : KernelIdeal.S1024x1024.Idx) : i = ix2 (i 0) (i 1) := funext fun a => match a with
  | ⟨0, _⟩ => rfl
  | ⟨1, _⟩ => rfl

section
variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The reference's inputs. -/
abbrev rx : Vec Ideal KernelIdeal.S4x256x1024 .f32 := m' (((0 : Dev ReferenceIdeal.nD) : Thread ReferenceIdeal.nD ReferenceIdeal.τ).loc ReferenceIdeal.main_arg0)
abbrev rwq : Vec Ideal ReferenceIdeal.S1024x8192 .f32 := m' (((0 : Dev ReferenceIdeal.nD) : Thread ReferenceIdeal.nD ReferenceIdeal.τ).loc ReferenceIdeal.main_arg1)
abbrev rk : AV Ideal := m' (((0 : Dev ReferenceIdeal.nD) : Thread ReferenceIdeal.nD ReferenceIdeal.τ).loc ReferenceIdeal.main_arg2)
abbrev rv : AV Ideal := m' (((0 : Dev ReferenceIdeal.nD) : Thread ReferenceIdeal.nD ReferenceIdeal.τ).loc ReferenceIdeal.main_arg3)
abbrev rwo : Vec Ideal ReferenceIdeal.S8192x1024 .f32 := m' (((0 : Dev ReferenceIdeal.nD) : Thread ReferenceIdeal.nD ReferenceIdeal.τ).loc ReferenceIdeal.main_arg4)

/-- The devices' inputs are the reference's: the whole array, or the device's block of it. -/
abbrev Shared : Prop := ∀ c : Dev KernelIdeal.nD,
  m ((c : Thread KernelIdeal.nD KernelIdeal.τ).loc KernelIdeal.main_arg0) = rx m'
  ∧ m ((c : Thread KernelIdeal.nD KernelIdeal.τ).loc KernelIdeal.main_arg1) = Layout.block ⟨2, ![1024, 1024]⟩ ⟨2, ![1024, 8192]⟩ 1 8 c (rwq m')
  ∧ m ((c : Thread KernelIdeal.nD KernelIdeal.τ).loc KernelIdeal.main_arg2) = rk m'
  ∧ m ((c : Thread KernelIdeal.nD KernelIdeal.τ).loc KernelIdeal.main_arg3) = rv m'
  ∧ m ((c : Thread KernelIdeal.nD KernelIdeal.τ).loc KernelIdeal.main_arg4) = Layout.block ⟨2, ![1024, 1024]⟩ ⟨2, ![8192, 1024]⟩ 0 8 c (rwo m')

variable {m m'} in
/-- The reference's first three inputs are finite: every device says so of its own blocks, and the blocks cover the query weights. -/
theorem inputs_fin (hpre : Pre_KernelIdeal_finite_KernelIdeal m) (hin : Shared m m') : (∀ i, Fin' (rx m' i)) ∧ (∀ i, Fin' (rwq m' i)) ∧ (∀ i, Fin' (rk m' i)) := by
  have hp := fun c => fin_of_pre _ _ _ _ _ (hpre c)
  refine ⟨fun i => ?_, fun i => ?_, fun i => ?_⟩
  · have h := (hp 0).1 i; rw [(hin 0).1] at h; exact h
  · have hj : (i 1).val < 8192 := (i 1).isLt
    let c : Fin 8 := ⟨(i 1).val / 1024, by omega⟩
    have h := (hp c).2.1 (ix2 (i 0) ⟨(i 1).val % 1024, by omega⟩)
    rw [(hin c).2.1] at h
    have e : i = ix2 (i 0) ⟨c.val * 1024 + (i 1).val % 1024, by dsimp only [c]; omega⟩ := funext fun a => match a with
      | ⟨0, _⟩ => rfl
      | ⟨1, _⟩ => Fin.ext (by show (i 1).val = (i 1).val / 1024 * 1024 + (i 1).val % 1024; omega)
    rw [e]
    exact (wq_block c (rwq m') (i 0) ⟨(i 1).val % 1024, by omega⟩) ▸ h
  · have h := (hp 0).2.2 i; rw [(hin 0).2.2.1] at h; exact h

variable {m m'} in
theorem part_shared (hin : Shared m m') (c : Dev KernelIdeal.nD) :
    part m c = share (KernelIdeal.Gen.k0_pay1 (rx m') (Layout.block ⟨2, ![1024, 1024]⟩ ⟨2, ![1024, 8192]⟩ 1 8 c (rwq m')))
      (KernelIdeal.Gen.k0_pay2 (Layout.block ⟨2, ![1024, 1024]⟩ ⟨2, ![8192, 1024]⟩ 0 8 c (rwo m')))
      (fun u => heads c (match u with | false => rk m' | true => rv m')) := by
  obtain ⟨h0, h1, h2, h3, h4⟩ := hin c
  have hkv : (fun w => heads c (kvs m c w)) = fun u => heads c (match u with | false => rk m' | true => rv m') := funext fun u => match u with
    | false => congrArg (heads c) h2
    | true => congrArg (heads c) h3
  rw [part_eq, xs_eq, wqs_eq, wos_eq, h0, h1, h4, hkv]

/-- What the kernel leaves is what the reference leaves. -/
theorem total_eq (hpre : Pre_KernelIdeal_finite_KernelIdeal m) (hin : Shared m m') : total m = Cert.ReferenceIdeal.Value.res_main_v35 m' 0 := by
  obtain ⟨hx, hw, hk⟩ := inputs_fin hpre hin
  rw [ReferenceIdeal.Read.val_main_v35_eq]
  refine funext fun i => ?_
  rw [ix2_eta i]
  exact values (rx m') (rwq m') (rk m') (rv m') (rwo m') hx hw hk (part m) (part_shared hin) (i 0) (i 1)
end

theorem algebraic : Cert.algebraic_KernelIdeal_ReferenceIdeal_pre_finite_KernelIdeal
    (hKernelIdeal := Cert.KernelIdeal.Gen.facts) (hReferenceIdeal := Cert.ReferenceIdeal.Gen.facts) (hPre_finite_KernelIdeal := pre_kernel) := by
  intro m g m' g' hpre hin
  refine ⟨Cert.ReferenceIdeal.Value.res_main_v35 m' 0, ?_, ?_⟩
  · refine (θ_run (Cert.KernelIdeal.defs (F := Ideal)) _ _).mono (fun r hr c => ?_) (run_main m g)
    obtain ⟨h, a⟩ := hr.1 c
    exact ⟨h.trans (total_eq m m' hpre hin), a⟩
  · refine (θ_run (Cert.ReferenceIdeal.defs (F := Ideal)) _ _).mono (fun r hr => ?_) (Cert.ReferenceIdeal.Value.run m' g')
    exact hr 0

end Cert.Fused

end
-- ==== Proof.lean ====
/-
The claim: the three programs' frames, with and without the precondition, the preserved kernel, and the equal results.
-/
module

public import proofs.«01_k».proof.Defs
public import proofs.«01_k».proof.Proof.Frames
public import proofs.«01_k».proof.Proof.Final

@[expose] public section

noncomputable section

namespace Cert.Proof

open Idealize.ShloMosaic Cert.Fused

theorem claim : Cert.Claim :=
  ⟨Cert.Kernel.Gen.facts, Cert.KernelIdeal.Gen.facts, Cert.ReferenceIdeal.Gen.facts, pre_kernel, pre_ref,
    frame_kernel, frame_ideal, fun m ρ _ => frame_ideal m ρ trivial, frame_ref, fun m ρ _ => frame_ref m ρ trivial, trivial, algebraic⟩

end Cert.Proof

end
